-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  True

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v120) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_1)) (v2 : (c : Dev Cert.Kernel6Ideal.nD) → Buf (Elt Ideal) ((c.tc : Thread Cert.Kernel6Ideal.nD Cert.Kernel6Ideal.τ).loc Cert.Kernel6Ideal.main_v33_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_v33_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v127) = v0 c
          ∧ r.2.mem ((c.tc : Thread Cert.Reference6Ideal.nD Cert.Reference6Ideal.τ).loc Cert.Reference6Ideal.main_v128) = v1 c
          ∧ r.2.mem ((c.tc : Thread Cert.Reference6Ideal.nD Cert.Reference6Ideal.τ).loc Cert.Reference6Ideal.main_v135) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v33_0)) (v1 : (c : Dev Cert.Kernel7Ideal.nD) → Buf (Elt Ideal) ((c.tc : Thread Cert.Kernel7Ideal.nD Cert.Kernel7Ideal.τ).loc Cert.Kernel7Ideal.main_v33_1)) (v2 : (c : Dev Cert.Kernel7Ideal.nD) → Buf (Elt Ideal) ((c.tc : Thread Cert.Kernel7Ideal.nD Cert.Kernel7Ideal.τ).loc Cert.Kernel7Ideal.main_v33_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v33_0) = v0 c
          ∧ r.2.mem ((c.tc : Thread Cert.Kernel7Ideal.nD Cert.Kernel7Ideal.τ).loc Cert.Kernel7Ideal.main_v33_1) = v1 c
          ∧ r.2.mem ((c.tc : Thread Cert.Kernel7Ideal.nD Cert.Kernel7Ideal.τ).loc Cert.Kernel7Ideal.main_v33_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v187) = v0 c
          ∧ r.2.mem ((c.tc : Thread Cert.Reference7Ideal.nD Cert.Reference7Ideal.τ).loc Cert.Reference7Ideal.main_v195) = v1 c
          ∧ r.2.mem ((c.tc : Thread Cert.Reference7Ideal.nD Cert.Reference7Ideal.τ).loc Cert.Reference7Ideal.main_v200) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ algebraic_KernelIdeal_ReferenceIdeal_pre_finite (hKernelIdeal := hKernelIdeal) (hReferenceIdeal := hReferenceIdeal) (hPre_finite := hPre_finite)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
-- ==== Pre_finite.lean ====
abbrev S36864x2048 : Shape := ⟨2, ![36864, 2048]⟩
abbrev S1024x36864 : Shape := ⟨2, ![1024, 36864]⟩
abbrev S_ : Shape := ⟨0, ![]⟩

class Facts : Prop where
  bitsLt_bf16_f32 : FTy.bits .bf16 < FTy.bits .f32
  bcast_S_S36864x2048 : S_.BroadcastsInDim S36864x2048 (![] : Fin 0 → Fin S36864x2048.rank)

variable [Facts]

def fn {F : FTy → Type} [FloatOps F] (main_arg0 : FVec F S36864x2048 .bf16) (main_arg1 : FVec F S36864x2048 .bf16) (main_arg2 : FVec F S1024x36864 .bf16) : IVec S36864x2048 1 :=
  let main_v0 : FVec F S36864x2048 .f32 := (extf .f32 · bitsLt_bf16_f32) main_arg0
  let main_v1 : FVec F S36864x2048 .f32 := Host.absf main_v0
  let main_cst : FVec F S_ .f32 := constant S_ .f32 0x7F800000#32
  let main_v2 : FVec F S36864x2048 .f32 := broadcastInDim S36864x2048 ![] bcast_S_S36864x2048 main_cst
  let main_v3 : IVec S36864x2048 1 := cmpf .olt main_v1 main_v2
  let main_v4 : FVec F S36864x2048 .f32 := (extf .f32 · bitsLt_bf16_f32) main_arg1
  let main_v5 : FVec F S36864x2048 .f32 := Host.absf main_v4
  let main_cst_0 : FVec F S_ .f32 := constant S_ .f32 0x7F800000#32
  let main_v6 : FVec F S36864x2048 .f32 := broadcastInDim S36864x2048 ![] bcast_S_S36864x2048 main_cst_0
  let main_v7 : IVec S36864x2048 1 := cmpf .olt main_v5 main_v6
  let main_v8 : IVec S36864x2048 1 := andi main_v3 main_v7
  main_v8
-- ==== Kernel.lean ====
abbrev S36864x2048 : Shape := ⟨2, ![36864, 2048]⟩
abbrev S1024x36864 : Shape := ⟨2, ![1024, 36864]⟩
abbrev S32768x1024 : Shape := ⟨2, ![32768, 1024]⟩
abbrev S512x2048 : Shape := ⟨2, ![512, 2048]⟩
abbrev S2048x2048 : Shape := ⟨2, ![2048, 2048]⟩
abbrev S256x2048 : Shape := ⟨2, ![256, 2048]⟩
abbrev S1024x2048 : Shape := ⟨2, ![1024, 2048]⟩
abbrev S1024x256 : Shape := ⟨2, ![1024, 256]⟩
abbrev S512x1024 : Shape := ⟨2, ![512, 1024]⟩
abbrev S512x256 : Shape := ⟨2, ![512, 256]⟩
abbrev S2048x256 : Shape := ⟨2, ![2048, 256]⟩
abbrev S2048x512 : Shape := ⟨2, ![2048, 512]⟩
abbrev S256x256 : Shape := ⟨2, ![256, 256]⟩
abbrev S256x512 : Shape := ⟨2, ![256, 512]⟩
abbrev S256x8x512 : Shape := ⟨3, ![256, 8, 512]⟩
abbrev S1x8x512 : Shape := ⟨3, ![1, 8, 512]⟩
abbrev S8x512 : Shape := ⟨2, ![8, 512]⟩
abbrev S32x8x512 : Shape := ⟨3, ![32, 8, 512]⟩
abbrev S512 : Shape := ⟨1, ![512]⟩
abbrev S1x512 : Shape := ⟨2, ![1, 512]⟩
abbrev S128x2048 : Shape := ⟨2, ![128, 2048]⟩
abbrev S128x512 : Shape := ⟨2, ![128, 512]⟩
abbrev S128x256 : Shape := ⟨2, ![128, 256]⟩
abbrev S512x128 : Shape := ⟨2, ![512, 128]⟩

abbrev nBuf : Space → Nat
  | .hbm => 4
  | .vmem => 12
  | .smem => 0
  | _ => 0

abbrev bufTy : (tb : Table) → Fin (tcTables nBuf tb) → BufTy
  | .hbm, ⟨0, _⟩ => ⟨S36864x2048, .bf16⟩
  | .hbm, ⟨1, _⟩ => ⟨S36864x2048, .bf16⟩
  | .hbm, ⟨2, _⟩ => ⟨S1024x36864, .bf16⟩
  | .hbm, ⟨3, _⟩ => ⟨S32768x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x256, .bf16⟩
  | .local _ .vmem, ⟨9, _⟩ => ⟨S1024x256, .bf16⟩
  | .local _ .vmem, ⟨10, _⟩ => ⟨S512x1024, .bf16⟩
  | .local _ .vmem, ⟨11, _⟩ => ⟨S512x1024, .bf16⟩
  | _, _ => ⟨S36864x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S36864x2048 : Shape := ⟨2, ![36864, 2048]⟩
abbrev S1024x36864 : Shape := ⟨2, ![1024, 36864]⟩
abbrev S36864x1024 : Shape := ⟨2, ![36864, 1024]⟩
abbrev S32768x2048 : Shape := ⟨2, ![32768, 2048]⟩
abbrev S16x2048x8x256 : Shape := ⟨4, ![16, 2048, 8, 256]⟩
abbrev S4096x2048 : Shape := ⟨2, ![4096, 2048]⟩
abbrev S16x256x8x256 : Shape := ⟨4, ![16, 256, 8, 256]⟩
abbrev S16x2304x8x256 : Shape := ⟨4, ![16, 2304, 8, 256]⟩
abbrev S32768x1024 : Shape := ⟨2, ![32768, 1024]⟩
abbrev S16x2048x8x128 : Shape := ⟨4, ![16, 2048, 8, 128]⟩
abbrev S4096x1024 : Shape := ⟨2, ![4096, 1024]⟩
abbrev S16x256x8x128 : Shape := ⟨4, ![16, 256, 8, 128]⟩
abbrev S16x2304x8x128 : Shape := ⟨4, ![16, 2304, 8, 128]⟩
abbrev S_ : Shape := ⟨0, ![]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩

abbrev nBuf : Space → Nat
  | .hbm => 42
  | .vmem => 0
  | .smem => 0
  | _ => 0

abbrev bufTy : (tb : Table) → Fin (tcTables nBuf tb) → BufTy
  | .hbm, ⟨0, _⟩ => ⟨S36864x2048, .bf16⟩
  | .hbm, ⟨1, _⟩ => ⟨S36864x2048, .bf16⟩
  | .hbm, ⟨2, _⟩ => ⟨S1024x36864, .bf16⟩
  | .hbm, ⟨3, _⟩ => ⟨S36864x2048, .f32⟩
  | .hbm, ⟨4, _⟩ => ⟨S1024x36864, .f32⟩
  | .hbm, ⟨5, _⟩ => ⟨S36864x1024, .f32⟩
  | .hbm, ⟨6, _⟩ => ⟨S32768x2048, .bf16⟩
  | .hbm, ⟨7, _⟩ => ⟨S32768x2048, .f32⟩
  | .hbm, ⟨8, _⟩ => ⟨S16x2048x8x256, .f32⟩
  | .hbm, ⟨9, _⟩ => ⟨S32768x2048, .f32⟩
  | .hbm, ⟨10, _⟩ => ⟨S16x2048x8x256, .f32⟩
  | .hbm, ⟨11, _⟩ => ⟨S4096x2048, .f32⟩
  | .hbm, ⟨12, _⟩ => ⟨S16x256x8x256, .f32⟩
  | .hbm, ⟨13, _⟩ => ⟨S16x2304x8x256, .f32⟩
  | .hbm, ⟨14, _⟩ => ⟨S32768x1024, .f32⟩
  | .hbm, ⟨15, _⟩ => ⟨S16x2048x8x128, .f32⟩
  | .hbm, ⟨16, _⟩ => ⟨S4096x1024, .f32⟩
  | .hbm, ⟨17, _⟩ => ⟨S16x256x8x128, .f32⟩
  | .hbm, ⟨18, _⟩ => ⟨S16x2304x8x128, .f32⟩
  | .hbm, ⟨19, _⟩ => ⟨S_, .f32⟩
  | .hbm, ⟨20, _⟩ => ⟨S_, .f32⟩
  | .hbm, ⟨21, _⟩ => ⟨S16x8x2048x2304, .f32⟩
  | .hbm, ⟨22, _⟩ => ⟨S16x8x2048x2304, .f32⟩
  | .hbm, ⟨23, _⟩ => ⟨S16x8x2048x2304, .f32⟩
  | .hbm, ⟨24, _⟩ => ⟨S_, .f32⟩
  | .hbm, ⟨25, _⟩ => ⟨S16x8x2048, .f32⟩
  | .hbm, ⟨26, _⟩ => ⟨S_, .f32⟩
  | .hbm, ⟨27, _⟩ => ⟨S16x8x2048, .f32⟩
  | .hbm, ⟨28, _⟩ => ⟨S16x8x2048, .f32⟩
  | .hbm, ⟨29, _⟩ => ⟨S16x8x2048x1, .f32⟩
  | .hbm, ⟨30, _⟩ => ⟨S16x8x2048x2304, .f32⟩
  | .hbm, ⟨31, _⟩ => ⟨S16x8x2048x2304, .f32⟩
  | .hbm, ⟨32, _⟩ => ⟨S16x8x2048x2304, .f32⟩
  | .hbm, ⟨33, _⟩ => ⟨S_, .f32⟩
  | .hbm, ⟨34, _⟩ => ⟨S16x8x2048, .f32⟩
  | .hbm, ⟨35, _⟩ => ⟨S16x8x2048x1, .f32⟩
  | .hbm, ⟨36, _⟩ => ⟨S16x8x2048x2304, .f32⟩
  | .hbm, ⟨37, _⟩ => ⟨S16x8x2048x2304, .f32⟩
  | .hbm, ⟨38, _⟩ => ⟨S16x8x128x2048, .f32⟩
  | .hbm, ⟨39, _⟩ => ⟨S16x2048x8x128, .f32⟩
  | .hbm, ⟨40, _⟩ => ⟨S32768x1024, .f32⟩
  | .hbm, ⟨41, _⟩ => ⟨S32768x1024, .bf16⟩
  | _, _ => ⟨S36864x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel2.lean ====
abbrev S36864x1024 : Shape := ⟨2, ![36864, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 10
  | .vmem => 13
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S32768x1024, .bf16⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1x1024x5632, .f32⟩
  | .local _ .vmem, ⟨9, _⟩ => ⟨S1x1x2816x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.minsi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S36864x1024 : Shape := ⟨2, ![36864, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S32768x1024 : Shape := ⟨2, ![32768, 1024]⟩
abbrev S1024x1024 : Shape := ⟨2, ![1024, 1024]⟩
abbrev S1024 : Shape := ⟨1, ![1024]⟩
abbrev S16x2048x1024 : Shape := ⟨3, ![16, 2048, 1024]⟩
abbrev S16x1x1024 : Shape := ⟨3, ![16, 1, 1024]⟩
abbrev S16x1024 : Shape := ⟨2, ![16, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x1x2816x1024 : Shape := ⟨4, ![1, 1, 2816, 1024]⟩
abbrev S2816x1024 : Shape := ⟨2, ![2816, 1024]⟩

abbrev nBuf : Space → Nat
  | .hbm => 110
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S32768x1024, .bf16⟩
  | .hbm, ⟨6, _⟩ => ⟨S1024x1024, .bf16⟩
  | .hbm, ⟨7, _⟩ => ⟨S1024, .f32⟩
  | .hbm, ⟨8, _⟩ => ⟨S32768x1024, .f32⟩
  | .hbm, ⟨9, _⟩ => ⟨S16x2048x1024, .f32⟩
  | .hbm, ⟨10, _⟩ => ⟨S16x1x1024, .f32⟩
  | .hbm, ⟨11, _⟩ => ⟨S16x1024, .f32⟩
  | .hbm, ⟨12, _⟩ => ⟨S16x1x1024, .f32⟩
  | .hbm, ⟨13, _⟩ => ⟨S16x1x1024, .f32⟩
  | .hbm, ⟨14, _⟩ => ⟨S16x1024, .f32⟩
  | .hbm, ⟨15, _⟩ => ⟨S16x1x1024, .f32⟩
  | .hbm, ⟨16, _⟩ => ⟨S16x1x1024, .f32⟩
  | .hbm, ⟨17, _⟩ => ⟨S16x1024, .f32⟩
  | .hbm, ⟨18, _⟩ => ⟨S16x1x1024, .f32⟩
  | .hbm, ⟨19, _⟩ => ⟨S16x1x1024, .f32⟩
  | .hbm, ⟨20, _⟩ => ⟨S16x1024, .f32⟩
  | .hbm, ⟨21, _⟩ => ⟨S16x1x1024, .f32⟩
  | .hbm, ⟨22, _⟩ => ⟨S16x1x1024, .f32⟩
  | .hbm, ⟨23, _⟩ => ⟨S16x1024, .f32⟩
  | .hbm, ⟨24, _⟩ => ⟨S16x1x1024, .f32⟩
  | .hbm, ⟨25, _⟩ => ⟨S16x1x1024, .f32⟩
  | .hbm, ⟨26, _⟩ => ⟨S16x1024, .f32⟩
  | .hbm, ⟨27, _⟩ => ⟨S16x1x1024, .f32⟩
  | .hbm, ⟨28, _⟩ => ⟨S16x1x1024, .f32⟩
  | .hbm, ⟨29, _⟩ => ⟨S16x1024, .f32⟩
  | .hbm, ⟨30, _⟩ => ⟨S16x1x1024, .f32⟩
  | .hbm, ⟨31, _⟩ => ⟨S16x1x1024, .f32⟩
  | .hbm, ⟨32, _⟩ => ⟨S16x1024, .f32⟩
  | .hbm, ⟨33, _⟩ => ⟨S16x1x1024, .f32⟩
  | .hbm, ⟨34, _⟩ => ⟨S16x1x1024, .f32⟩
  | .hbm, ⟨35, _⟩ => ⟨S16x1024, .f32⟩
  | .hbm, ⟨36, _⟩ => ⟨S16x1x1024, .f32⟩
  | .hbm, ⟨37, _⟩ => ⟨S32768x1024, .f32⟩
  | .hbm, ⟨38, _⟩ => ⟨S16x2048x1024, .f32⟩
  | .hbm, ⟨39, _⟩ => ⟨S1024x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S1x1024, .f32⟩
  | .hbm, ⟨45, _⟩ => ⟨S1024, .f32⟩
  | .hbm, ⟨46, _⟩ => ⟨S16x2048x1024, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x1024, .f32⟩
  | .hbm, ⟨58, _⟩ => ⟨S16x2048x1024, .f32⟩
  | .hbm, ⟨59, _⟩ => ⟨S1x1x1024, .f32⟩
  | .hbm, ⟨60, _⟩ => ⟨S16x2048x1024, .f32⟩
  | .hbm, ⟨61, _⟩ => ⟨S16x2048x1024, .f32⟩
  | .hbm, ⟨62, _⟩ => ⟨S_, .f32⟩
  | .hbm, ⟨63, _⟩ => ⟨S16x1x1024, .f32⟩
  | .hbm, ⟨64, _⟩ => ⟨S16x1x1024, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S1x1x1024x5632, .f32⟩
  | .hbm, ⟨70, _⟩ => ⟨S1024x5632, .f32⟩
  | .hbm, ⟨71, _⟩ => ⟨S16x2048x5632, .f32⟩
  | .hbm, ⟨72, _⟩ => ⟨S16x2048x2816, .f32⟩
  | .hbm, ⟨73, _⟩ => ⟨S16x2048x2816, .f32⟩
  | .hbm, ⟨74, _⟩ => ⟨S_, .f32⟩
  | .hbm, ⟨75, _⟩ => ⟨S16x1x1024, .f32⟩
  | .hbm, ⟨76, _⟩ => ⟨S16x1x1024, .f32⟩
  | .hbm, ⟨77, _⟩ => ⟨S16x2048x2816, .f32⟩
  | .hbm, ⟨78, _⟩ => ⟨S16x2048x2816, .f32⟩
  | .hbm, ⟨79, _⟩ => ⟨S_, .f32⟩
  | .hbm, ⟨80, _⟩ => ⟨S16x2048x2816, .f32⟩
  | .hbm, ⟨81, _⟩ => ⟨S16x2048x2816, .f32⟩
  | .hbm, ⟨82, _⟩ => ⟨S_, .f32⟩
  | .hbm, ⟨83, _⟩ => ⟨S16x2048x2816, .f32⟩
  | .hbm, ⟨84, _⟩ => ⟨S16x2048x2816, .f32⟩
  | .hbm, ⟨85, _⟩ => ⟨S16x2048x2816, .f32⟩
  | .hbm, ⟨86, _⟩ => ⟨S16x2048x2816, .f32⟩
  | .hbm, ⟨87, _⟩ => ⟨S1x1x2816x1024, .f32⟩
  | .hbm, ⟨88, _⟩ => ⟨S2816x1024, .f32⟩
  | .hbm, ⟨89, _⟩ => ⟨S16x2048x1024, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S_, .f32⟩
  | .hbm, ⟨95, _⟩ => ⟨S16x2048, .f32⟩
  | .hbm, ⟨96, _⟩ => ⟨S16x2048x1, .f32⟩
  | .hbm, ⟨97, _⟩ => ⟨S_, .f32⟩
  | .hbm, ⟨98, _⟩ => ⟨S16x2048x1, .f32⟩
  | .hbm, ⟨99, _⟩ => ⟨S16x2048x1, .f32⟩
  | .hbm, ⟨100, _⟩ => ⟨S_, .f32⟩
  | .hbm, ⟨101, _⟩ => ⟨S16x2048x1, .f32⟩
  | .hbm, ⟨102, _⟩ => ⟨S16x2048x1, .f32⟩
  | .hbm, ⟨103, _⟩ => ⟨S16x2048x1, .f32⟩
  | .hbm, ⟨104, _⟩ => ⟨S16x2048x1024, .f32⟩
  | .hbm, ⟨105, _⟩ => ⟨S16x2048x1024, .f32⟩
  | .hbm, ⟨106, _⟩ => ⟨S1x1x1024, .f32⟩
  | .hbm, ⟨107, _⟩ => ⟨S16x2048x1024, .f32⟩
  | .hbm, ⟨108, _⟩ => ⟨S16x2048x1024, .f32⟩
  | .hbm, ⟨109, _⟩ => ⟨S32768x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst : Ref sig .tc := ⟨.hbm, 47, rfl⟩
abbrev main_v39 : Ref sig .tc := ⟨.hbm, 48, rfl⟩
abbrev main_v40 : Ref sig .tc := ⟨.hbm, 49, rfl⟩
abbrev main_cst_0 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_2 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_3 : Ref sig .tc := ⟨.hbm, 74, rfl⟩
abbrev main_v62 : Ref sig .tc := ⟨.hbm, 75, rfl⟩
abbrev main_v63 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_4 : Ref sig .tc := ⟨.hbm, 94, rfl⟩
abbrev main_v73 : Ref sig .tc := ⟨.hbm, 95, rfl⟩
abbrev main_v74 : Ref sig .tc := ⟨.hbm, 96, rfl⟩
abbrev main_cst_5 : Ref sig .tc := ⟨.hbm, 97, rfl⟩
abbrev main_v75 : Ref sig .tc := ⟨.hbm, 98, rfl⟩
abbrev main_v76 : Ref sig .tc := ⟨.hbm, 99, rfl⟩
abbrev main_cst_6 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== Kernel3.lean ====
abbrev S36864x1024 : Shape := ⟨2, ![36864, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x5632, .f32⟩
  | .local _ .vmem, ⟨6, _⟩ => ⟨S1x1x2816x1024, .f32⟩
  | .local _ .vmem, ⟨7, _⟩ => ⟨S512x1024, .f32⟩
  | .local _ .vmem, ⟨8, _⟩ => ⟨S512x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.minsi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S36864x1024 : Shape := ⟨2, ![36864, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S4096x1024 : Shape := ⟨2, ![4096, 1024]⟩
abbrev S16x256x1024 : Shape := ⟨3, ![16, 256, 1024]⟩
abbrev S32768x1024 : Shape := ⟨2, ![32768, 1024]⟩
abbrev S16x2048x1024 : Shape := ⟨3, ![16, 2048, 1024]⟩
abbrev S16x1x1024 : Shape := ⟨3, ![16, 1, 1024]⟩
abbrev S16x1024 : Shape := ⟨2, ![16, 1024]⟩
abbrev S1x1024 : Shape := ⟨2, ![1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩

abbrev nBuf : Space → Nat
  | .hbm => 128
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S4096x1024, .f32⟩
  | .hbm, ⟨6, _⟩ => ⟨S16x256x1024, .f32⟩
  | .hbm, ⟨7, _⟩ => ⟨S32768x1024, .f32⟩
  | .hbm, ⟨8, _⟩ => ⟨S16x2048x1024, .f32⟩
  | .hbm, ⟨9, _⟩ => ⟨S16x1x1024, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x1x1024, .f32⟩
  | .hbm, ⟨16, _⟩ => ⟨S16x1024, .f32⟩
  | .hbm, ⟨17, _⟩ => ⟨S16x1x1024, .f32⟩
  | .hbm, ⟨18, _⟩ => ⟨S1x1024, .f32⟩
  | .hbm, ⟨19, _⟩ => ⟨S1024, .f32⟩
  | .hbm, ⟨20, _⟩ => ⟨S1x1x1024x5632, .f32⟩
  | .hbm, ⟨21, _⟩ => ⟨S1024x5632, .f32⟩
  | .hbm, ⟨22, _⟩ => ⟨S1x1x2816x1024, .f32⟩
  | .hbm, ⟨23, _⟩ => ⟨S2816x1024, .f32⟩
  | .hbm, ⟨24, _⟩ => ⟨S16x2048x1024, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x5632, .f32⟩
  | .hbm, ⟨48, _⟩ => ⟨S16x2048x2816, .f32⟩
  | .hbm, ⟨49, _⟩ => ⟨S16x2048x2816, .f32⟩
  | .hbm, ⟨50, _⟩ => ⟨S_, .f32⟩
  | .hbm, ⟨51, _⟩ => ⟨S16x1x1024, .f32⟩
  | .hbm, ⟨52, _⟩ => ⟨S16x1x1024, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S1x1x1024, .f32⟩
  | .hbm, ⟨68, _⟩ => ⟨S1024, .f32⟩
  | .hbm, ⟨69, _⟩ => ⟨S1x1x1024, .f32⟩
  | .hbm, ⟨70, _⟩ => ⟨S1x1x1024, .f32⟩
  | .hbm, ⟨71, _⟩ => ⟨S1024, .f32⟩
  | .hbm, ⟨72, _⟩ => ⟨S1x1x1024, .f32⟩
  | .hbm, ⟨73, _⟩ => ⟨S1x1x1024, .f32⟩
  | .hbm, ⟨74, _⟩ => ⟨S1024, .f32⟩
  | .hbm, ⟨75, _⟩ => ⟨S1x1x1024, .f32⟩
  | .hbm, ⟨76, _⟩ => ⟨S1x1024, .f32⟩
  | .hbm, ⟨77, _⟩ => ⟨S1024, .f32⟩
  | .hbm, ⟨78, _⟩ => ⟨S1x1x1024x5632, .f32⟩
  | .hbm, ⟨79, _⟩ => ⟨S1024x5632, .f32⟩
  | .hbm, ⟨80, _⟩ => ⟨S1x1x2816x1024, .f32⟩
  | .hbm, ⟨81, _⟩ => ⟨S2816x1024, .f32⟩
  | .hbm, ⟨82, _⟩ => ⟨S16x256x1024, .f32⟩
  | .hbm, ⟨83, _⟩ => ⟨S_, .f32⟩
  | .hbm, ⟨84, _⟩ => ⟨S16x256, .f32⟩
  | .hbm, ⟨85, _⟩ => ⟨S16x256x1, .f32⟩
  | .hbm, ⟨86, _⟩ => ⟨S_, .f32⟩
  | .hbm, ⟨87, _⟩ => ⟨S16x256x1, .f32⟩
  | .hbm, ⟨88, _⟩ => ⟨S16x256x1, .f32⟩
  | .hbm, ⟨89, _⟩ => ⟨S_, .f32⟩
  | .hbm, ⟨90, _⟩ => ⟨S16x256x1, .f32⟩
  | .hbm, ⟨91, _⟩ => ⟨S16x256x1, .f32⟩
  | .hbm, ⟨92, _⟩ => ⟨S16x256x1, .f32⟩
  | .hbm, ⟨93, _⟩ => ⟨S16x256x1024, .f32⟩
  | .hbm, ⟨94, _⟩ => ⟨S16x256x1024, .f32⟩
  | .hbm, ⟨95, _⟩ => ⟨S1x1x1024, .f32⟩
  | .hbm, ⟨96, _⟩ => ⟨S16x256x1024, .f32⟩
  | .hbm, ⟨97, _⟩ => ⟨S16x256x1024, .f32⟩
  | .hbm, ⟨98, _⟩ => ⟨S_, .f32⟩
  | .hbm, ⟨99, _⟩ => ⟨S1x1x1024, .f32⟩
  | .hbm, ⟨100, _⟩ => ⟨S1x1x1024, .f32⟩
  | .hbm, ⟨101, _⟩ => ⟨S16x256x1024, .f32⟩
  | .hbm, ⟨102, _⟩ => ⟨S16x256x1024, .f32⟩
  | .hbm, ⟨103, _⟩ => ⟨S16x256x1024, .f32⟩
  | .hbm, ⟨104, _⟩ => ⟨S16x256x1024, .f32⟩
  | .hbm, ⟨105, _⟩ => ⟨S16x256x5632, .f32⟩
  | .hbm, ⟨106, _⟩ => ⟨S16x256x2816, .f32⟩
  | .hbm, ⟨107, _⟩ => ⟨S16x256x2816, .f32⟩
  | .hbm, ⟨108, _⟩ => ⟨S_, .f32⟩
  | .hbm, ⟨109, _⟩ => ⟨S1x1x1024, .f32⟩
  | .hbm, ⟨110, _⟩ => ⟨S1x1x1024, .f32⟩
  | .hbm, ⟨111, _⟩ => ⟨S16x256x2816, .f32⟩
  | .hbm, ⟨112, _⟩ => ⟨S16x256x2816, .f32⟩
  | .hbm, ⟨113, _⟩ => ⟨S_, .f32⟩
  | .hbm, ⟨114, _⟩ => ⟨S16x256x2816, .f32⟩
  | .hbm, ⟨115, _⟩ => ⟨S16x256x2816, .f32⟩
  | .hbm, ⟨116, _⟩ => ⟨S_, .f32⟩
  | .hbm, ⟨117, _⟩ => ⟨S16x256x2816, .f32⟩
  | .hbm, ⟨118, _⟩ => ⟨S16x256x2816, .f32⟩
  | .hbm, ⟨119, _⟩ => ⟨S16x256x2816, .f32⟩
  | .hbm, ⟨120, _⟩ => ⟨S16x256x2816, .f32⟩
  | .hbm, ⟨121, _⟩ => ⟨S16x256x1024, .f32⟩
  | .hbm, ⟨122, _⟩ => ⟨S16x256x1024, .f32⟩
  | .hbm, ⟨123, _⟩ => ⟨S16x256x1024, .f32⟩
  | .hbm, ⟨124, _⟩ => ⟨S16x256x1024, .f32⟩
  | .hbm, ⟨125, _⟩ => ⟨S32768x1024, .f32⟩
  | .hbm, ⟨126, _⟩ => ⟨S4096x1024, .f32⟩
  | .hbm, ⟨127, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_4 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_7 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_8 : Ref sig .tc := ⟨.hbm, 108, rfl⟩
abbrev main_v86 : Ref sig .tc := ⟨.hbm, 109, rfl⟩
abbrev main_v87 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Kernel4.lean ====
abbrev S36864x1024 : Shape := ⟨2, ![36864, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S32768x512 : Shape := ⟨2, ![32768, 512]⟩
abbrev S4096x512 : Shape := ⟨2, ![4096, 512]⟩
abbrev S36864x512 : Shape := ⟨2, ![36864, 512]⟩
abbrev S512x1024 : Shape := ⟨2, ![512, 1024]⟩
abbrev S1x9x1024 : Shape := ⟨3, ![1, 9, 1024]⟩
abbrev S512x512 : Shape := ⟨2, ![512, 512]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 11
  | .vmem => 17
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S2x2x1024x5632, .f32⟩
  | .hbm, ⟨4, _⟩ => ⟨S2x2x2816x1024, .f32⟩
  | .hbm, ⟨5, _⟩ => ⟨S32768x512, .bf16⟩
  | .hbm, ⟨6, _⟩ => ⟨S4096x512, .bf16⟩
  | .hbm, ⟨7, _⟩ => ⟨S36864x512, .bf16⟩
  | .hbm, ⟨8, _⟩ => ⟨S512x1024, .bf16⟩
  | .hbm, ⟨9, _⟩ => ⟨S512x1024, .bf16⟩
  | .hbm, ⟨10, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S1x1x1024x5632, .f32⟩
  | .local _ .vmem, ⟨14, _⟩ => ⟨S1x1x2816x1024, .f32⟩
  | .local _ .vmem, ⟨15, _⟩ => ⟨S512x1024, .f32⟩
  | .local _ .vmem, ⟨16, _⟩ => ⟨S512x1024, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.minsi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2816x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S36864x1024 : Shape := ⟨2, ![36864, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S32768x512 : Shape := ⟨2, ![32768, 512]⟩
abbrev S4096x512 : Shape := ⟨2, ![4096, 512]⟩
abbrev S36864x512 : Shape := ⟨2, ![36864, 512]⟩
abbrev S512x1024 : Shape := ⟨2, ![512, 1024]⟩
abbrev S1024x1024 : Shape := ⟨2, ![1024, 1024]⟩
abbrev S32768x1024 : Shape := ⟨2, ![32768, 1024]⟩
abbrev S16x2048x1024 : Shape := ⟨3, ![16, 2048, 1024]⟩
abbrev S4096x1024 : Shape := ⟨2, ![4096, 1024]⟩
abbrev S16x256x1024 : Shape := ⟨3, ![16, 256, 1024]⟩
abbrev S1x1x1024 : Shape := ⟨3, ![1, 1, 1024]⟩
abbrev S1024 : Shape := ⟨1, ![1024]⟩
abbrev S16x1x1024 : Shape := ⟨3, ![16, 1, 1024]⟩
abbrev S16x1024 : Shape := ⟨2, ![16, 1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S16x2048x5632 : Shape := ⟨3, ![16, 2048, 5632]⟩
abbrev S16x2048x2816 : Shape := ⟨3, ![16, 2048, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩

abbrev nBuf : Space → Nat
  | .hbm => 157
  | .vmem => 0
  | .smem => 0
  | _ => 0

abbrev hbmTy0_0 (i : Nat) : BufTy := match i % 128 with
  | 0 => ⟨S36864x1024, .f32⟩
  | 1 => ⟨S17x9x1024, .f32⟩
  | 2 => ⟨S3x1024, .f32⟩
  | 3 => ⟨S2x2x1024x5632, .f32⟩
  | 4 => ⟨S2x2x2816x1024, .f32⟩
  | 5 => ⟨S32768x512, .bf16⟩
  | 6 => ⟨S4096x512, .bf16⟩
  | 7 => ⟨S36864x512, .bf16⟩
  | 8 => ⟨S512x1024, .bf16⟩
  | 9 => ⟨S512x1024, .bf16⟩
  | 10 => ⟨S1024x1024, .bf16⟩
  | 11 => ⟨S1024x1024, .f32⟩
  | 12 => ⟨S32768x512, .bf16⟩
  | 13 => ⟨S32768x1024, .bf16⟩
  | 14 => ⟨S32768x1024, .f32⟩
  | 15 => ⟨S16x2048x1024, .f32⟩
  | 16 => ⟨S16x2048x1024, .f32⟩
  | 17 => ⟨S4096x512, .bf16⟩
  | 18 => ⟨S4096x1024, .bf16⟩
  | 19 => ⟨S4096x1024, .f32⟩
  | 20 => ⟨S16x256x1024, .f32⟩
  | 21 => ⟨S16x256x1024, .f32⟩
  | 22 => ⟨S4096x1024, .f32⟩
  | 23 => ⟨S16x256x1024, .f32⟩
  | 24 => ⟨S1x1x1024, .f32⟩
  | 25 => ⟨S1024, .f32⟩
  | 26 => ⟨S1x1x1024, .f32⟩
  | 27 => ⟨S16x256x1024, .f32⟩
  | 28 => ⟨S16x256x1024, .f32⟩
  | 29 => ⟨S16x256x1024, .f32⟩
  | 30 => ⟨S32768x1024, .f32⟩
  | 31 => ⟨S16x2048x1024, .f32⟩
  | 32 => ⟨S16x1x1024, .f32⟩
  | 33 => ⟨S16x1024, .f32⟩
  | 34 => ⟨S16x1x1024, .f32⟩
  | 35 => ⟨S16x2048x1024, .f32⟩
  | 36 => ⟨S16x2048x1024, .f32⟩
  | 37 => ⟨S16x2048x1024, .f32⟩
  | 38 => ⟨S16x1x1024, .f32⟩
  | 39 => ⟨S16x1024, .f32⟩
  | 40 => ⟨S16x1x1024, .f32⟩
  | 41 => ⟨S16x1x1024, .f32⟩
  | 42 => ⟨S16x1024, .f32⟩
  | 43 => ⟨S16x1x1024, .f32⟩
  | 44 => ⟨S16x1x1024, .f32⟩
  | 45 => ⟨S16x1024, .f32⟩
  | 46 => ⟨S16x1x1024, .f32⟩
  | 47 => ⟨S1x1024, .f32⟩
  | 48 => ⟨S1024, .f32⟩
  | 49 => ⟨S1x1x1024x5632, .f32⟩
  | 50 => ⟨S1024x5632, .f32⟩
  | 51 => ⟨S1x1x2816x1024, .f32⟩
  | 52 => ⟨S2816x1024, .f32⟩
  | 53 => ⟨S16x2048x1024, .f32⟩
  | 54 => ⟨S_, .f32⟩
  | 55 => ⟨S16x2048, .f32⟩
  | 56 => ⟨S16x2048x1, .f32⟩
  | 57 => ⟨S_, .f32⟩
  | 58 => ⟨S16x2048x1, .f32⟩
  | 59 => ⟨S16x2048x1, .f32⟩
  | 60 => ⟨S_, .f32⟩
  | 61 => ⟨S16x2048x1, .f32⟩
  | 62 => ⟨S16x2048x1, .f32⟩
  | 63 => ⟨S16x2048x1, .f32⟩
  | 64 => ⟨S16x2048x1024, .f32⟩
  | 65 => ⟨S16x2048x1024, .f32⟩
  | 66 => ⟨S1x1x1024, .f32⟩
  | 67 => ⟨S16x2048x1024, .f32⟩
  | 68 => ⟨S16x2048x1024, .f32⟩
  | 69 => ⟨S_, .f32⟩
  | 70 => ⟨S16x1x1024, .f32⟩
  | 71 => ⟨S16x1x1024, .f32⟩
  | 72 => ⟨S16x2048x1024, .f32⟩
  | 73 => ⟨S16x2048x1024, .f32⟩
  | 74 => ⟨S16x2048x1024, .f32⟩
  | 75 => ⟨S16x2048x1024, .f32⟩
  | 76 => ⟨S16x2048x5632, .f32⟩
  | 77 => ⟨S16x2048x2816, .f32⟩
  | 78 => ⟨S16x2048x2816, .f32⟩
  | 79 => ⟨S_, .f32⟩
  | 80 => ⟨S16x1x1024, .f32⟩
  | 81 => ⟨S16x1x1024, .f32⟩
  | 82 => ⟨S16x2048x2816, .f32⟩
  | 83 => ⟨S16x2048x2816, .f32⟩
  | 84 => ⟨S_, .f32⟩
  | 85 => ⟨S16x2048x2816, .f32⟩
  | 86 => ⟨S16x2048x2816, .f32⟩
  | 87 => ⟨S_, .f32⟩
  | 88 => ⟨S16x2048x2816, .f32⟩
  | 89 => ⟨S16x2048x2816, .f32⟩
  | 90 => ⟨S16x2048x2816, .f32⟩
  | 91 => ⟨S16x2048x2816, .f32⟩
  | 92 => ⟨S16x2048x1024, .f32⟩
  | 93 => ⟨S16x2048x1024, .f32⟩
  | 94 => ⟨S16x2048x1024, .f32⟩
  | 95 => ⟨S16x2048x1024, .f32⟩
  | 96 => ⟨S1x1x1024, .f32⟩
  | 97 => ⟨S1024, .f32⟩
  | 98 => ⟨S1x1x1024, .f32⟩
  | 99 => ⟨S1x1x1024, .f32⟩
  | 100 => ⟨S1024, .f32⟩
  | 101 => ⟨S1x1x1024, .f32⟩
  | 102 => ⟨S1x1x1024, .f32⟩
  | 103 => ⟨S1024, .f32⟩
  | 104 => ⟨S1x1x1024, .f32⟩
  | 105 => ⟨S1x1024, .f32⟩
  | 106 => ⟨S1024, .f32⟩
  | 107 => ⟨S1x1x1024x5632, .f32⟩
  | 108 => ⟨S1024x5632, .f32⟩
  | 109 => ⟨S1x1x2816x1024, .f32⟩
  | 110 => ⟨S2816x1024, .f32⟩
  | 111 => ⟨S16x256x1024, .f32⟩
  | 112 => ⟨S_, .f32⟩
  | 113 => ⟨S16x256, .f32⟩
  | 114 => ⟨S16x256x1, .f32⟩
  | 115 => ⟨S_, .f32⟩
  | 116 => ⟨S16x256x1, .f32⟩
  | 117 => ⟨S16x256x1, .f32⟩
  | 118 => ⟨S_, .f32⟩
  | 119 => ⟨S16x256x1, .f32⟩
  | 120 => ⟨S16x256x1, .f32⟩
  | 121 => ⟨S16x256x1, .f32⟩
  | 122 => ⟨S16x256x1024, .f32⟩
  | 123 => ⟨S16x256x1024, .f32⟩
  | 124 => ⟨S1x1x1024, .f32⟩
  | 125 => ⟨S16x256x1024, .f32⟩
  | 126 => ⟨S16x256x1024, .f32⟩
  | 127 => ⟨S_, .f32⟩
  | _ => ⟨S36864x1024, .f32⟩

abbrev hbmTy0_1 (i : Nat) : BufTy := match i % 128 with
  | 0 => ⟨S1x1x1024, .f32⟩
  | 1 => ⟨S1x1x1024, .f32⟩
  | 2 => ⟨S16x256x1024, .f32⟩
  | 3 => ⟨S16x256x1024, .f32⟩
  | 4 => ⟨S16x256x1024, .f32⟩
  | 5 => ⟨S16x256x1024, .f32⟩
  | 6 => ⟨S16x256x5632, .f32⟩
  | 7 => ⟨S16x256x2816, .f32⟩
  | 8 => ⟨S16x256x2816, .f32⟩
  | 9 => ⟨S_, .f32⟩
  | 10 => ⟨S1x1x1024, .f32⟩
  | 11 => ⟨S1x1x1024, .f32⟩
  | 12 => ⟨S16x256x2816, .f32⟩
  | 13 => ⟨S16x256x2816, .f32⟩
  | 14 => ⟨S_, .f32⟩
  | 15 => ⟨S16x256x2816, .f32⟩
  | 16 => ⟨S16x256x2816, .f32⟩
  | 17 => ⟨S_, .f32⟩
  | 18 => ⟨S16x256x2816, .f32⟩
  | 19 => ⟨S16x256x2816, .f32⟩
  | 20 => ⟨S16x256x2816, .f32⟩
  | 21 => ⟨S16x256x2816, .f32⟩
  | 22 => ⟨S16x256x1024, .f32⟩
  | 23 => ⟨S16x256x1024, .f32⟩
  | 24 => ⟨S16x256x1024, .f32⟩
  | 25 => ⟨S16x256x1024, .f32⟩
  | 26 => ⟨S32768x1024, .f32⟩
  | 27 => ⟨S4096x1024, .f32⟩
  | 28 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_cst_1 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_2 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_4 : Ref sig .tc := ⟨.hbm, 112, rfl⟩
abbrev main_v89 : Ref sig .tc := ⟨.hbm, 113, rfl⟩
abbrev main_v90 : Ref sig .tc := ⟨.hbm, 114, rfl⟩
abbrev main_cst_5 : Ref sig .tc := ⟨.hbm, 115, rfl⟩
abbrev main_v91 : Ref sig .tc := ⟨.hbm, 116, rfl⟩
abbrev main_v92 : Ref sig .tc := ⟨.hbm, 117, rfl⟩
abbrev main_cst_6 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_7 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_8 : Ref sig .tc := ⟨.hbm, 137, rfl⟩
abbrev main_v110 : Ref sig .tc := ⟨.hbm, 138, rfl⟩
abbrev main_v111 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩

abbrev nD : Nat := 1
abbrev τ : Topo := Topo.v7x

variable {F : FTy → Type} [FloatOps F]
-- ==== Kernel5.lean ====
abbrev S32768x1024 : Shape := ⟨2, ![32768, 1024]⟩
abbrev S4096x1024 : Shape := ⟨2, ![4096, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S36864x1024 : Shape := ⟨2, ![36864, 1024]⟩
abbrev S512x1024 : Shape := ⟨2, ![512, 1024]⟩
abbrev S1x9x1024 : Shape := ⟨3, ![1, 9, 1024]⟩
abbrev S1x1x1024x5632 : Shape := ⟨4, ![1, 1, 1024, 5632]⟩
abbrev S1x1x2816x1024 : Shape := ⟨4, ![1, 1, 2816, 1024]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S17x9x1024, .f32⟩
  | .hbm, ⟨3, _⟩ => ⟨S3x1024, .f32⟩
  | .hbm, ⟨4, _⟩ => ⟨S2x2x1024x5632, .f32⟩
  | .hbm, ⟨5, _⟩ => ⟨S2x2x2816x1024, .f32⟩
  | .hbm, ⟨6, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S3x1024, .f32⟩
  | .local _ .vmem, ⟨7, _⟩ => ⟨S1x1x1024x5632, .f32⟩
  | .local _ .vmem, ⟨8, _⟩ => ⟨S1x1x2816x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.minsi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S4096x1024 : Shape := ⟨2, ![4096, 1024]⟩
abbrev S17x9x1024 : Shape := ⟨3, ![17, 9, 1024]⟩
abbrev S3x1024 : Shape := ⟨2, ![3, 1024]⟩
abbrev S2x2x1024x5632 : Shape := ⟨4, ![2, 2, 1024, 5632]⟩
abbrev S2x2x2816x1024 : Shape := ⟨4, ![2, 2, 2816, 1024]⟩
abbrev S16x256x1024 : Shape := ⟨3, ![16, 256, 1024]⟩
abbrev S16x2048x1024 : Shape := ⟨3, ![16, 2048, 1024]⟩
abbrev S16x1x1024 : Shape := ⟨3, ![16, 1, 1024]⟩
abbrev S16x1024 : Shape := ⟨2, ![16, 1024]⟩
abbrev S1x1024 : Shape := ⟨2, ![1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S36864x1024 : Shape := ⟨2, ![36864, 1024]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S17x9x1024, .f32⟩
  | .hbm, ⟨3, _⟩ => ⟨S3x1024, .f32⟩
  | .hbm, ⟨4, _⟩ => ⟨S2x2x1024x5632, .f32⟩
  | .hbm, ⟨5, _⟩ => ⟨S2x2x2816x1024, .f32⟩
  | .hbm, ⟨6, _⟩ => ⟨S16x256x1024, .f32⟩
  | .hbm, ⟨7, _⟩ => ⟨S16x2048x1024, .f32⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S16x1x1024, .f32⟩
  | .hbm, ⟨12, _⟩ => ⟨S16x1024, .f32⟩
  | .hbm, ⟨13, _⟩ => ⟨S16x1x1024, .f32⟩
  | .hbm, ⟨14, _⟩ => ⟨S16x1x1024, .f32⟩
  | .hbm, ⟨15, _⟩ => ⟨S16x1024, .f32⟩
  | .hbm, ⟨16, _⟩ => ⟨S16x1x1024, .f32⟩
  | .hbm, ⟨17, _⟩ => ⟨S1x1024, .f32⟩
  | .hbm, ⟨18, _⟩ => ⟨S1024, .f32⟩
  | .hbm, ⟨19, _⟩ => ⟨S1x1x1024x5632, .f32⟩
  | .hbm, ⟨20, _⟩ => ⟨S1024x5632, .f32⟩
  | .hbm, ⟨21, _⟩ => ⟨S1x1x2816x1024, .f32⟩
  | .hbm, ⟨22, _⟩ => ⟨S2816x1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x5632, .f32⟩
  | .hbm, ⟨47, _⟩ => ⟨S16x2048x2816, .f32⟩
  | .hbm, ⟨48, _⟩ => ⟨S16x2048x2816, .f32⟩
  | .hbm, ⟨49, _⟩ => ⟨S_, .f32⟩
  | .hbm, ⟨50, _⟩ => ⟨S16x1x1024, .f32⟩
  | .hbm, ⟨51, _⟩ => ⟨S16x1x1024, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S1024, .f32⟩
  | .hbm, ⟨68, _⟩ => ⟨S1x1x1024, .f32⟩
  | .hbm, ⟨69, _⟩ => ⟨S1x1x1024, .f32⟩
  | .hbm, ⟨70, _⟩ => ⟨S1024, .f32⟩
  | .hbm, ⟨71, _⟩ => ⟨S1x1x1024, .f32⟩
  | .hbm, ⟨72, _⟩ => ⟨S1x1x1024, .f32⟩
  | .hbm, ⟨73, _⟩ => ⟨S1024, .f32⟩
  | .hbm, ⟨74, _⟩ => ⟨S1x1x1024, .f32⟩
  | .hbm, ⟨75, _⟩ => ⟨S1x1024, .f32⟩
  | .hbm, ⟨76, _⟩ => ⟨S1024, .f32⟩
  | .hbm, ⟨77, _⟩ => ⟨S1x1x1024x5632, .f32⟩
  | .hbm, ⟨78, _⟩ => ⟨S1024x5632, .f32⟩
  | .hbm, ⟨79, _⟩ => ⟨S1x1x2816x1024, .f32⟩
  | .hbm, ⟨80, _⟩ => ⟨S2816x1024, .f32⟩
  | .hbm, ⟨81, _⟩ => ⟨S16x256x1024, .f32⟩
  | .hbm, ⟨82, _⟩ => ⟨S_, .f32⟩
  | .hbm, ⟨83, _⟩ => ⟨S16x256, .f32⟩
  | .hbm, ⟨84, _⟩ => ⟨S16x256x1, .f32⟩
  | .hbm, ⟨85, _⟩ => ⟨S_, .f32⟩
  | .hbm, ⟨86, _⟩ => ⟨S16x256x1, .f32⟩
  | .hbm, ⟨87, _⟩ => ⟨S16x256x1, .f32⟩
  | .hbm, ⟨88, _⟩ => ⟨S_, .f32⟩
  | .hbm, ⟨89, _⟩ => ⟨S16x256x1, .f32⟩
  | .hbm, ⟨90, _⟩ => ⟨S16x256x1, .f32⟩
  | .hbm, ⟨91, _⟩ => ⟨S16x256x1, .f32⟩
  | .hbm, ⟨92, _⟩ => ⟨S16x256x1024, .f32⟩
  | .hbm, ⟨93, _⟩ => ⟨S16x256x1024, .f32⟩
  | .hbm, ⟨94, _⟩ => ⟨S1x1x1024, .f32⟩
  | .hbm, ⟨95, _⟩ => ⟨S16x256x1024, .f32⟩
  | .hbm, ⟨96, _⟩ => ⟨S16x256x1024, .f32⟩
  | .hbm, ⟨97, _⟩ => ⟨S_, .f32⟩
  | .hbm, ⟨98, _⟩ => ⟨S1x1x1024, .f32⟩
  | .hbm, ⟨99, _⟩ => ⟨S1x1x1024, .f32⟩
  | .hbm, ⟨100, _⟩ => ⟨S16x256x1024, .f32⟩
  | .hbm, ⟨101, _⟩ => ⟨S16x256x1024, .f32⟩
  | .hbm, ⟨102, _⟩ => ⟨S16x256x1024, .f32⟩
  | .hbm, ⟨103, _⟩ => ⟨S16x256x1024, .f32⟩
  | .hbm, ⟨104, _⟩ => ⟨S16x256x5632, .f32⟩
  | .hbm, ⟨105, _⟩ => ⟨S16x256x2816, .f32⟩
  | .hbm, ⟨106, _⟩ => ⟨S16x256x2816, .f32⟩
  | .hbm, ⟨107, _⟩ => ⟨S_, .f32⟩
  | .hbm, ⟨108, _⟩ => ⟨S1x1x1024, .f32⟩
  | .hbm, ⟨109, _⟩ => ⟨S1x1x1024, .f32⟩
  | .hbm, ⟨110, _⟩ => ⟨S16x256x2816, .f32⟩
  | .hbm, ⟨111, _⟩ => ⟨S16x256x2816, .f32⟩
  | .hbm, ⟨112, _⟩ => ⟨S_, .f32⟩
  | .hbm, ⟨113, _⟩ => ⟨S16x256x2816, .f32⟩
  | .hbm, ⟨114, _⟩ => ⟨S16x256x2816, .f32⟩
  | .hbm, ⟨115, _⟩ => ⟨S_, .f32⟩
  | .hbm, ⟨116, _⟩ => ⟨S16x256x2816, .f32⟩
  | .hbm, ⟨117, _⟩ => ⟨S16x256x2816, .f32⟩
  | .hbm, ⟨118, _⟩ => ⟨S16x256x2816, .f32⟩
  | .hbm, ⟨119, _⟩ => ⟨S16x256x2816, .f32⟩
  | .hbm, ⟨120, _⟩ => ⟨S16x256x1024, .f32⟩
  | .hbm, ⟨121, _⟩ => ⟨S16x256x1024, .f32⟩
  | .hbm, ⟨122, _⟩ => ⟨S16x256x1024, .f32⟩
  | .hbm, ⟨123, _⟩ => ⟨S16x256x1024, .f32⟩
  | .hbm, ⟨124, _⟩ => ⟨S32768x1024, .f32⟩
  | .hbm, ⟨125, _⟩ => ⟨S4096x1024, .f32⟩
  | .hbm, ⟨126, _⟩ => ⟨S36864x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_cst_6 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_7 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_8 : Ref sig .tc := ⟨.hbm, 107, rfl⟩
abbrev main_v84 : Ref sig .tc := ⟨.hbm, 108, rfl⟩
abbrev main_v85 : Ref sig .tc := ⟨.hbm, 109, rfl⟩
abbrev main_call1_v0 : Ref sig .tc := ⟨.hbm, 110, rfl⟩
abbrev main_call1_v1 : Ref sig .tc := ⟨.hbm, 111, rfl⟩
abbrev main_call1_cst : Ref sig .tc := ⟨.hbm, 112, rfl⟩
abbrev main_call1_v2 : Ref sig .tc := ⟨.hbm, 113, rfl⟩
abbrev main_call1_v3 : Ref sig .tc := ⟨.hbm, 114, rfl⟩
abbrev main_call1_cst_0 : Ref sig .tc := ⟨.hbm, 115, rfl⟩
abbrev main_call1_v4 : Ref sig .tc := ⟨.hbm, 116, rfl⟩
abbrev main_call1_v5 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Kernel6.lean ====
abbrev S36864x1024 : Shape := ⟨2, ![36864, 1024]⟩
abbrev S17x9x1024 : Shape := ⟨3, ![17, 9, 1024]⟩
abbrev S3x1024 : Shape := ⟨2, ![3, 1024]⟩
abbrev S1024x1792 : Shape := ⟨2, ![1024, 1792]⟩
abbrev S2048x64 : Shape := ⟨2, ![2048, 64]⟩
abbrev S1024x128 : Shape := ⟨2, ![1024, 128]⟩
abbrev S1024x512 : Shape := ⟨2, ![1024, 512]⟩
abbrev S1024x64 : Shape := ⟨2, ![1024, 64]⟩
abbrev S1024x1024 : Shape := ⟨2, ![1024, 1024]⟩
abbrev S1024x2048 : Shape := ⟨2, ![1024, 2048]⟩
abbrev S64 : Shape := ⟨1, ![64]⟩
abbrev S_ : Shape := ⟨0, ![]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x384 : Shape := ⟨2, ![2048, 384]⟩
abbrev S512x128 : Shape := ⟨2, ![512, 128]⟩
abbrev S512x256 : Shape := ⟨2, ![512, 256]⟩
abbrev S512x384 : Shape := ⟨2, ![512, 384]⟩
abbrev S2560x384 : Shape := ⟨2, ![2560, 384]⟩
abbrev S36864x512 : Shape := ⟨2, ![36864, 512]⟩
abbrev S512x1024 : Shape := ⟨2, ![512, 1024]⟩
abbrev S1x9x1024 : Shape := ⟨3, ![1, 9, 1024]⟩
abbrev S512x512 : Shape := ⟨2, ![512, 512]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x256 : Shape := ⟨2, ![1024, 256]⟩

abbrev nBuf : Space → Nat
  | .hbm => 74
  | .vmem => 14
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S1024x1792, .f32⟩
  | .hbm, ⟨4, _⟩ => ⟨S2048x64, .f32⟩
  | .hbm, ⟨5, _⟩ => ⟨S2048x64, .f32⟩
  | .hbm, ⟨6, _⟩ => ⟨S1024x128, .f32⟩
  | .hbm, ⟨7, _⟩ => ⟨S1024x128, .f32⟩
  | .hbm, ⟨8, _⟩ => ⟨S1024x512, .f32⟩
  | .hbm, ⟨9, _⟩ => ⟨S1024x64, .f32⟩
  | .hbm, ⟨10, _⟩ => ⟨S1024x64, .f32⟩
  | .hbm, ⟨11, _⟩ => ⟨S1024x128, .f32⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S64, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S_, .i32⟩
  | .hbm, ⟨34, _⟩ => ⟨S_, .i1⟩
  | .hbm, ⟨35, _⟩ => ⟨S64, .i1⟩
  | .hbm, ⟨36, _⟩ => ⟨S64, .i1⟩
  | .hbm, ⟨37, _⟩ => ⟨S64, .i1⟩
  | .hbm, ⟨38, _⟩ => ⟨S64, .i32⟩
  | .hbm, ⟨39, _⟩ => ⟨S64, .i32⟩
  | .hbm, ⟨40, _⟩ => ⟨S64, .i32⟩
  | .hbm, ⟨41, _⟩ => ⟨S_, .i32⟩
  | .hbm, ⟨42, _⟩ => ⟨S64, .i32⟩
  | .hbm, ⟨43, _⟩ => ⟨S64, .i1⟩
  | .hbm, ⟨44, _⟩ => ⟨S2048x64, .f32⟩
  | .hbm, ⟨45, _⟩ => ⟨S_, .f32⟩
  | .hbm, ⟨46, _⟩ => ⟨S_, .f32⟩
  | .hbm, ⟨47, _⟩ => ⟨S2048x64, .i1⟩
  | .hbm, ⟨48, _⟩ => ⟨S2048x64, .f32⟩
  | .hbm, ⟨49, _⟩ => ⟨S2048x64, .f32⟩
  | .hbm, ⟨50, _⟩ => ⟨S_, .f32⟩
  | .hbm, ⟨51, _⟩ => ⟨S_, .f32⟩
  | .hbm, ⟨52, _⟩ => ⟨S2048x64, .i1⟩
  | .hbm, ⟨53, _⟩ => ⟨S2048x64, .f32⟩
  | .hbm, ⟨54, _⟩ => ⟨S2048x64, .f32⟩
  | .hbm, ⟨55, _⟩ => ⟨S1x2048x1x64, .f32⟩
  | .hbm, ⟨56, _⟩ => ⟨S1x2048x2x64, .f32⟩
  | .hbm, ⟨57, _⟩ => ⟨S2048x128, .f32⟩
  | .hbm, ⟨58, _⟩ => ⟨S1x2048x1x64, .f32⟩
  | .hbm, ⟨59, _⟩ => ⟨S1x2048x2x64, .f32⟩
  | .hbm, ⟨60, _⟩ => ⟨S2048x128, .f32⟩
  | .hbm, ⟨61, _⟩ => ⟨S1x2048x1x64, .f32⟩
  | .hbm, ⟨62, _⟩ => ⟨S1x2048x2x64, .f32⟩
  | .hbm, ⟨63, _⟩ => ⟨S2048x128, .f32⟩
  | .hbm, ⟨64, _⟩ => ⟨S2048x384, .f32⟩
  | .hbm, ⟨65, _⟩ => ⟨S_, .f32⟩
  | .hbm, ⟨66, _⟩ => ⟨S512x128, .f32⟩
  | .hbm, ⟨67, _⟩ => ⟨S_, .f32⟩
  | .hbm, ⟨68, _⟩ => ⟨S512x256, .f32⟩
  | .hbm, ⟨69, _⟩ => ⟨S512x384, .f32⟩
  | .hbm, ⟨70, _⟩ => ⟨S2560x384, .f32⟩
  | .hbm, ⟨71, _⟩ => ⟨S36864x512, .bf16⟩
  | .hbm, ⟨72, _⟩ => ⟨S36864x512, .bf16⟩
  | .hbm, ⟨73, _⟩ => ⟨S36864x512, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x2048, .bf16⟩
  | .local _ .vmem, ⟨6, _⟩ => ⟨S512x384, .f32⟩
  | .local _ .vmem, ⟨7, _⟩ => ⟨S512x384, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v13 : Ref sig .tc := ⟨.hbm, 40, rfl⟩
abbrev main_c_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v17 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_2 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33_0 : Ref sig .tc := ⟨.hbm, 71, rfl⟩
abbrev main_v33_1 : Ref sig .tc := ⟨.hbm, 72, rfl⟩
abbrev main_v33_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.minsi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c64_i32 : BitVec 32 := 64#32
  let v0 : BitVec 1 := Scalar.cmpi .slt arg0 c64_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S36864x1024 : Shape := ⟨2, ![36864, 1024]⟩
abbrev S17x9x1024 : Shape := ⟨3, ![17, 9, 1024]⟩
abbrev S3x1024 : Shape := ⟨2, ![3, 1024]⟩
abbrev S1024x1792 : Shape := ⟨2, ![1024, 1792]⟩
abbrev S2048x64 : Shape := ⟨2, ![2048, 64]⟩
abbrev S1x1024 : Shape := ⟨2, ![1, 1024]⟩
abbrev S1024 : Shape := ⟨1, ![1024]⟩
abbrev S4096x1024 : Shape := ⟨2, ![4096, 1024]⟩
abbrev S16x256x1024 : Shape := ⟨3, ![16, 256, 1024]⟩
abbrev S32768x1024 : Shape := ⟨2, ![32768, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x1024 : Shape := ⟨2, ![16, 1024]⟩
abbrev S16x256 : Shape := ⟨2, ![16, 256]⟩
abbrev S16x256x1 : Shape := ⟨3, ![16, 256, 1]⟩
abbrev S16x2048x1792 : Shape := ⟨3, ![16, 2048, 1792]⟩
abbrev S16x256x1792 : Shape := ⟨3, ![16, 256, 1792]⟩
abbrev S16x2048x512 : Shape := ⟨3, ![16, 2048, 512]⟩
abbrev S16x2048x8x64 : Shape := ⟨4, ![16, 2048, 8, 64]⟩
abbrev S16x2048x8x2x2x16 : Shape := ⟨6, ![16, 2048, 8, 2, 2, 16]⟩
abbrev S16x2048x8x2x1x16 : Shape := ⟨6, ![16, 2048, 8, 2, 1, 16]⟩
abbrev S16x2048x8x2x16 : Shape := ⟨5, ![16, 2048, 8, 2, 16]⟩
abbrev S2048x1x64 : Shape := ⟨3, ![2048, 1, 64]⟩
abbrev S1x2048x1x64 : Shape := ⟨4, ![1, 2048, 1, 64]⟩
abbrev S16x2048x128 : Shape := ⟨3, ![16, 2048, 128]⟩
abbrev S16x2048x2x64 : Shape := ⟨4, ![16, 2048, 2, 64]⟩
abbrev S16x2048x2x2x2x16 : Shape := ⟨6, ![16, 2048, 2, 2, 2, 16]⟩
abbrev S16x2048x2x2x1x16 : Shape := ⟨6, ![16, 2048, 2, 2, 1, 16]⟩
abbrev S16x2048x2x2x16 : Shape := ⟨5, ![16, 2048, 2, 2, 16]⟩
abbrev S16x256x512 : Shape := ⟨3, ![16, 256, 512]⟩
abbrev S32768x512 : Shape := ⟨2, ![32768, 512]⟩
abbrev S4096x512 : Shape := ⟨2, ![4096, 512]⟩
abbrev S36864x512 : Shape := ⟨2, ![36864, 512]⟩
abbrev S16x256x128 : Shape := ⟨3, ![16, 256, 128]⟩
abbrev S32768x128 : Shape := ⟨2, ![32768, 128]⟩
abbrev S4096x128 : Shape := ⟨2, ![4096, 128]⟩
abbrev S36864x128 : Shape := ⟨2, ![36864, 128]⟩
abbrev S36864x64 : Shape := ⟨2, ![36864, 64]⟩

abbrev nBuf : Space → Nat
  | .hbm => 153
  | .vmem => 0
  | .smem => 0
  | _ => 0

abbrev hbmTy0_0 (i : Nat) : BufTy := match i % 128 with
  | 0 => ⟨S36864x1024, .f32⟩
  | 1 => ⟨S17x9x1024, .f32⟩
  | 2 => ⟨S3x1024, .f32⟩
  | 3 => ⟨S1024x1792, .f32⟩
  | 4 => ⟨S2048x64, .f32⟩
  | 5 => ⟨S2048x64, .f32⟩
  | 6 => ⟨S1x1024, .f32⟩
  | 7 => ⟨S1024, .f32⟩
  | 8 => ⟨S4096x1024, .f32⟩
  | 9 => ⟨S16x256x1024, .f32⟩
  | 10 => ⟨S32768x1024, .f32⟩
  | 11 => ⟨S16x2048x1024, .f32⟩
  | 12 => ⟨S16x2048x1024, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x1024, .f32⟩
  | 24 => ⟨S16x2048x1024, .f32⟩
  | 25 => ⟨S1x1x1024, .f32⟩
  | 26 => ⟨S16x2048x1024, .f32⟩
  | 27 => ⟨S16x2048x1024, .f32⟩
  | 28 => ⟨S16x1x1024, .f32⟩
  | 29 => ⟨S16x1024, .f32⟩
  | 30 => ⟨S16x1x1024, .f32⟩
  | 31 => ⟨S_, .f32⟩
  | 32 => ⟨S16x1x1024, .f32⟩
  | 33 => ⟨S16x1x1024, .f32⟩
  | 34 => ⟨S16x2048x1024, .f32⟩
  | 35 => ⟨S16x2048x1024, .f32⟩
  | 36 => ⟨S16x1x1024, .f32⟩
  | 37 => ⟨S16x1024, .f32⟩
  | 38 => ⟨S16x1x1024, .f32⟩
  | 39 => ⟨S16x2048x1024, .f32⟩
  | 40 => ⟨S16x2048x1024, .f32⟩
  | 41 => ⟨S16x256x1024, .f32⟩
  | 42 => ⟨S_, .f32⟩
  | 43 => ⟨S16x256, .f32⟩
  | 44 => ⟨S16x256x1, .f32⟩
  | 45 => ⟨S_, .f32⟩
  | 46 => ⟨S16x256x1, .f32⟩
  | 47 => ⟨S16x256x1, .f32⟩
  | 48 => ⟨S_, .f32⟩
  | 49 => ⟨S16x256x1, .f32⟩
  | 50 => ⟨S16x256x1, .f32⟩
  | 51 => ⟨S16x256x1, .f32⟩
  | 52 => ⟨S16x256x1024, .f32⟩
  | 53 => ⟨S16x256x1024, .f32⟩
  | 54 => ⟨S1x1x1024, .f32⟩
  | 55 => ⟨S16x256x1024, .f32⟩
  | 56 => ⟨S16x256x1024, .f32⟩
  | 57 => ⟨S1x1x1024, .f32⟩
  | 58 => ⟨S1024, .f32⟩
  | 59 => ⟨S1x1x1024, .f32⟩
  | 60 => ⟨S_, .f32⟩
  | 61 => ⟨S1x1x1024, .f32⟩
  | 62 => ⟨S1x1x1024, .f32⟩
  | 63 => ⟨S16x256x1024, .f32⟩
  | 64 => ⟨S16x256x1024, .f32⟩
  | 65 => ⟨S1x1x1024, .f32⟩
  | 66 => ⟨S1024, .f32⟩
  | 67 => ⟨S1x1x1024, .f32⟩
  | 68 => ⟨S16x256x1024, .f32⟩
  | 69 => ⟨S16x256x1024, .f32⟩
  | 70 => ⟨S16x2048x1792, .f32⟩
  | 71 => ⟨S16x256x1792, .f32⟩
  | 72 => ⟨S16x2048x512, .f32⟩
  | 73 => ⟨S16x2048x8x64, .f32⟩
  | 74 => ⟨S16x2048x8x2x2x16, .f32⟩
  | 75 => ⟨S16x2048x8x2x1x16, .f32⟩
  | 76 => ⟨S16x2048x8x2x16, .f32⟩
  | 77 => ⟨S16x2048x8x2x16, .f32⟩
  | 78 => ⟨S16x2048x8x2x1x16, .f32⟩
  | 79 => ⟨S16x2048x8x2x16, .f32⟩
  | 80 => ⟨S16x2048x8x2x1x16, .f32⟩
  | 81 => ⟨S16x2048x8x2x1x16, .f32⟩
  | 82 => ⟨S16x2048x8x2x2x16, .f32⟩
  | 83 => ⟨S16x2048x8x64, .f32⟩
  | 84 => ⟨S2048x1x64, .f32⟩
  | 85 => ⟨S1x2048x1x64, .f32⟩
  | 86 => ⟨S16x2048x8x64, .f32⟩
  | 87 => ⟨S16x2048x8x64, .f32⟩
  | 88 => ⟨S2048x1x64, .f32⟩
  | 89 => ⟨S1x2048x1x64, .f32⟩
  | 90 => ⟨S16x2048x8x64, .f32⟩
  | 91 => ⟨S16x2048x8x64, .f32⟩
  | 92 => ⟨S16x2048x8x64, .f32⟩
  | 93 => ⟨S16x2048x128, .f32⟩
  | 94 => ⟨S16x2048x2x64, .f32⟩
  | 95 => ⟨S16x2048x2x2x2x16, .f32⟩
  | 96 => ⟨S16x2048x2x2x1x16, .f32⟩
  | 97 => ⟨S16x2048x2x2x16, .f32⟩
  | 98 => ⟨S16x2048x2x2x16, .f32⟩
  | 99 => ⟨S16x2048x2x2x1x16, .f32⟩
  | 100 => ⟨S16x2048x2x2x16, .f32⟩
  | 101 => ⟨S16x2048x2x2x1x16, .f32⟩
  | 102 => ⟨S16x2048x2x2x1x16, .f32⟩
  | 103 => ⟨S16x2048x2x2x2x16, .f32⟩
  | 104 => ⟨S16x2048x2x64, .f32⟩
  | 105 => ⟨S2048x1x64, .f32⟩
  | 106 => ⟨S1x2048x1x64, .f32⟩
  | 107 => ⟨S16x2048x2x64, .f32⟩
  | 108 => ⟨S16x2048x2x64, .f32⟩
  | 109 => ⟨S2048x1x64, .f32⟩
  | 110 => ⟨S1x2048x1x64, .f32⟩
  | 111 => ⟨S16x2048x2x64, .f32⟩
  | 112 => ⟨S16x2048x2x64, .f32⟩
  | 113 => ⟨S16x2048x2x64, .f32⟩
  | 114 => ⟨S16x256x512, .f32⟩
  | 115 => ⟨S32768x512, .f32⟩
  | 116 => ⟨S4096x512, .f32⟩
  | 117 => ⟨S36864x512, .f32⟩
  | 118 => ⟨S_, .f32⟩
  | 119 => ⟨S36864x512, .f32⟩
  | 120 => ⟨S36864x512, .f32⟩
  | 121 => ⟨S16x256x128, .f32⟩
  | 122 => ⟨S32768x128, .f32⟩
  | 123 => ⟨S4096x128, .f32⟩
  | 124 => ⟨S36864x128, .f32⟩
  | 125 => ⟨S16x2048x128, .f32⟩
  | 126 => ⟨S16x256x128, .f32⟩
  | 127 => ⟨S32768x128, .f32⟩
  | _ => ⟨S36864x1024, .f32⟩

abbrev hbmTy0_1 (i : Nat) : BufTy := match i % 128 with
  | 0 => ⟨S4096x128, .f32⟩
  | 1 => ⟨S36864x128, .f32⟩
  | 2 => ⟨S16x2048x1024, .f32⟩
  | 3 => ⟨S16x256x1024, .f32⟩
  | 4 => ⟨S32768x1024, .f32⟩
  | 5 => ⟨S4096x1024, .f32⟩
  | 6 => ⟨S36864x1024, .f32⟩
  | 7 => ⟨S36864x64, .f32⟩
  | 8 => ⟨S36864x64, .f32⟩
  | 9 => ⟨S36864x64, .f32⟩
  | 10 => ⟨S36864x64, .f32⟩
  | 11 => ⟨S36864x512, .f32⟩
  | 12 => ⟨S36864x512, .f32⟩
  | 13 => ⟨S36864x512, .f32⟩
  | 14 => ⟨S36864x512, .bf16⟩
  | 15 => ⟨S36864x512, .bf16⟩
  | 16 => ⟨S36864x512, .f32⟩
  | 17 => ⟨S36864x512, .f32⟩
  | 18 => ⟨S_, .f32⟩
  | 19 => ⟨S36864x512, .f32⟩
  | 20 => ⟨S36864x512, .f32⟩
  | 21 => ⟨S_, .f32⟩
  | 22 => ⟨S36864x512, .f32⟩
  | 23 => ⟨S36864x512, .f32⟩
  | 24 => ⟨S36864x512, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_cst_7 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_cst_8 : Ref sig .tc := ⟨.hbm, 146, rfl⟩
abbrev main_v131 : Ref sig .tc := ⟨.hbm, 147, rfl⟩
abbrev main_v132 : Ref sig .tc := ⟨.hbm, 148, rfl⟩
abbrev main_cst_9 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩

abbrev nD : Nat := 1
abbrev τ : Topo := Topo.v7x

variable {F : FTy → Type} [FloatOps F]
-- ==== Kernel7.lean ====
abbrev S36864x1024 : Shape := ⟨2, ![36864, 1024]⟩
abbrev S17x9x1024 : Shape := ⟨3, ![17, 9, 1024]⟩
abbrev S3x1024 : Shape := ⟨2, ![3, 1024]⟩
abbrev S1024x256 : Shape := ⟨2, ![1024, 256]⟩
abbrev S256 : Shape := ⟨1, ![256]⟩
abbrev S256x1536 : Shape := ⟨2, ![256, 1536]⟩
abbrev S1024x320 : Shape := ⟨2, ![1024, 320]⟩
abbrev S256x1024 : Shape := ⟨2, ![256, 1024]⟩
abbrev S2048x64 : Shape := ⟨2, ![2048, 64]⟩
abbrev S_ : Shape := ⟨0, ![]⟩
abbrev S1024x64 : Shape := ⟨2, ![1024, 64]⟩
abbrev S1024x640 : Shape := ⟨2, ![1024, 640]⟩
abbrev S256x8x192 : Shape := ⟨3, ![256, 8, 192]⟩
abbrev S256x8x256 : Shape := ⟨3, ![256, 8, 256]⟩
abbrev S256x2048 : Shape := ⟨2, ![256, 2048]⟩
abbrev S1x256 : Shape := ⟨2, ![1, 256]⟩
abbrev S64 : Shape := ⟨1, ![64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x384 : Shape := ⟨2, ![2048, 384]⟩
abbrev S512x128 : Shape := ⟨2, ![512, 128]⟩
abbrev S512x256 : Shape := ⟨2, ![512, 256]⟩
abbrev S512x384 : Shape := ⟨2, ![512, 384]⟩
abbrev S2560x384 : Shape := ⟨2, ![2560, 384]⟩
abbrev S36864x2048 : Shape := ⟨2, ![36864, 2048]⟩
abbrev S1024x36864 : Shape := ⟨2, ![1024, 36864]⟩
abbrev S512x1024 : Shape := ⟨2, ![512, 1024]⟩
abbrev S1x9x1024 : Shape := ⟨3, ![1, 9, 1024]⟩
abbrev S512x2048 : Shape := ⟨2, ![512, 2048]⟩
abbrev S1024x512 : Shape := ⟨2, ![1024, 512]⟩
abbrev S9x1024 : Shape := ⟨2, ![9, 1024]⟩
abbrev S1x1024 : Shape := ⟨2, ![1, 1024]⟩
abbrev S512 : Shape := ⟨1, ![512]⟩
abbrev S512x1 : Shape := ⟨2, ![512, 1]⟩
abbrev S512x640 : Shape := ⟨2, ![512, 640]⟩

abbrev nBuf : Space → Nat
  | .hbm => 83
  | .vmem => 19
  | .smem => 0
  | _ => 0

abbrev bufTy : (tb : Table) → Fin (tcTables nBuf tb) → BufTy
  | .hbm, ⟨0, _⟩ => ⟨S36864x1024, .f32⟩
  | .hbm, ⟨1, _⟩ => ⟨S17x9x1024, .f32⟩
  | .hbm, ⟨2, _⟩ => ⟨S3x1024, .f32⟩
  | .hbm, ⟨3, _⟩ => ⟨S1024x256, .f32⟩
  | .hbm, ⟨4, _⟩ => ⟨S256, .f32⟩
  | .hbm, ⟨5, _⟩ => ⟨S256x1536, .f32⟩
  | .hbm, ⟨6, _⟩ => ⟨S1024x320, .f32⟩
  | .hbm, ⟨7, _⟩ => ⟨S256, .f32⟩
  | .hbm, ⟨8, _⟩ => ⟨S256x1024, .f32⟩
  | .hbm, ⟨9, _⟩ => ⟨S256x1024, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S1024x64, .f32⟩
  | .hbm, ⟨14, _⟩ => ⟨S1024x640, .f32⟩
  | .hbm, ⟨15, _⟩ => ⟨S1024x640, .bf16⟩
  | .hbm, ⟨16, _⟩ => ⟨S256x8x192, .f32⟩
  | .hbm, ⟨17, _⟩ => ⟨S_, .i32⟩
  | .hbm, ⟨18, _⟩ => ⟨S_, .f32⟩
  | .hbm, ⟨19, _⟩ => ⟨S256x8x256, .f32⟩
  | .hbm, ⟨20, _⟩ => ⟨S256x2048, .f32⟩
  | .hbm, ⟨21, _⟩ => ⟨S1x256, .f32⟩
  | .hbm, ⟨22, _⟩ => ⟨S1x256, .f32⟩
  | .hbm, ⟨23, _⟩ => ⟨S256x2048, .bf16⟩
  | .hbm, ⟨24, _⟩ => ⟨S256x1024, .bf16⟩
  | .hbm, ⟨25, _⟩ => ⟨S1024x256, .f32⟩
  | .hbm, ⟨26, _⟩ => ⟨S1024x256, .bf16⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i1⟩
  | .hbm, ⟨42, _⟩ => ⟨S_, .i32⟩
  | .hbm, ⟨43, _⟩ => ⟨S_, .i1⟩
  | .hbm, ⟨44, _⟩ => ⟨S64, .i1⟩
  | .hbm, ⟨45, _⟩ => ⟨S64, .i1⟩
  | .hbm, ⟨46, _⟩ => ⟨S64, .i1⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S2048x64, .f32⟩
  | .hbm, ⟨54, _⟩ => ⟨S_, .f32⟩
  | .hbm, ⟨55, _⟩ => ⟨S_, .f32⟩
  | .hbm, ⟨56, _⟩ => ⟨S2048x64, .i1⟩
  | .hbm, ⟨57, _⟩ => ⟨S2048x64, .f32⟩
  | .hbm, ⟨58, _⟩ => ⟨S2048x64, .f32⟩
  | .hbm, ⟨59, _⟩ => ⟨S_, .f32⟩
  | .hbm, ⟨60, _⟩ => ⟨S_, .f32⟩
  | .hbm, ⟨61, _⟩ => ⟨S2048x64, .i1⟩
  | .hbm, ⟨62, _⟩ => ⟨S2048x64, .f32⟩
  | .hbm, ⟨63, _⟩ => ⟨S2048x64, .f32⟩
  | .hbm, ⟨64, _⟩ => ⟨S1x2048x1x64, .f32⟩
  | .hbm, ⟨65, _⟩ => ⟨S1x2048x2x64, .f32⟩
  | .hbm, ⟨66, _⟩ => ⟨S2048x128, .f32⟩
  | .hbm, ⟨67, _⟩ => ⟨S1x2048x1x64, .f32⟩
  | .hbm, ⟨68, _⟩ => ⟨S1x2048x2x64, .f32⟩
  | .hbm, ⟨69, _⟩ => ⟨S2048x128, .f32⟩
  | .hbm, ⟨70, _⟩ => ⟨S1x2048x1x64, .f32⟩
  | .hbm, ⟨71, _⟩ => ⟨S1x2048x2x64, .f32⟩
  | .hbm, ⟨72, _⟩ => ⟨S2048x128, .f32⟩
  | .hbm, ⟨73, _⟩ => ⟨S2048x384, .f32⟩
  | .hbm, ⟨74, _⟩ => ⟨S_, .f32⟩
  | .hbm, ⟨75, _⟩ => ⟨S512x128, .f32⟩
  | .hbm, ⟨76, _⟩ => ⟨S_, .f32⟩
  | .hbm, ⟨77, _⟩ => ⟨S512x256, .f32⟩
  | .hbm, ⟨78, _⟩ => ⟨S512x384, .f32⟩
  | .hbm, ⟨79, _⟩ => ⟨S2560x384, .f32⟩
  | .hbm, ⟨80, _⟩ => ⟨S36864x2048, .bf16⟩
  | .hbm, ⟨81, _⟩ => ⟨S36864x2048, .bf16⟩
  | .hbm, ⟨82, _⟩ => ⟨S1024x36864, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x640, .bf16⟩
  | .local _ .vmem, ⟨6, _⟩ => ⟨S1x256, .f32⟩
  | .local _ .vmem, ⟨7, _⟩ => ⟨S1x256, .f32⟩
  | .local _ .vmem, ⟨8, _⟩ => ⟨S256x2048, .bf16⟩
  | .local _ .vmem, ⟨9, _⟩ => ⟨S256x1024, .bf16⟩
  | .local _ .vmem, ⟨10, _⟩ => ⟨S1024x256, .bf16⟩
  | .local _ .vmem, ⟨11, _⟩ => ⟨S512x384, .f32⟩
  | .local _ .vmem, ⟨12, _⟩ => ⟨S512x384, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S1024x512, .bf16⟩
  | .local _ .vmem, ⟨18, _⟩ => ⟨S1024x512, .bf16⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v13 : Ref sig .tc := ⟨.hbm, 49, rfl⟩
abbrev main_c_1 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_2 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v17 : Ref sig .tc := ⟨.hbm, 58, rfl⟩
abbrev main_cst_3 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33_0 : Ref sig .tc := ⟨.hbm, 80, rfl⟩
abbrev main_v33_1 : Ref sig .tc := ⟨.hbm, 81, rfl⟩
abbrev main_v33_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.minsi v17 c16_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c64_i32 : BitVec 32 := 64#32
  let v0 : BitVec 1 := Scalar.cmpi .slt arg0 c64_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S36864x1024 : Shape := ⟨2, ![36864, 1024]⟩
abbrev S17x9x1024 : Shape := ⟨3, ![17, 9, 1024]⟩
abbrev S3x1024 : Shape := ⟨2, ![3, 1024]⟩
abbrev S1024x256 : Shape := ⟨2, ![1024, 256]⟩
abbrev S256 : Shape := ⟨1, ![256]⟩
abbrev S256x1536 : Shape := ⟨2, ![256, 1536]⟩
abbrev S1024x320 : Shape := ⟨2, ![1024, 320]⟩
abbrev S256x1024 : Shape := ⟨2, ![256, 1024]⟩
abbrev S2048x64 : Shape := ⟨2, ![2048, 64]⟩
abbrev S1x1024 : Shape := ⟨2, ![1, 1024]⟩
abbrev S1024 : Shape := ⟨1, ![1024]⟩
abbrev S4096x1024 : Shape := ⟨2, ![4096, 1024]⟩
abbrev S16x256x1024 : Shape := ⟨3, ![16, 256, 1024]⟩
abbrev S32768x1024 : Shape := ⟨2, ![32768, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x1024 : Shape := ⟨2, ![16, 1024]⟩
abbrev S16x256 : Shape := ⟨2, ![16, 256]⟩
abbrev S16x256x1 : Shape := ⟨3, ![16, 256, 1]⟩
abbrev S16x2048x256 : Shape := ⟨3, ![16, 2048, 256]⟩
abbrev S1x1x256 : Shape := ⟨3, ![1, 1, 256]⟩
abbrev S16x2048x1536 : Shape := ⟨3, ![16, 2048, 1536]⟩
abbrev S16x2048x8x192 : Shape := ⟨4, ![16, 2048, 8, 192]⟩
abbrev S16x2048x8x128 : Shape := ⟨4, ![16, 2048, 8, 128]⟩
abbrev S16x2048x8x64 : Shape := ⟨4, ![16, 2048, 8, 64]⟩
abbrev S16x2048x8x2x2x16 : Shape := ⟨6, ![16, 2048, 8, 2, 2, 16]⟩
abbrev S16x2048x8x2x1x16 : Shape := ⟨6, ![16, 2048, 8, 2, 1, 16]⟩
abbrev S16x2048x8x2x16 : Shape := ⟨5, ![16, 2048, 8, 2, 16]⟩
abbrev S2048x1x64 : Shape := ⟨3, ![2048, 1, 64]⟩
abbrev S1x2048x1x64 : Shape := ⟨4, ![1, 2048, 1, 64]⟩
abbrev S16x2048x8x256 : Shape := ⟨4, ![16, 2048, 8, 256]⟩
abbrev S16x256x256 : Shape := ⟨3, ![16, 256, 256]⟩
abbrev S16x256x1536 : Shape := ⟨3, ![16, 256, 1536]⟩
abbrev S16x256x8x192 : Shape := ⟨4, ![16, 256, 8, 192]⟩
abbrev S16x256x8x128 : Shape := ⟨4, ![16, 256, 8, 128]⟩
abbrev S16x256x8x64 : Shape := ⟨4, ![16, 256, 8, 64]⟩
abbrev S16x256x8x256 : Shape := ⟨4, ![16, 256, 8, 256]⟩
abbrev S32768x2048 : Shape := ⟨2, ![32768, 2048]⟩
abbrev S4096x2048 : Shape := ⟨2, ![4096, 2048]⟩
abbrev S36864x2048 : Shape := ⟨2, ![36864, 2048]⟩
abbrev S16x2048x320 : Shape := ⟨3, ![16, 2048, 320]⟩
abbrev S16x2048x64 : Shape := ⟨3, ![16, 2048, 64]⟩
abbrev S16x2048x1x64 : Shape := ⟨4, ![16, 2048, 1, 64]⟩
abbrev S16x2048x1x2x2x16 : Shape := ⟨6, ![16, 2048, 1, 2, 2, 16]⟩
abbrev S16x2048x1x2x1x16 : Shape := ⟨6, ![16, 2048, 1, 2, 1, 16]⟩
abbrev S16x2048x1x2x16 : Shape := ⟨5, ![16, 2048, 1, 2, 16]⟩
abbrev S16x256x320 : Shape := ⟨3, ![16, 256, 320]⟩
abbrev S16x256x64 : Shape := ⟨3, ![16, 256, 64]⟩
abbrev S16x256x1x64 : Shape := ⟨4, ![16, 256, 1, 64]⟩
abbrev S1024x36864 : Shape := ⟨2, ![1024, 36864]⟩

abbrev nBuf : Space → Nat
  | .hbm => 238
  | .vmem => 0
  | .smem => 0
  | _ => 0

abbrev hbmTy0_0 (i : Nat) : BufTy := match i % 128 with
  | 0 => ⟨S36864x1024, .f32⟩
  | 1 => ⟨S17x9x1024, .f32⟩
  | 2 => ⟨S3x1024, .f32⟩
  | 3 => ⟨S1024x256, .f32⟩
  | 4 => ⟨S256, .f32⟩
  | 5 => ⟨S256x1536, .f32⟩
  | 6 => ⟨S1024x320, .f32⟩
  | 7 => ⟨S256, .f32⟩
  | 8 => ⟨S256x1024, .f32⟩
  | 9 => ⟨S256x1024, .f32⟩
  | 10 => ⟨S2048x64, .f32⟩
  | 11 => ⟨S2048x64, .f32⟩
  | 12 => ⟨S1x1024, .f32⟩
  | 13 => ⟨S1024, .f32⟩
  | 14 => ⟨S4096x1024, .f32⟩
  | 15 => ⟨S16x256x1024, .f32⟩
  | 16 => ⟨S32768x1024, .f32⟩
  | 17 => ⟨S16x2048x1024, .f32⟩
  | 18 => ⟨S16x2048x1024, .f32⟩
  | 19 => ⟨S_, .f32⟩
  | 20 => ⟨S16x2048, .f32⟩
  | 21 => ⟨S16x2048x1, .f32⟩
  | 22 => ⟨S_, .f32⟩
  | 23 => ⟨S16x2048x1, .f32⟩
  | 24 => ⟨S16x2048x1, .f32⟩
  | 25 => ⟨S_, .f32⟩
  | 26 => ⟨S16x2048x1, .f32⟩
  | 27 => ⟨S16x2048x1, .f32⟩
  | 28 => ⟨S16x2048x1, .f32⟩
  | 29 => ⟨S16x2048x1024, .f32⟩
  | 30 => ⟨S16x2048x1024, .f32⟩
  | 31 => ⟨S1x1x1024, .f32⟩
  | 32 => ⟨S16x2048x1024, .f32⟩
  | 33 => ⟨S16x2048x1024, .f32⟩
  | 34 => ⟨S16x1x1024, .f32⟩
  | 35 => ⟨S16x1024, .f32⟩
  | 36 => ⟨S16x1x1024, .f32⟩
  | 37 => ⟨S_, .f32⟩
  | 38 => ⟨S16x1x1024, .f32⟩
  | 39 => ⟨S16x1x1024, .f32⟩
  | 40 => ⟨S16x2048x1024, .f32⟩
  | 41 => ⟨S16x2048x1024, .f32⟩
  | 42 => ⟨S16x1x1024, .f32⟩
  | 43 => ⟨S16x1024, .f32⟩
  | 44 => ⟨S16x1x1024, .f32⟩
  | 45 => ⟨S16x2048x1024, .f32⟩
  | 46 => ⟨S16x2048x1024, .f32⟩
  | 47 => ⟨S16x256x1024, .f32⟩
  | 48 => ⟨S_, .f32⟩
  | 49 => ⟨S16x256, .f32⟩
  | 50 => ⟨S16x256x1, .f32⟩
  | 51 => ⟨S_, .f32⟩
  | 52 => ⟨S16x256x1, .f32⟩
  | 53 => ⟨S16x256x1, .f32⟩
  | 54 => ⟨S_, .f32⟩
  | 55 => ⟨S16x256x1, .f32⟩
  | 56 => ⟨S16x256x1, .f32⟩
  | 57 => ⟨S16x256x1, .f32⟩
  | 58 => ⟨S16x256x1024, .f32⟩
  | 59 => ⟨S16x256x1024, .f32⟩
  | 60 => ⟨S1x1x1024, .f32⟩
  | 61 => ⟨S16x256x1024, .f32⟩
  | 62 => ⟨S16x256x1024, .f32⟩
  | 63 => ⟨S1x1x1024, .f32⟩
  | 64 => ⟨S1024, .f32⟩
  | 65 => ⟨S1x1x1024, .f32⟩
  | 66 => ⟨S_, .f32⟩
  | 67 => ⟨S1x1x1024, .f32⟩
  | 68 => ⟨S1x1x1024, .f32⟩
  | 69 => ⟨S16x256x1024, .f32⟩
  | 70 => ⟨S16x256x1024, .f32⟩
  | 71 => ⟨S1x1x1024, .f32⟩
  | 72 => ⟨S1024, .f32⟩
  | 73 => ⟨S1x1x1024, .f32⟩
  | 74 => ⟨S16x256x1024, .f32⟩
  | 75 => ⟨S16x256x1024, .f32⟩
  | 76 => ⟨S16x2048x256, .f32⟩
  | 77 => ⟨S16x2048x256, .f32⟩
  | 78 => ⟨S_, .f32⟩
  | 79 => ⟨S16x2048, .f32⟩
  | 80 => ⟨S16x2048x1, .f32⟩
  | 81 => ⟨S_, .f32⟩
  | 82 => ⟨S16x2048x1, .f32⟩
  | 83 => ⟨S16x2048x1, .f32⟩
  | 84 => ⟨S_, .f32⟩
  | 85 => ⟨S16x2048x1, .f32⟩
  | 86 => ⟨S16x2048x1, .f32⟩
  | 87 => ⟨S16x2048x1, .f32⟩
  | 88 => ⟨S16x2048x256, .f32⟩
  | 89 => ⟨S16x2048x256, .f32⟩
  | 90 => ⟨S1x1x256, .f32⟩
  | 91 => ⟨S16x2048x256, .f32⟩
  | 92 => ⟨S16x2048x256, .f32⟩
  | 93 => ⟨S16x2048x1536, .f32⟩
  | 94 => ⟨S16x2048x8x192, .f32⟩
  | 95 => ⟨S16x2048x8x128, .f32⟩
  | 96 => ⟨S16x2048x8x64, .f32⟩
  | 97 => ⟨S16x2048x8x2x2x16, .f32⟩
  | 98 => ⟨S16x2048x8x2x1x16, .f32⟩
  | 99 => ⟨S16x2048x8x2x16, .f32⟩
  | 100 => ⟨S16x2048x8x2x16, .f32⟩
  | 101 => ⟨S16x2048x8x2x1x16, .f32⟩
  | 102 => ⟨S16x2048x8x2x16, .f32⟩
  | 103 => ⟨S16x2048x8x2x1x16, .f32⟩
  | 104 => ⟨S16x2048x8x2x1x16, .f32⟩
  | 105 => ⟨S16x2048x8x2x2x16, .f32⟩
  | 106 => ⟨S16x2048x8x64, .f32⟩
  | 107 => ⟨S2048x1x64, .f32⟩
  | 108 => ⟨S1x2048x1x64, .f32⟩
  | 109 => ⟨S16x2048x8x64, .f32⟩
  | 110 => ⟨S16x2048x8x64, .f32⟩
  | 111 => ⟨S2048x1x64, .f32⟩
  | 112 => ⟨S1x2048x1x64, .f32⟩
  | 113 => ⟨S16x2048x8x64, .f32⟩
  | 114 => ⟨S16x2048x8x64, .f32⟩
  | 115 => ⟨S16x2048x8x64, .f32⟩
  | 116 => ⟨S16x2048x8x192, .f32⟩
  | 117 => ⟨S_, .f32⟩
  | 118 => ⟨S16x2048x8x64, .f32⟩
  | 119 => ⟨S16x2048x8x256, .f32⟩
  | 120 => ⟨S16x256x256, .f32⟩
  | 121 => ⟨S16x256x256, .f32⟩
  | 122 => ⟨S_, .f32⟩
  | 123 => ⟨S16x256, .f32⟩
  | 124 => ⟨S16x256x1, .f32⟩
  | 125 => ⟨S_, .f32⟩
  | 126 => ⟨S16x256x1, .f32⟩
  | 127 => ⟨S16x256x1, .f32⟩
  | _ => ⟨S36864x1024, .f32⟩

abbrev hbmTy0_1 (i : Nat) : BufTy := match i % 128 with
  | 0 => ⟨S_, .f32⟩
  | 1 => ⟨S16x256x1, .f32⟩
  | 2 => ⟨S16x256x1, .f32⟩
  | 3 => ⟨S16x256x1, .f32⟩
  | 4 => ⟨S16x256x256, .f32⟩
  | 5 => ⟨S16x256x256, .f32⟩
  | 6 => ⟨S1x1x256, .f32⟩
  | 7 => ⟨S16x256x256, .f32⟩
  | 8 => ⟨S16x256x256, .f32⟩
  | 9 => ⟨S16x256x1536, .f32⟩
  | 10 => ⟨S16x256x8x192, .f32⟩
  | 11 => ⟨S16x256x8x128, .f32⟩
  | 12 => ⟨S16x256x8x64, .f32⟩
  | 13 => ⟨S16x256x8x192, .f32⟩
  | 14 => ⟨S_, .f32⟩
  | 15 => ⟨S16x256x8x64, .f32⟩
  | 16 => ⟨S16x256x8x256, .f32⟩
  | 17 => ⟨S32768x2048, .f32⟩
  | 18 => ⟨S4096x2048, .f32⟩
  | 19 => ⟨S36864x2048, .f32⟩
  | 20 => ⟨S_, .f32⟩
  | 21 => ⟨S36864x2048, .f32⟩
  | 22 => ⟨S36864x2048, .f32⟩
  | 23 => ⟨S16x2048x320, .f32⟩
  | 24 => ⟨S16x2048x256, .f32⟩
  | 25 => ⟨S16x2048x256, .f32⟩
  | 26 => ⟨S_, .f32⟩
  | 27 => ⟨S16x2048, .f32⟩
  | 28 => ⟨S16x2048x1, .f32⟩
  | 29 => ⟨S_, .f32⟩
  | 30 => ⟨S16x2048x1, .f32⟩
  | 31 => ⟨S16x2048x1, .f32⟩
  | 32 => ⟨S_, .f32⟩
  | 33 => ⟨S16x2048x1, .f32⟩
  | 34 => ⟨S16x2048x1, .f32⟩
  | 35 => ⟨S16x2048x1, .f32⟩
  | 36 => ⟨S16x2048x256, .f32⟩
  | 37 => ⟨S16x2048x256, .f32⟩
  | 38 => ⟨S1x1x256, .f32⟩
  | 39 => ⟨S16x2048x256, .f32⟩
  | 40 => ⟨S16x2048x256, .f32⟩
  | 41 => ⟨S16x2048x64, .f32⟩
  | 42 => ⟨S16x2048x1x64, .f32⟩
  | 43 => ⟨S16x2048x1x2x2x16, .f32⟩
  | 44 => ⟨S16x2048x1x2x1x16, .f32⟩
  | 45 => ⟨S16x2048x1x2x16, .f32⟩
  | 46 => ⟨S16x2048x1x2x16, .f32⟩
  | 47 => ⟨S16x2048x1x2x1x16, .f32⟩
  | 48 => ⟨S16x2048x1x2x16, .f32⟩
  | 49 => ⟨S16x2048x1x2x1x16, .f32⟩
  | 50 => ⟨S16x2048x1x2x1x16, .f32⟩
  | 51 => ⟨S16x2048x1x2x2x16, .f32⟩
  | 52 => ⟨S16x2048x1x64, .f32⟩
  | 53 => ⟨S2048x1x64, .f32⟩
  | 54 => ⟨S1x2048x1x64, .f32⟩
  | 55 => ⟨S16x2048x1x64, .f32⟩
  | 56 => ⟨S16x2048x1x64, .f32⟩
  | 57 => ⟨S2048x1x64, .f32⟩
  | 58 => ⟨S1x2048x1x64, .f32⟩
  | 59 => ⟨S16x2048x1x64, .f32⟩
  | 60 => ⟨S16x2048x1x64, .f32⟩
  | 61 => ⟨S16x2048x1x64, .f32⟩
  | 62 => ⟨S16x2048x1024, .f32⟩
  | 63 => ⟨S16x2048x8x128, .f32⟩
  | 64 => ⟨S16x2048x1024, .f32⟩
  | 65 => ⟨S16x2048x8x128, .f32⟩
  | 66 => ⟨S16x2048x8x64, .f32⟩
  | 67 => ⟨S16x2048x8x192, .f32⟩
  | 68 => ⟨S16x256x320, .f32⟩
  | 69 => ⟨S16x256x256, .f32⟩
  | 70 => ⟨S16x256x256, .f32⟩
  | 71 => ⟨S_, .f32⟩
  | 72 => ⟨S16x256, .f32⟩
  | 73 => ⟨S16x256x1, .f32⟩
  | 74 => ⟨S_, .f32⟩
  | 75 => ⟨S16x256x1, .f32⟩
  | 76 => ⟨S16x256x1, .f32⟩
  | 77 => ⟨S_, .f32⟩
  | 78 => ⟨S16x256x1, .f32⟩
  | 79 => ⟨S16x256x1, .f32⟩
  | 80 => ⟨S16x256x1, .f32⟩
  | 81 => ⟨S16x256x256, .f32⟩
  | 82 => ⟨S16x256x256, .f32⟩
  | 83 => ⟨S1x1x256, .f32⟩
  | 84 => ⟨S16x256x256, .f32⟩
  | 85 => ⟨S16x256x256, .f32⟩
  | 86 => ⟨S16x256x64, .f32⟩
  | 87 => ⟨S16x256x1x64, .f32⟩
  | 88 => ⟨S16x256x1024, .f32⟩
  | 89 => ⟨S16x256x8x128, .f32⟩
  | 90 => ⟨S16x256x1024, .f32⟩
  | 91 => ⟨S16x256x8x128, .f32⟩
  | 92 => ⟨S16x256x8x64, .f32⟩
  | 93 => ⟨S16x256x8x192, .f32⟩
  | 94 => ⟨S36864x2048, .bf16⟩
  | 95 => ⟨S_, .f32⟩
  | 96 => ⟨S16x2048x8x64, .f32⟩
  | 97 => ⟨S16x2048x8x256, .f32⟩
  | 98 => ⟨S_, .f32⟩
  | 99 => ⟨S16x256x8x64, .f32⟩
  | 100 => ⟨S16x256x8x256, .f32⟩
  | 101 => ⟨S32768x2048, .f32⟩
  | 102 => ⟨S4096x2048, .f32⟩
  | 103 => ⟨S36864x2048, .f32⟩
  | 104 => ⟨S36864x2048, .bf16⟩
  | 105 => ⟨S32768x1024, .f32⟩
  | 106 => ⟨S4096x1024, .f32⟩
  | 107 => ⟨S36864x1024, .f32⟩
  | 108 => ⟨S1024x36864, .f32⟩
  | 109 => ⟨S1024x36864, .bf16⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_10 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_11 : Ref sig .tc := ⟨.hbm, 122, rfl⟩
abbrev main_v98 : Ref sig .tc := ⟨.hbm, 123, rfl⟩
abbrev main_v99 : Ref sig .tc := ⟨.hbm, 124, rfl⟩
abbrev main_cst_12 : Ref sig .tc := ⟨.hbm, 125, rfl⟩
abbrev main_v100 : Ref sig .tc := ⟨.hbm, 126, rfl⟩
abbrev main_v101 : Ref sig .tc := ⟨.hbm, 127, rfl⟩
abbrev main_cst_13 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_14 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_15 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_16 : Ref sig .tc := ⟨.hbm, 154, rfl⟩
abbrev main_v125 : Ref sig .tc := ⟨.hbm, 155, rfl⟩
abbrev main_v126 : Ref sig .tc := ⟨.hbm, 156, rfl⟩
abbrev main_cst_17 : Ref sig .tc := ⟨.hbm, 157, rfl⟩
abbrev main_v127 : Ref sig .tc := ⟨.hbm, 158, rfl⟩
abbrev main_v128 : Ref sig .tc := ⟨.hbm, 159, rfl⟩
abbrev main_cst_18 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_cst_19 : Ref sig .tc := ⟨.hbm, 199, rfl⟩
abbrev main_v167 : Ref sig .tc := ⟨.hbm, 200, rfl⟩
abbrev main_v168 : Ref sig .tc := ⟨.hbm, 201, rfl⟩
abbrev main_cst_20 : Ref sig .tc := ⟨.hbm, 202, rfl⟩
abbrev main_v169 : Ref sig .tc := ⟨.hbm, 203, rfl⟩
abbrev main_v170 : Ref sig .tc := ⟨.hbm, 204, rfl⟩
abbrev main_cst_21 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_cst_22 : Ref sig .tc := ⟨.hbm, 223, rfl⟩
abbrev main_v188 : Ref sig .tc := ⟨.hbm, 224, rfl⟩
abbrev main_v189 : Ref sig .tc := ⟨.hbm, 225, rfl⟩
abbrev main_cst_23 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩

abbrev nD : Nat := 1
abbrev τ : Topo := Topo.v7x

variable {F : FTy → Type} [FloatOps F]
-- ==== Proof.FfnMath.lean ====
/- The feed-forward half step of the layer, written on rows of numbers: the function both programs are compared with. -/
module

public import Idealize.ShloMosaic.Lib.Pointwise

@[expose] public section

set_option maxRecDepth 16384

noncomputable section

namespace Cert.Ffn

open Idealize.ShloMosaic

/-- One over the root of the mean square of a row of 1024 numbers (the small constant added to the mean). -/
def rinv (x : Fin 1024 → EReal) : EReal :=
  Ideal.rsqrt (Ideal.div (∑ k, x k * x k) (Ideal.ofBits .f32 0x44800000#32) + Ideal.ofBits .f32 0x358637BD#32)

/-- A row normalised, scaled by `g · (1 + scale)` and shifted. -/
def normed (x g scale shift : Fin 1024 → EReal) (c : Fin 1024) : EReal :=
  x c * rinv x * (g c * (1 + scale c)) + shift c

/-- One hidden unit: the gate's `g · logistic g` times the second half's product. -/
def unit (h : Fin 1024 → EReal) (w v : Fin 1024 → EReal) : EReal :=
  (∑ k, h k * w k) * Ideal.logistic (∑ k, h k * w k) * ∑ k, h k * v k

/-- Hidden unit `j` of the 2816, its two columns the `j`-th and the `2816 + j`-th of the input weights. -/
def hidden (h : Fin 1024 → EReal) (w : Fin 1024 → Fin 5632 → EReal) (j : Fin 2816) : EReal :=
  unit h (fun k => w k ⟨j.val, by omega⟩) (fun k => w k ⟨2816 + j.val, by omega⟩)

/-- The half step's inner product over all the hidden units. -/
def mlp (h : Fin 1024 → EReal) (w : Fin 1024 → Fin 5632 → EReal) (wo : Fin 2816 → Fin 1024 → EReal) (c : Fin 1024) : EReal :=
  ∑ j : Fin 2816, hidden h w j * wo j c

/-- The row after the half step: the row itself and half the gate times the inner product. -/
def stepped (x h gate : Fin 1024 → EReal) (w : Fin 1024 → Fin 5632 → EReal) (wo : Fin 2816 → Fin 1024 → EReal) (c : Fin 1024) : EReal :=
  x c + Ideal.ofBits .f32 0x3F000000#32 * gate c * mlp h w wo c

/-- The part of the inner product that 256 hidden units give: their columns start at `a` and at `b`, their rows of the
    output weights at `d`. -/
def chunk (h : Fin 1024 → EReal) (w : Fin 1024 → Fin 5632 → EReal) (wo : Fin 2816 → Fin 1024 → EReal) (c : Fin 1024)
    (a b d : ℕ) (ha : a ≤ 5376) (hb : b ≤ 5376) (hd : d ≤ 2560) : EReal :=
  ∑ t : Fin 256, unit h (fun k => w k ⟨a + t.val, by omega⟩) (fun k => w k ⟨b + t.val, by omega⟩) * wo ⟨d + t.val, by omega⟩ c

/-- The inner product is its 11 chunks added in order. -/
theorem mlp_eq_chunks (h : Fin 1024 → EReal) (w : Fin 1024 → Fin 5632 → EReal) (wo : Fin 2816 → Fin 1024 → EReal) (c : Fin 1024) :
    mlp h w wo c = chunk h w wo c 0 2816 0 (by omega) (by omega) (by omega) + chunk h w wo c 256 3072 256 (by omega) (by omega) (by omega) + chunk h w wo c 512 3328 512 (by omega) (by omega) (by omega) + chunk h w wo c 768 3584 768 (by omega) (by omega) (by omega) + chunk h w wo c 1024 3840 1024 (by omega) (by omega) (by omega) + chunk h w wo c 1280 4096 1280 (by omega) (by omega) (by omega) + chunk h w wo c 1536 4352 1536 (by omega) (by omega) (by omega) + chunk h w wo c 1792 4608 1792 (by omega) (by omega) (by omega) + chunk h w wo c 2048 4864 2048 (by omega) (by omega) (by omega) + chunk h w wo c 2304 5120 2304 (by omega) (by omega) (by omega) + chunk h w wo c 2560 5376 2560 (by omega) (by omega) (by omega) := by
  have key : mlp h w wo c = ∑ n : Fin 11, chunk h w wo c (n.val * 256) (2816 + n.val * 256) (n.val * 256) (by omega) (by omega) (by omega) := by
    unfold mlp
    rw [Fin.sum_univ_tiles 11 256 rfl]
    refine Finset.sum_congr rfl fun n _ => Finset.sum_congr rfl fun t _ => ?_
    unfold hidden
    simp only [Nat.add_assoc]
  rw [key]
  simp only [Fin.sum_univ_castSucc, Fin.sum_univ_zero, zero_add]
  rfl

/-- A row normalised and scaled by `g`. -/
def scaled (y g : Fin 1024 → EReal) (c : Fin 1024) : EReal := y c * rinv y * g c

end Cert.Ffn

end
-- ==== Proof.FfnPoint.lean ====
/- What the last call stores for one row of its tile. -/
module

public import proofs.«01_k».proof.Proof.Gen.Kernel2Ideal.Frame
public import Idealize.ShloMosaic.Lib.Pipeline.ValueKit
public import proofs.«01_k».proof.Proof.FfnMath

@[expose] public section

set_option maxRecDepth 16384

noncomputable section

namespace Cert.Kernel2Ideal.Point

open Idealize.ShloMosaic Idealize.ShloMosaic.TcCoe Idealize.SL.Sem
open Cert.Kernel2Ideal Cert.Kernel2Ideal.Gen

theorem x_at (v0 : FVec Ideal S512x1024 .f32) (v1 : FVec Ideal S1x9x1024 .f32) (v3 : FVec Ideal S512x1024 .bf16) (v4 : FVec Ideal S1024x1024 .bf16) (r : Fin 512) (c : Fin 1024) :
    k0_pay3 v0 v1 v3 v4 (ix2 r c) = v0 (ix2 r c) + v1 (ix3 0 5 c) * ∑ k, v3 (ix2 r k) * v4 (ix2 k c) := by
  pointwise [k0_pay3, k0_pay2]

theorem h_at (v0 : FVec Ideal S512x1024 .f32) (v1 : FVec Ideal S1x9x1024 .f32) (v3 : FVec Ideal S512x1024 .bf16) (v4 : FVec Ideal S1024x1024 .bf16) (v13 : FVec Ideal S1x1024 .f32) (r : Fin 512) (c : Fin 1024) :
    k0_pay5 (F := Ideal) v0 v1 v3 v4 v13 (ix2 r c) = Ffn.normed (fun k => k0_pay3 (F := Ideal) v0 v1 v3 v4 (ix2 r k)) (fun k => v13 (ix2 0 k)) (fun k => v1 (ix3 0 7 k)) (fun k => v1 (ix3 0 6 k)) c := by
  pointwise [k0_pay5, k0_pay2, Ffn.normed, Ffn.rinv]

theorem unit_at (h : FVec Ideal S512x1024 .bf16) (a b : FVec Ideal S1x1x1024x256 .f32) (r : Fin 512) (c : Fin 256) :
    k0_pay12 h a b (ix2 r c) = Ffn.unit (fun k => h (ix2 r k)) (fun k => a (ix4 0 0 k c)) (fun k => b (ix4 0 0 k c)) := by
  pointwise [k0_pay12, Ffn.unit]

/-- The row after the half step, over the partial sum of the first nine chunks and the two chunks after it. -/
theorem y_at (v9 : FVec Ideal S512x1024 .f32) (v12 : FVec Ideal S1x1024 .f32) (v31 : FVec Ideal S512x1024 .bf16) (v183 : FVec Ideal S512x1024 .f32) (v195 : FVec Ideal S512x256 .bf16) (v196 : FVec Ideal S1x1x256x1024 .f32) (v201 v205 : FVec Ideal S1x1x1024x256 .f32) (v213 : FVec Ideal S1x1x256x1024 .f32) (r : Fin 512) (c : Fin 1024) :
    k0_pay16 (F := Ideal) v9 v12 v31 v183 v195 v196 v201 v205 v213 (ix2 r c) = v9 (ix2 r c) + Ideal.ofBits .f32 0x3F000000#32 * v12 (ix2 0 c) * (v183 (ix2 r c) + ∑ t : Fin 256, v195 (ix2 r t) * v196 (ix4 0 0 t c)
      + ∑ t : Fin 256, Ffn.unit (fun k => v31 (ix2 r k)) (fun k => v201 (ix4 0 0 k t)) (fun k => v205 (ix4 0 0 k t)) * v213 (ix4 0 0 t c)) := by
  pointwise [k0_pay16, Ffn.unit]

abbrev Xrow (x0 : FVec Ideal S512x1024 .f32) (x1 : FVec Ideal S1x9x1024 .f32) (x3 : FVec Ideal S512x1024 .bf16) (x4 : FVec Ideal S1024x1024 .bf16) (r : Fin 512) (c : Fin 1024) : EReal :=
  x0 (ix2 r c) + x1 (ix3 0 5 c) * ∑ k, x3 (ix2 r k) * x4 (ix2 k c)

/-- The input weights of the half step, from their block. -/
abbrev W (x5 : FVec Ideal S1x1x1024x5632 .f32) (k : Fin 1024) (j : Fin 5632) : EReal := x5 (ix4 0 0 k j)
/-- The output weights of the half step, from their block. -/
abbrev WO (x6 : FVec Ideal S1x1x2816x1024 .f32) (j : Fin 2816) (c : Fin 1024) : EReal := x6 (ix4 0 0 j c)

section
variable (x0 : FVec Ideal S512x1024 .f32) (x1 : FVec Ideal S1x9x1024 .f32) (x2 : FVec Ideal S3x1024 .f32) (x3 : FVec Ideal S512x1024 .bf16) (x4 : FVec Ideal S1024x1024 .bf16) (x5 : FVec Ideal S1x1x1024x5632 .f32) (x6 : FVec Ideal S1x1x2816x1024 .f32) (x7 : FVec Ideal S1x1024 .f32)

theorem pay19_at (r : Fin 512) (c : Fin 1024) :
    k0_pay19 (F := Ideal) x0 x1 x2 x3 x4 x5 x6 x7 (ix2 r c) = Xrow x0 x1 x3 x4 r c := by
  pointwise [k0_pay19, x_at]

theorem pay20_at (c : Fin 1024) : k0_pay20 (F := Ideal) x0 x1 x2 x3 x4 x5 x6 x7 (ix2 0 c) = x1 (ix3 0 8 c) := by
  pointwise [k0_pay20, k0_pay4, k0_pay2]

theorem pay21_at (r : Fin 512) (c : Fin 1024) :
    k0_pay21 (F := Ideal) x0 x1 x2 x3 x4 x5 x6 x7 (ix2 r c) = Ffn.normed (Xrow x0 x1 x3 x4 r) (fun k => x2 (ix2 2 k)) (fun k => x1 (ix3 0 7 k)) (fun k => x1 (ix3 0 6 k)) c := by
  unfold k0_pay21
  rw [h_at]
  simp only [x_at]
  pointwise [Ffn.normed, Ffn.rinv, Xrow]

theorem pay23_at (r : Fin 512) (t : Fin 256) : k0_pay23 (F := Ideal) x0 x1 x2 x3 x4 x5 x6 x7 (ix2 r t)
    = Ffn.unit (fun k => k0_pay21 (F := Ideal) x0 x1 x2 x3 x4 x5 x6 x7 (ix2 r k)) (fun k => W x5 k ⟨2304 + t.val, by omega⟩) (fun k => W x5 k ⟨5120 + t.val, by omega⟩) := by
  pointwise [k0_pay23, k0_pay15, Ffn.unit]

theorem pay6_eq : (k0_pay6 (F := Ideal) (View.ld x0 r0_0) (View.ld x1 r0_1) (View.ld x3 r0_0) (View.ld x4 r0_2) (View.ld x2 r0_3) (View.ld x5 r0_4)) =
    matmul dot_S512x1024_S1024x256_S512x256_1_0_0_1_n_n none (k0_pay21 (F := Ideal) x0 x1 x2 x3 x4 x5 x6 x7) (k0_pay8 (View.ld x5 r0_4)) (constant S512x256 .f32 0x00000000#32) := rfl

/-- The partial sum of the first nine chunks. -/
theorem pay22_at (r : Fin 512) (c : Fin 1024) :
    k0_pay22 (F := Ideal) x0 x1 x2 x3 x4 x5 x6 x7 (ix2 r c) = Ffn.chunk (fun k => k0_pay21 (F := Ideal) x0 x1 x2 x3 x4 x5 x6 x7 (ix2 r k)) (W x5) (WO x6) c 0 2816 0 (by omega) (by omega) (by omega) + Ffn.chunk (fun k => k0_pay21 (F := Ideal) x0 x1 x2 x3 x4 x5 x6 x7 (ix2 r k)) (W x5) (WO x6) c 256 3072 256 (by omega) (by omega) (by omega) + Ffn.chunk (fun k => k0_pay21 (F := Ideal) x0 x1 x2 x3 x4 x5 x6 x7 (ix2 r k)) (W x5) (WO x6) c 512 3328 512 (by omega) (by omega) (by omega) + Ffn.chunk (fun k => k0_pay21 (F := Ideal) x0 x1 x2 x3 x4 x5 x6 x7 (ix2 r k)) (W x5) (WO x6) c 768 3584 768 (by omega) (by omega) (by omega) + Ffn.chunk (fun k => k0_pay21 (F := Ideal) x0 x1 x2 x3 x4 x5 x6 x7 (ix2 r k)) (W x5) (WO x6) c 1024 3840 1024 (by omega) (by omega) (by omega) + Ffn.chunk (fun k => k0_pay21 (F := Ideal) x0 x1 x2 x3 x4 x5 x6 x7 (ix2 r k)) (W x5) (WO x6) c 1280 4096 1280 (by omega) (by omega) (by omega) + Ffn.chunk (fun k => k0_pay21 (F := Ideal) x0 x1 x2 x3 x4 x5 x6 x7 (ix2 r k)) (W x5) (WO x6) c 1536 4352 1536 (by omega) (by omega) (by omega) + Ffn.chunk (fun k => k0_pay21 (F := Ideal) x0 x1 x2 x3 x4 x5 x6 x7 (ix2 r k)) (W x5) (WO x6) c 1792 4608 1792 (by omega) (by omega) (by omega) + Ffn.chunk (fun k => k0_pay21 (F := Ideal) x0 x1 x2 x3 x4 x5 x6 x7 (ix2 r k)) (W x5) (WO x6) c 2048 4864 2048 (by omega) (by omega) (by omega) := by
  unfold k0_pay22
  rw [pay6_eq x0 x1 x2 x3 x4 x5 x6 x7]
  generalize k0_pay21 (F := Ideal) x0 x1 x2 x3 x4 x5 x6 x7 = h
  pointwise [k0_pay14, k0_pay13, k0_pay12, k0_pay11, k0_pay10, k0_pay9, k0_pay8, k0_pay7]
  simp only [Ffn.chunk, Ffn.unit, Nat.zero_add]

theorem y_row (r : Fin 512) (c : Fin 1024) :
    k0_pay19 (F := Ideal) x0 x1 x2 x3 x4 x5 x6 x7 (ix2 r c) + Ideal.ofBits .f32 0x3F000000#32 * k0_pay20 (F := Ideal) x0 x1 x2 x3 x4 x5 x6 x7 (ix2 0 c) *
        (k0_pay22 (F := Ideal) x0 x1 x2 x3 x4 x5 x6 x7 (ix2 r c) + ∑ t : Fin 256, k0_pay23 (F := Ideal) x0 x1 x2 x3 x4 x5 x6 x7 (ix2 r t) * x6 (ix4 0 0 ⟨2304 + t.val, by omega⟩ c)
          + ∑ t : Fin 256, Ffn.unit (fun k => k0_pay21 (F := Ideal) x0 x1 x2 x3 x4 x5 x6 x7 (ix2 r k)) (fun k => x5 (ix4 0 0 k ⟨2560 + t.val, by omega⟩)) (fun k => x5 (ix4 0 0 k ⟨5376 + t.val, by omega⟩)) * x6 (ix4 0 0 ⟨2560 + t.val, by omega⟩ c))
      = Ffn.stepped (Xrow x0 x1 x3 x4 r) (Ffn.normed (Xrow x0 x1 x3 x4 r) (fun k => x2 (ix2 2 k)) (fun k => x1 (ix3 0 7 k)) (fun k => x1 (ix3 0 6 k)))
          (fun k => x1 (ix3 0 8 k)) (W x5) (WO x6) c := by
  simp only [pay19_at, pay20_at, pay22_at, pay23_at, pay21_at]
  rw [Ffn.stepped, Ffn.mlp_eq_chunks]
  rfl

theorem out_at (r : Fin 512) (c : Fin 1024) :
    out0_8 (F := Ideal) x0 x1 x2 x3 x4 x5 x6 x7 (ix2 r c) = Ffn.scaled (Ffn.stepped (Xrow x0 x1 x3 x4 r)
        (Ffn.normed (Xrow x0 x1 x3 x4 r) (fun k => x2 (ix2 2 k)) (fun k => x1 (ix3 0 7 k)) (fun k => x1 (ix3 0 6 k)))
        (fun k => x1 (ix3 0 8 k)) (W x5) (WO x6)) (fun k => x7 (ix2 0 k)) c := by
  unfold out0_8
  frame_out
  pointwise [k0_pay1, k0_pay17, k0_pay18, y_at]
  simp only [y_row]
  rfl
end

end Cert.Kernel2Ideal.Point

end
-- ==== Proof.FfnResult.lean ====
/- What the last call returns, as one function of its arguments. -/
module

public import proofs.«01_k».proof.Proof.FfnMath

@[expose] public section

set_option maxRecDepth 16384

noncomputable section

namespace Cert.Ffn

open Idealize.ShloMosaic

/-- What the program returns at row `r` and column `c`: the row `x + gate·(a·wo)`, its feed-forward half step, and the last
    normalisation; row `r` is a row of sequence `r / 2048`, whose nine modulation rows these are. -/
def result (X : FVec Ideal ⟨2, ![36864, 1024]⟩ .f32) (M : FVec Ideal ⟨3, ![17, 9, 1024]⟩ .f32) (G : FVec Ideal ⟨2, ![3, 1024]⟩ .f32)
    (WI : FVec Ideal ⟨4, ![2, 2, 1024, 5632]⟩ .f32) (WO : FVec Ideal ⟨4, ![2, 2, 2816, 1024]⟩ .f32) (A : FVec Ideal ⟨2, ![32768, 1024]⟩ .bf16)
    (V : FVec Ideal ⟨2, ![1024, 1024]⟩ .bf16) (GF : FVec Ideal ⟨1, ![1024]⟩ .f32) (r : Fin 32768) (c : Fin 1024) : EReal :=
  let b : Fin 17 := ⟨r.val / 2048, by omega⟩
  let x : Fin 1024 → EReal := fun k => X (ix2 ⟨r.val, by omega⟩ k) + M (ix3 b 5 k) * ∑ l, A (ix2 r l) * V (ix2 l k)
  scaled (stepped x (normed x (fun k => G (ix2 2 k)) (fun k => M (ix3 b 7 k)) (fun k => M (ix3 b 6 k)))
    (fun k => M (ix3 b 8 k)) (fun k j => WI (ix4 1 1 k j)) (fun j k => WO (ix4 1 1 j k))) (fun k => GF (ix1 k)) c

theorem scaled_congr {x x' g g' sc sc' sh sh' gt gt' gf gf' : Fin 1024 → EReal} {w w' : Fin 1024 → Fin 5632 → EReal}
    {wo wo' : Fin 2816 → Fin 1024 → EReal} (hx : x = x') (hg : g = g') (hsc : sc = sc') (hsh : sh = sh') (hgt : gt = gt')
    (hw : w = w') (hwo : wo = wo') (hgf : gf = gf') (c : Fin 1024) :
    scaled (stepped x (normed x g sc sh) gt w wo) gf c = scaled (stepped x' (normed x' g' sc' sh') gt' w' wo') gf' c := by
  subst hx hg hsc hsh hgt hw hwo hgf; rfl

end Cert.Ffn

end
-- ==== Proof.FfnArray.lean ====
/- The array that the last call leaves: each tile's rows are rows of its result. -/
module

public import proofs.«01_k».proof.Proof.FfnPoint
public import proofs.«01_k».proof.Proof.FfnResult

@[expose] public section

set_option maxRecDepth 16384

noncomputable section

namespace Cert.Kernel2Ideal.Point

open Idealize.ShloMosaic Idealize.ShloMosaic.TcCoe Idealize.SL.Sem
open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val / 4, 0, 0] ∧ win0_2.index t = ![0, 0] ∧ win0_3.index t = ![t.val, 0]
    ∧ win0_4.index t = ![0, 0] ∧ win0_5.index t = ![1, 1, 0, 0] ∧ win0_6.index t = ![1, 1, 0, 0] ∧ win0_7.index t = ![0, 0] ∧ win0_8.index t = ![t.val, 0] ∧ t.val < 64 :=
  (by decide +kernel : ∀ t : Fin grid0.N, _)

theorem blk0 (c : Dev nD) (t : Fin cfg0.N) (r : Fin 512) (k : Fin 1024) (n : Fin 36864) (hn : n.val = t.val * 512 + r.val) :
    (show FVec Ideal S512x1024 .f32 from iblk m c 0 t) (ix2 r k) = (show FVec Ideal S36864x1024 .f32 from m ((c : Thread nD τ).loc main_arg0)) (ix2 n k) := by
  show iblk m c 0 t _ = _
  blk_ext [iblk, V, idx t]

theorem blk1 (c : Dev nD) (t : Fin cfg0.N) (a : Fin 9) (k : Fin 1024) (b : Fin 17) (hb : b.val = t.val / 4) :
    (show FVec Ideal S1x9x1024 .f32 from iblk m c 1 t) (ix3 0 a k) = (show FVec Ideal S17x9x1024 .f32 from m ((c : Thread nD τ).loc main_arg1)) (ix3 b a k) := by
  show iblk m c 1 t _ = _
  blk_ext [iblk, V, idx t]

theorem blk2 (c : Dev nD) (t : Fin cfg0.N) (a : Fin 3) (k : Fin 1024) :
    (show FVec Ideal S3x1024 .f32 from iblk m c 2 t) (ix2 a k) = (show FVec Ideal S3x1024 .f32 from m ((c : Thread nD τ).loc main_arg2)) (ix2 a k) := by
  show iblk m c 2 t _ = _
  blk_ext [iblk, V, idx t]

theorem blk3 (c : Dev nD) (t : Fin cfg0.N) (r : Fin 512) (k : Fin 1024) (n : Fin 32768) (hn : n.val = t.val * 512 + r.val) :
    (show FVec Ideal S512x1024 .bf16 from iblk m c 3 t) (ix2 r k) = (show FVec Ideal S32768x1024 .bf16 from m ((c : Thread nD τ).loc main_arg5)) (ix2 n k) := by
  show iblk m c 3 t _ = _
  blk_ext [iblk, V, idx t]

theorem blk4 (c : Dev nD) (t : Fin cfg0.N) (r : Fin 1024) (k : Fin 1024) :
    (show FVec Ideal S1024x1024 .bf16 from iblk m c 4 t) (ix2 r k) = (show FVec Ideal S1024x1024 .bf16 from m ((c : Thread nD τ).loc main_arg6)) (ix2 r k) := by
  show iblk m c 4 t _ = _
  blk_ext [iblk, V, idx t]

theorem blk5 (c : Dev nD) (t : Fin cfg0.N) (r : Fin 1024) (k : Fin 5632) :
    (show FVec Ideal S1x1x1024x5632 .f32 from iblk m c 5 t) (ix4 0 0 r k) = (show FVec Ideal S2x2x1024x5632 .f32 from m ((c : Thread nD τ).loc main_arg3)) (ix4 1 1 r k) := by
  show iblk m c 5 t _ = _
  blk_ext [iblk, V, idx t]

theorem blk6 (c : Dev nD) (t : Fin cfg0.N) (r : Fin 2816) (k : Fin 1024) :
    (show FVec Ideal S1x1x2816x1024 .f32 from iblk m c 6 t) (ix4 0 0 r k) = (show FVec Ideal S2x2x2816x1024 .f32 from m ((c : Thread nD τ).loc main_arg4)) (ix4 1 1 r k) := by
  show iblk m c 6 t _ = _
  blk_ext [iblk, V, idx t]

theorem blk7 (c : Dev nD) (t : Fin cfg0.N) (k : Fin 1024) :
    (show FVec Ideal S1x1024 .f32 from iblk m c 7 t) (ix2 0 k) = (show FVec Ideal S1024 .f32 from m ((c : Thread nD τ).loc main_arg7)) (ix1 k) := by
  show iblk m c 7 t _ = _
  blk_simp [iblk]
  entry_read
  pointwise
  blk_ext [idx t]

theorem final (c : Dev nD) : (dats m 0 c).arrAt 8 (cfgs 0).N
    = fun i => Ffn.result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (i 0) (i 1) := by
  refine (dats m 0 c).arrAt_eq_of_covers 8 _ (by decide +kernel) fun t _ y => ?_
  blk_simp
  rw [after0_8]
  idx_vars y
  refine (out_at _ _ _ _ _ _ _ _ _ _).trans ?_
  have ht : t.val < 64 := (idx t).2.2.2.2.2.2.2.2.2
  have hr : t.val * 512 + y0.val < 32768 := by have := y0.isLt; omega
  have e0 : (((View.whole main_v1).slice (win0_8.rect t)).emb (ix2 y0 y1) 0 : Fin 32768) = ⟨t.val * 512 + y0.val, hr⟩ := by
    apply Fin.ext; blk_simp [idx t]
  have e1 : (((View.whole main_v1).slice (win0_8.rect t)).emb (ix2 y0 y1) 1 : Fin 1024) = y1 := by
    apply Fin.ext; blk_simp [idx t]
  refine Eq.trans ?_ (congrArg₂ (Ffn.result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))) e0 e1).symm
  have hb : (t.val * 512 + y0.val) / 2048 = t.val / 4 := by omega
  exact Ffn.scaled_congr
    (funext fun k => congrArg₂ (· + ·) (blk0 m c t y0 k _ rfl) (congrArg₂ (· * ·) (blk1 m c t 5 k _ hb)
      (Finset.sum_congr rfl fun l _ => congrArg₂ (· * ·) (blk3 m c t y0 l _ rfl) (blk4 m c t l k))))
    (funext fun k => blk2 m c t 2 k) (funext fun k => blk1 m c t 7 k _ hb) (funext fun k => blk1 m c t 6 k _ hb)
    (funext fun k => blk1 m c t 8 k _ hb) (funext fun k => funext fun j => blk5 m c t k j) (funext fun j => funext fun k => blk6 m c t j k)
    (funext fun k => blk7 m c t k) y1

end Cert.Kernel2Ideal.Point

end
-- ==== Proof.FfnReference.lean ====
/- What the reference of the last call returns. -/
module

public import proofs.«01_k».proof.Proof.Gen.Reference2Ideal.Read
public import proofs.«01_k».proof.Proof.FfnResult
public import Idealize.ShloMosaic.Lib.Pointwise

@[expose] public section

set_option maxRecDepth 16384

noncomputable section

namespace Cert.Reference2Ideal.Point

open Idealize.ShloMosaic Idealize.ShloMosaic.TcCoe Idealize.SL.Sem
open Cert.Reference2Ideal Cert.Reference2Ideal.Read

variable (x0 : FVec Ideal S36864x1024 .f32) (x1 : FVec Ideal S17x9x1024 .f32) (x2 : FVec Ideal S3x1024 .f32) (x3 : FVec Ideal S2x2x1024x5632 .f32) (x4 : FVec Ideal S2x2x2816x1024 .f32) (x5 : FVec Ideal S32768x1024 .bf16) (x6 : FVec Ideal S1024x1024 .bf16) (x7 : FVec Ideal S1024 .f32)

/-- The row the half step starts from. -/
abbrev Xrow (b : Fin 16) (s : Fin 2048) (c : Fin 1024) : EReal :=
  x0 (ix2 ⟨b.val * 2048 + s.val, by omega⟩ c) + x1 (ix3 ⟨b.val, by omega⟩ 5 c) * ∑ k, x5 (ix2 ⟨b.val * 2048 + s.val, by omega⟩ k) * x6 (ix2 k c)

theorem x_at (b : Fin 16) (s : Fin 2048) (c : Fin 1024) : val_main_v35 (F := Ideal) x0 x1 x5 x6 (ix3 b s c) = Xrow x0 x1 x5 x6 b s c := by
  pointwise [val_main_v29, val_main_v30, val_main_v31, val_main_v32, val_main_v33, val_main_v34, val_main_v35, val_main_v0, val_main_v1, val_main_v17, val_main_v18, val_main_v19, Xrow]

theorem h_at (b : Fin 16) (s : Fin 2048) (c : Fin 1024) : val_main_v56 (F := Ideal) x0 x1 x2 x5 x6 (ix3 b s c)
    = Ffn.normed (Xrow x0 x1 x5 x6 b s) (fun k => x2 (ix2 2 k)) (fun k => x1 (ix3 ⟨b.val, by omega⟩ 7 k)) (fun k => x1 (ix3 ⟨b.val, by omega⟩ 6 k)) c := by
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v20, val_main_v21, val_main_v22, val_main_v23, val_main_v24, val_main_v25, x_at, Ffn.normed, Ffn.rinv, val_main_cst, val_main_cst_0, val_main_cst_1, val_main_cst_2]
  rw [mul_assoc _ (x2 (ix2 2 c))]

theorem hidden_at (b : Fin 16) (s : Fin 2048) (j : Fin 2816) : val_main_v65 (F := Ideal) x0 x1 x2 x3 x5 x6 (ix3 b s j)
    = Ffn.hidden (fun k => val_main_v56 (F := Ideal) x0 x1 x2 x5 x6 (ix3 b s k)) (fun k j => x3 (ix4 1 1 k j)) j := by
  pointwise [val_main_v57, val_main_v58, val_main_v59, val_main_v60, val_main_v61, val_main_v64, val_main_v65, val_main_call0_v0, val_main_call0_v1, val_main_call0_v2, val_main_call0_v3, val_main_call0_v4, val_main_call0_v5, val_main_call0_cst, val_main_call0_cst_0, Ffn.hidden, Ffn.unit]
  rfl

theorem y_at (b : Fin 16) (s : Fin 2048) (c : Fin 1024) : val_main_v71 (F := Ideal) x0 x1 x2 x3 x4 x5 x6 (ix3 b s c)
    = Ffn.stepped (Xrow x0 x1 x5 x6 b s) (Ffn.normed (Xrow x0 x1 x5 x6 b s) (fun k => x2 (ix2 2 k)) (fun k => x1 (ix3 ⟨b.val, by omega⟩ 7 k)) (fun k => x1 (ix3 ⟨b.val, by omega⟩ 6 k)))
      (fun k => x1 (ix3 ⟨b.val, by omega⟩ 8 k)) (fun k j => x3 (ix4 1 1 k j)) (fun j k => x4 (ix4 1 1 j k)) c := by
  pointwise [val_main_v66, val_main_v67, val_main_v68, val_main_v69, val_main_v70, val_main_v71, val_main_v26, val_main_v27, val_main_v28, val_main_v62, val_main_v63, x_at, hidden_at, h_at, val_main_cst_3, Ffn.stepped, Ffn.mlp]

theorem out_at (b : Fin 16) (s : Fin 2048) (c : Fin 1024) : val_main_v84 (F := Ideal) x0 x1 x2 x3 x4 x5 x6 x7 (ix3 b s c)
    = Ffn.scaled (fun k => val_main_v71 (F := Ideal) x0 x1 x2 x3 x4 x5 x6 (ix3 b s k)) (fun k => x7 (ix1 k)) c := by
  pointwise [val_main_v72, val_main_v73, val_main_v74, val_main_v75, val_main_v76, val_main_v77, val_main_v78, val_main_v79, val_main_v80, val_main_v81, val_main_v82, val_main_v83, val_main_v84, val_main_cst_4, val_main_cst_5, val_main_cst_6, Ffn.scaled, Ffn.rinv]

/-- The reference's result is the half step's. -/
theorem result_eq : val_main_v85 (F := Ideal) x0 x1 x2 x3 x4 x5 x6 x7 = fun i => Ffn.result x0 x1 x2 x3 x4 x5 x6 x7 (i 0) (i 1) := by
  funext i
  idx_vars i
  have hb : i0.val / 2048 < 16 := by omega
  have e : val_main_v85 (F := Ideal) x0 x1 x2 x3 x4 x5 x6 x7 (ix2 i0 i1)
      = val_main_v84 (F := Ideal) x0 x1 x2 x3 x4 x5 x6 x7 (ix3 ⟨i0.val / 2048, hb⟩ ⟨i0.val % 2048, by omega⟩ i1) := by
    pointwise [val_main_v85]
  rw [e, out_at]
  simp only [y_at]
  have hx : Xrow x0 x1 x5 x6 ⟨i0.val / 2048, hb⟩ ⟨i0.val % 2048, by omega⟩ = fun k => x0 (ix2 ⟨i0.val, by omega⟩ k) + x1 (ix3 ⟨i0.val / 2048, by omega⟩ 5 k) * ∑ l, x5 (ix2 i0 l) * x6 (ix2 l k) := by
    have h1 : i0.val / 2048 * 2048 + i0.val % 2048 = i0.val := by omega
    funext k
    simp only [Xrow, h1]
  rw [hx]
  rfl

end Cert.Reference2Ideal.Point

end
-- ==== Proof.FfnEquation.lean ====
/- The claims about the last call. -/
module

public import proofs.«01_k».proof.Defs
public import proofs.«01_k».proof.Proof.FfnArray
public import proofs.«01_k».proof.Proof.FfnReference
public import proofs.«01_k».proof.Proof.Gen.Reference2Ideal.Run
public import Idealize.ShloMosaic.Lib.Claim

@[expose] public section

set_option maxRecDepth 16384

noncomputable section

namespace Cert.Ffn

open Idealize.ShloMosaic Idealize.SL.Sem

/-- The reference leaves its arguments as they were. -/
theorem reference_frame :
    Cert.quiescent_Reference2Ideal (hReference2Ideal := Cert.Reference2Ideal.Gen.facts) := by
  intro m g _
  exact (θ_run _ _ _).mono (fun r h => ⟨fun c => (h c).2, sem_eq_zero_of_no_sems (by decide) r.2⟩)
    (Cert.Reference2Ideal.Value.run m g)

/-- From the same arguments both programs end with the same result. -/
theorem algebraic : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    obtain ⟨h0, h1, h2, h3, h4, h5, h6, h7⟩ := hagree c
    refine (Cert.Reference2Ideal.Read.val_main_v85_eq m' c).trans ?_
    rw [h0, h1, h2, h3, h4, h5, h6, h7]
    exact (Cert.Reference2Ideal.Point.result_eq _ _ _ _ _ _ _ _).trans (Cert.Kernel2Ideal.Point.final m c).symm

end Cert.Ffn

end
-- ==== Proof.Ffn3Point.lean ====
/- What the pre-mixing half step of layer 1 stores for one row of its tile. -/
module

public import proofs.«01_k».proof.Proof.FfnMath
public import proofs.«01_k».proof.Proof.Gen.Kernel3Ideal.Frame
public import Idealize.ShloMosaic.Lib.Pipeline.ValueKit

@[expose] public section

set_option maxRecDepth 16384
set_option maxHeartbeats 4000000

noncomputable section

namespace Cert.Kernel3Ideal.Point

open Idealize.ShloMosaic Idealize.ShloMosaic.TcCoe Idealize.SL.Sem
open Cert.Kernel3Ideal Cert.Kernel3Ideal.Gen

variable (x0 : FVec Ideal S512x1024 .f32) (x1 : FVec Ideal S1x9x1024 .f32) (x2 : FVec Ideal S3x1024 .f32)
  (x3 : FVec Ideal S1x1x1024x5632 .f32) (x4 : FVec Ideal S1x1x2816x1024 .f32)

theorem h_at (r : Fin 512) (c : Fin 1024) : k0_pay17 (F := Ideal) x0 x1 x2 x3 x4 (ix2 r c)
    = Ffn.normed (fun k => x0 (ix2 r k)) (fun k => x2 (ix2 0 k)) (fun k => x1 (ix3 0 1 k)) (fun k => x1 (ix3 0 0 k)) c := by
  pointwise [k0_pay17, k0_pay4, k0_pay2, Ffn.normed, Ffn.rinv]

theorem h_same (r : Fin 512) (c : Fin 1024) :
    k0_pay4 (F := Ideal) x0 x1 (View.ld x2 r0_2) (ix2 r c) = k0_pay17 (F := Ideal) x0 x1 x2 x3 x4 (ix2 r c) := by
  pointwise [k0_pay17, k0_pay4, k0_pay2]

/-- The first chunk's hidden units. -/
theorem first_at (r : Fin 512) (t : Fin 256) :
    k0_pay5 (F := Ideal) x0 x1 (View.ld x2 r0_2) (View.ld x3 r0_3) (View.ld x3 r0_4) (ix2 r t)
      = Ffn.unit (fun k => k0_pay17 (F := Ideal) x0 x1 x2 x3 x4 (ix2 r k)) (fun k => x3 (ix4 0 0 k ⟨0 + t.val, by omega⟩))
          (fun k => x3 (ix4 0 0 k ⟨2816 + t.val, by omega⟩)) := by
  pointwise [k0_pay5, h_same x0 x1 x2 x3 x4, Ffn.unit]

theorem gate_at (c : Fin 1024) : k0_pay3 (F := Ideal) x1 (ix2 0 c) = x1 (ix3 0 2 c) := by
  pointwise [k0_pay3, k0_pay2]

theorem out_at (r : Fin 512) (c : Fin 1024) : out0_5 (F := Ideal) x0 x1 x2 x3 x4 (ix2 r c)
    = Ffn.stepped (fun k => x0 (ix2 r k))
        (Ffn.normed (fun k => x0 (ix2 r k)) (fun k => x2 (ix2 0 k)) (fun k => x1 (ix3 0 1 k)) (fun k => x1 (ix3 0 0 k)))
        (fun k => x1 (ix3 0 2 k)) (fun k j => x3 (ix4 0 0 k j)) (fun j k => x4 (ix4 0 0 j k)) c := by
  unfold out0_5
  frame_out
  pointwise [k0_pay1, k0_pay16, k0_pay14, k0_pay12, k0_pay9, k0_pay6, k0_pay7, k0_pay8, k0_pay10, k0_pay11, k0_pay13, k0_pay15,
    first_at x0 x1 x2 x3 x4, gate_at]
  rw [Ffn.stepped, Ffn.mlp_eq_chunks, ← funext fun k => h_at x0 x1 x2 x3 x4 r k]
  generalize k0_pay17 (F := Ideal) x0 x1 x2 x3 x4 = h
  simp only [Ffn.chunk, Ffn.unit, Nat.zero_add]

end Cert.Kernel3Ideal.Point

end
-- ==== Proof.FfnHalf.lean ====
/- The half steps over the whole stream: the 32768 latent rows, 16 sequences of 2048 with modulation rows of their own,
   then the 4096 context rows, which share the last modulation rows. -/
module

public import proofs.«01_k».proof.Proof.FfnMath

@[expose] public section

set_option maxRecDepth 16384

noncomputable section

namespace Cert.Ffn

open Idealize.ShloMosaic

/-- The modulation rows that row `n` of the stream takes. -/
def modRow (n : Fin 36864) : Fin 17 := ⟨min (n.val / 2048) 16, by omega⟩

/-- A half step of the stream `X` at row `n` and column `c`: norm weights `G g`, modulation rows `sh`, `sc` and `gt`, and the
    weights of layer `l`, half step `s`. -/
def half (X : Fin 36864 → Fin 1024 → EReal) (M : FVec Ideal ⟨3, ![17, 9, 1024]⟩ .f32) (G : FVec Ideal ⟨2, ![3, 1024]⟩ .f32)
    (WI : FVec Ideal ⟨4, ![2, 2, 1024, 5632]⟩ .f32) (WO : FVec Ideal ⟨4, ![2, 2, 2816, 1024]⟩ .f32)
    (l s : Fin 2) (g : Fin 3) (sh sc gt : Fin 9) (n : Fin 36864) (c : Fin 1024) : EReal :=
  stepped (X n) (normed (X n) (fun k => G (ix2 g k)) (fun k => M (ix3 (modRow n) sc k)) (fun k => M (ix3 (modRow n) sh k)))
    (fun k => M (ix3 (modRow n) gt k)) (fun k j => WI (ix4 l s k j)) (fun j k => WO (ix4 l s j k)) c

theorem stepped_congr {x x' g g' sc sc' sh sh' gt gt' : Fin 1024 → EReal} {w w' : Fin 1024 → Fin 5632 → EReal}
    {wo wo' : Fin 2816 → Fin 1024 → EReal} (hx : x = x') (hg : g = g') (hsc : sc = sc') (hsh : sh = sh') (hgt : gt = gt')
    (hw : w = w') (hwo : wo = wo') (c : Fin 1024) :
    stepped x (normed x g sc sh) gt w wo c = stepped x' (normed x' g' sc' sh') gt' w' wo' c := by
  subst hx hg hsc hsh hgt hw hwo; rfl

/-- A latent row belongs to one of the 16 sequences, -/
theorem modRow_lat (n : Fin 36864) (b : Fin 16) (s : Fin 2048) (h : n.val = b.val * 2048 + s.val) : modRow n = ⟨b.val, by omega⟩ :=
  Fin.ext (by dsimp only [modRow]; omega)

/-- and a context row to none. -/
theorem modRow_ctx (n : Fin 36864) (h : 32768 ≤ n.val) : modRow n = 16 := Fin.ext (by dsimp only [modRow]; show _ = 16; omega)

/-- The stream made of its latent rows and its context rows. -/
def joined (L : FVec Ideal ⟨2, ![32768, 1024]⟩ .f32) (C : FVec Ideal ⟨2, ![4096, 1024]⟩ .f32) (n : Fin 36864) (k : Fin 1024) : EReal :=
  if h : n.val < 32768 then L (ix2 ⟨n.val, h⟩ k) else C (ix2 ⟨n.val - 32768, by omega⟩ k)

theorem joined_lat (L : FVec Ideal ⟨2, ![32768, 1024]⟩ .f32) (C : FVec Ideal ⟨2, ![4096, 1024]⟩ .f32) (n : Fin 36864) (k : Fin 1024)
    (i : Fin 32768) (h : n.val = i.val) : joined L C n k = L (ix2 i k) := by
  have e : (⟨n.val, by omega⟩ : Fin 32768) = i := Fin.ext h
  rw [joined, dif_pos (by omega), e]

theorem joined_ctx (L : FVec Ideal ⟨2, ![32768, 1024]⟩ .f32) (C : FVec Ideal ⟨2, ![4096, 1024]⟩ .f32) (n : Fin 36864) (k : Fin 1024)
    (i : Fin 4096) (h : n.val = 32768 + i.val) : joined L C n k = C (ix2 i k) := by
  have e : (⟨n.val - 32768, by omega⟩ : Fin 4096) = i := Fin.ext (by dsimp only; omega)
  rw [joined, dif_neg (by omega), e]

/-- The stream with the mixers' projection added: the first mixer's output `A` on latent rows and `C` on context rows, the
    second's `B`, their halves `V` and `W` of the output projection, and the gate, modulation row 5. -/
def mixed (X : FVec Ideal ⟨2, ![36864, 1024]⟩ .f32) (M : FVec Ideal ⟨3, ![17, 9, 1024]⟩ .f32) (A : FVec Ideal ⟨2, ![32768, 512]⟩ .bf16)
    (C : FVec Ideal ⟨2, ![4096, 512]⟩ .bf16) (B : FVec Ideal ⟨2, ![36864, 512]⟩ .bf16) (V W : FVec Ideal ⟨2, ![512, 1024]⟩ .bf16)
    (n : Fin 36864) (k : Fin 1024) : EReal :=
  X (ix2 n k) + M (ix3 (modRow n) 5 k) * ((if h : n.val < 32768 then ∑ l, A (ix2 ⟨n.val, h⟩ l) * V (ix2 l k)
    else ∑ l, C (ix2 ⟨n.val - 32768, by omega⟩ l) * V (ix2 l k)) + ∑ l, B (ix2 n l) * W (ix2 l k))

theorem mixed_lat (X : FVec Ideal ⟨2, ![36864, 1024]⟩ .f32) (M : FVec Ideal ⟨3, ![17, 9, 1024]⟩ .f32) (A : FVec Ideal ⟨2, ![32768, 512]⟩ .bf16)
    (C : FVec Ideal ⟨2, ![4096, 512]⟩ .bf16) (B : FVec Ideal ⟨2, ![36864, 512]⟩ .bf16) (V W : FVec Ideal ⟨2, ![512, 1024]⟩ .bf16)
    (n : Fin 36864) (k : Fin 1024) (i : Fin 32768) (h : n.val = i.val) : mixed X M A C B V W n k
      = X (ix2 n k) + M (ix3 (modRow n) 5 k) * (∑ l, A (ix2 i l) * V (ix2 l k) + ∑ l, B (ix2 n l) * W (ix2 l k)) := by
  have e : (⟨n.val, by omega⟩ : Fin 32768) = i := Fin.ext h
  rw [mixed, dif_pos (by omega), e]

theorem mixed_ctx (X : FVec Ideal ⟨2, ![36864, 1024]⟩ .f32) (M : FVec Ideal ⟨3, ![17, 9, 1024]⟩ .f32) (A : FVec Ideal ⟨2, ![32768, 512]⟩ .bf16)
    (C : FVec Ideal ⟨2, ![4096, 512]⟩ .bf16) (B : FVec Ideal ⟨2, ![36864, 512]⟩ .bf16) (V W : FVec Ideal ⟨2, ![512, 1024]⟩ .bf16)
    (n : Fin 36864) (k : Fin 1024) (i : Fin 4096) (h : n.val = 32768 + i.val) : mixed X M A C B V W n k
      = X (ix2 n k) + M (ix3 (modRow n) 5 k) * (∑ l, C (ix2 i l) * V (ix2 l k) + ∑ l, B (ix2 n l) * W (ix2 l k)) := by
  have e : (⟨n.val - 32768, by omega⟩ : Fin 4096) = i := Fin.ext (by dsimp only; omega)
  rw [mixed, dif_neg (by omega), e]

end Cert.Ffn

end
-- ==== Proof.Ffn3Array.lean ====
/- The array that the half step before mixing leaves in layer 1: each tile's rows are rows of the half step. -/
module

public import proofs.«01_k».proof.Proof.Ffn3Point
public import proofs.«01_k».proof.Proof.FfnHalf
public import Idealize.ShloMosaic.Lib.Pipeline.ValueKit.Tiles

@[expose] public section

set_option maxRecDepth 16384

noncomputable section

namespace Cert.Kernel3Ideal.Point

open Idealize.ShloMosaic Idealize.ShloMosaic.TcCoe Idealize.SL.Sem
open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![min (t.val / 4) 16, 0, 0] ∧ win0_2.index t = ![0, 0]
    ∧ win0_3.index t = ![1, 0, 0, 0] ∧ win0_4.index t = ![1, 0, 0, 0] ∧ win0_5.index t = ![t.val, 0] ∧ t.val < 72 :=
  (by decide +kernel : ∀ t : Fin grid0.N, _)

theorem blk0 (c : Dev nD) (t : Fin cfg0.N) (r : Fin 512) (k : Fin 1024) (n : Fin 36864) (hn : n.val = t.val * 512 + r.val) :
    (show FVec Ideal S512x1024 .f32 from iblk m c 0 t) (ix2 r k) = (show FVec Ideal S36864x1024 .f32 from m ((c : Thread nD τ).loc main_arg0)) (ix2 n k) := by
  show iblk m c 0 t _ = _
  blk_ext [iblk, V, idx t]

theorem blk1 (c : Dev nD) (t : Fin cfg0.N) (a : Fin 9) (k : Fin 1024) (b : Fin 17) (hb : b.val = min (t.val / 4) 16) :
    (show FVec Ideal S1x9x1024 .f32 from iblk m c 1 t) (ix3 0 a k) = (show FVec Ideal S17x9x1024 .f32 from m ((c : Thread nD τ).loc main_arg1)) (ix3 b a k) := by
  show iblk m c 1 t _ = _
  blk_ext [iblk, V, idx t]

theorem blk2 (c : Dev nD) (t : Fin cfg0.N) (a : Fin 3) (k : Fin 1024) :
    (show FVec Ideal S3x1024 .f32 from iblk m c 2 t) (ix2 a k) = (show FVec Ideal S3x1024 .f32 from m ((c : Thread nD τ).loc main_arg2)) (ix2 a k) := by
  show iblk m c 2 t _ = _
  blk_ext [iblk, V, idx t]

theorem blk3 (c : Dev nD) (t : Fin cfg0.N) (r : Fin 1024) (k : Fin 5632) :
    (show FVec Ideal S1x1x1024x5632 .f32 from iblk m c 3 t) (ix4 0 0 r k) = (show FVec Ideal S2x2x1024x5632 .f32 from m ((c : Thread nD τ).loc main_arg3)) (ix4 1 0 r k) := by
  show iblk m c 3 t _ = _
  blk_ext [iblk, V, idx t]

theorem blk4 (c : Dev nD) (t : Fin cfg0.N) (r : Fin 2816) (k : Fin 1024) :
    (show FVec Ideal S1x1x2816x1024 .f32 from iblk m c 4 t) (ix4 0 0 r k) = (show FVec Ideal S2x2x2816x1024 .f32 from m ((c : Thread nD τ).loc main_arg4)) (ix4 1 0 r k) := by
  show iblk m c 4 t _ = _
  blk_ext [iblk, V, idx t]

/-- The kernel's result is the half step's. -/
theorem final (c : Dev nD) : (dats m 0 c).arrAt 5 (cfgs 0).N
    = fun i => Ffn.half (fun n k => m ((c : Thread nD τ).loc main_arg0) (ix2 n k)) (m ((c : Thread nD τ).loc main_arg1)) (m ((c : Thread nD τ).loc main_arg2))
        (m ((c : Thread nD τ).loc main_arg3)) (m ((c : Thread nD τ).loc main_arg4)) 1 0 0 0 1 2 (i 0) (i 1) := by
  refine (dats m 0 c).arrAt_eq_of_covers 5 _ (by decide +kernel) fun t _ y => ?_
  blk_simp
  rw [after0_5]
  idx_vars y
  refine (out_at _ _ _ _ _ _ _).trans ?_
  have ht : t.val < 72 := (idx t).2.2.2.2.2.2
  have hr : t.val * 512 + y0.val < 36864 := by have := y0.isLt; omega
  have e0 : (((View.whole main_v0).slice (win0_5.rect t)).emb (ix2 y0 y1) 0 : Fin 36864) = ⟨t.val * 512 + y0.val, hr⟩ := by
    apply Fin.ext; blk_simp [idx t]
  have e1 : (((View.whole main_v0).slice (win0_5.rect t)).emb (ix2 y0 y1) 1 : Fin 1024) = y1 := by
    apply Fin.ext; blk_simp [idx t]
  refine Eq.trans ?_ (congrArg₂ (Ffn.half (fun n k => m ((c : Thread nD τ).loc main_arg0) (ix2 n k)) (m ((c : Thread nD τ).loc main_arg1)) (m ((c : Thread nD τ).loc main_arg2))
        (m ((c : Thread nD τ).loc main_arg3)) (m ((c : Thread nD τ).loc main_arg4)) 1 0 0 0 1 2) e0 e1).symm
  have hb : (Ffn.modRow ⟨t.val * 512 + y0.val, hr⟩).val = min (t.val / 4) 16 := by dsimp only [Ffn.modRow]; omega
  exact Ffn.stepped_congr
    (funext fun k => blk0 m c t y0 k _ rfl)
    (funext fun k => blk2 m c t 0 k) (funext fun k => blk1 m c t 1 k _ hb) (funext fun k => blk1 m c t 0 k _ hb)
    (funext fun k => blk1 m c t 2 k _ hb) (funext fun k => funext fun j => blk3 m c t k j) (funext fun j => funext fun k => blk4 m c t j k) y1

end Cert.Kernel3Ideal.Point

end
-- ==== Proof.Ffn3Reference.lean ====
/- What the reference of the half step before mixing returns, in layer 1: the latent rows and the context rows in turn. -/
module

public import proofs.«01_k».proof.Proof.Gen.Reference3Ideal.Read
public import proofs.«01_k».proof.Proof.FfnHalf
public import Idealize.ShloMosaic.Lib.Pointwise

@[expose] public section

set_option maxRecDepth 16384

noncomputable section

namespace Cert.Reference3Ideal.Point

open Idealize.ShloMosaic Idealize.ShloMosaic.TcCoe Idealize.SL.Sem
open Cert.Reference3Ideal Cert.Reference3Ideal.Read

variable (x0 : FVec Ideal S36864x1024 .f32) (x1 : FVec Ideal S17x9x1024 .f32) (x2 : FVec Ideal S3x1024 .f32) (x3 : FVec Ideal S2x2x1024x5632 .f32) (x4 : FVec Ideal S2x2x2816x1024 .f32)

/-- Row `s` of sequence `b`. -/
abbrev Xlat (b : Fin 16) (s : Fin 2048) (c : Fin 1024) : EReal := x0 (ix2 ⟨b.val * 2048 + s.val, by omega⟩ c)

/-- Context row `s` of sequence `b`. -/
abbrev Xctx (b : Fin 16) (s : Fin 256) (c : Fin 1024) : EReal := x0 (ix2 ⟨32768 + (b.val * 256 + s.val), by omega⟩ c)

theorem x_lat (b : Fin 16) (s : Fin 2048) (c : Fin 1024) : val_main_v3 (F := Ideal) x0 (ix3 b s c) = Xlat x0 b s c := by
  pointwise [val_main_v3, val_main_v2]

theorem x_ctx (b : Fin 16) (s : Fin 256) (c : Fin 1024) : val_main_v1 (F := Ideal) x0 (ix3 b s c) = Xctx x0 b s c := by
  pointwise [val_main_v1, val_main_v0]

theorem h_lat (b : Fin 16) (s : Fin 2048) (c : Fin 1024) : val_main_v37 (F := Ideal) x0 x1 x2 (ix3 b s c)
    = Ffn.normed (Xlat x0 b s) (fun k => x2 (ix2 0 k)) (fun k => x1 (ix3 ⟨b.val, by omega⟩ 1 k)) (fun k => x1 (ix3 ⟨b.val, by omega⟩ 0 k)) c := by
  pointwise [val_main_v4, val_main_v5, val_main_v6, val_main_v7, val_main_v8, val_main_v9, val_main_v13, val_main_v14, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, x_lat, Ffn.normed, Ffn.rinv]
  rw [mul_assoc _ (x2 (ix2 0 c))]

theorem h_ctx (b : Fin 16) (s : Fin 256) (c : Fin 1024) : val_main_v82 (F := Ideal) x0 x1 x2 (ix3 b s c)
    = Ffn.normed (Xctx x0 b s) (fun k => x2 (ix2 0 k)) (fun k => x1 (ix3 16 1 k)) (fun k => x1 (ix3 16 0 k)) c := by
  pointwise [val_main_v49, val_main_v50, val_main_v51, val_main_v52, val_main_v53, val_main_v54, val_main_v58, val_main_v59, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_cst_4, val_main_cst_5, val_main_cst_6, val_main_cst_7, x_ctx, Ffn.normed, Ffn.rinv]
  rw [mul_assoc _ (x2 (ix2 0 c))]

theorem hidden_lat (b : Fin 16) (s : Fin 2048) (j : Fin 2816) : val_main_v44 (F := Ideal) x0 x1 x2 x3 (ix3 b s j)
    = Ffn.hidden (fun k => val_main_v37 (F := Ideal) x0 x1 x2 (ix3 b s k)) (fun k j => x3 (ix4 1 0 k j)) j := by
  pointwise [val_main_v15, val_main_v16, val_main_v38, val_main_v39, val_main_v40, val_main_v43, val_main_v44, val_main_call0_v0, val_main_call0_v1, val_main_call0_v2, val_main_call0_v3, val_main_call0_v4, val_main_call0_v5, val_main_call0_cst, val_main_call0_cst_0, Ffn.hidden, Ffn.unit]
  rfl

theorem hidden_ctx (b : Fin 16) (s : Fin 256) (j : Fin 2816) : val_main_v89 (F := Ideal) x0 x1 x2 x3 (ix3 b s j)
    = Ffn.hidden (fun k => val_main_v82 (F := Ideal) x0 x1 x2 (ix3 b s k)) (fun k j => x3 (ix4 1 0 k j)) j := by
  pointwise [val_main_v60, val_main_v61, val_main_v83, val_main_v84, val_main_v85, val_main_v88, val_main_v89, val_main_call1_v0, val_main_call1_v1, val_main_call1_v2, val_main_call1_v3, val_main_call1_v4, val_main_call1_v5, val_main_call1_cst, val_main_call1_cst_0, Ffn.hidden, Ffn.unit]
  rfl

theorem y_lat (b : Fin 16) (s : Fin 2048) (c : Fin 1024) : val_main_v48 (F := Ideal) x0 x1 x2 x3 x4 (ix3 b s c)
    = Ffn.stepped (Xlat x0 b s) (Ffn.normed (Xlat x0 b s) (fun k => x2 (ix2 0 k)) (fun k => x1 (ix3 ⟨b.val, by omega⟩ 1 k)) (fun k => x1 (ix3 ⟨b.val, by omega⟩ 0 k)))
      (fun k => x1 (ix3 ⟨b.val, by omega⟩ 2 k)) (fun k j => x3 (ix4 1 0 k j)) (fun j k => x4 (ix4 1 0 j k)) c := by
  pointwise [val_main_v10, val_main_v11, val_main_v12, val_main_v17, val_main_v18, val_main_v41, val_main_v42, val_main_v45, val_main_v46, val_main_v47, val_main_v48, val_main_cst_3, x_lat, hidden_lat, h_lat, Ffn.stepped, Ffn.mlp]

theorem y_ctx (b : Fin 16) (s : Fin 256) (c : Fin 1024) : val_main_v93 (F := Ideal) x0 x1 x2 x3 x4 (ix3 b s c)
    = Ffn.stepped (Xctx x0 b s) (Ffn.normed (Xctx x0 b s) (fun k => x2 (ix2 0 k)) (fun k => x1 (ix3 16 1 k)) (fun k => x1 (ix3 16 0 k)))
      (fun k => x1 (ix3 16 2 k)) (fun k j => x3 (ix4 1 0 k j)) (fun j k => x4 (ix4 1 0 j k)) c := by
  pointwise [val_main_v55, val_main_v56, val_main_v57, val_main_v62, val_main_v63, val_main_v86, val_main_v87, val_main_v90, val_main_v91, val_main_v92, val_main_v93, val_main_cst_8, x_ctx, hidden_ctx, h_ctx, Ffn.stepped, Ffn.mlp]

theorem out_lat (n : Fin 36864) (c : Fin 1024) (b : Fin 16) (s : Fin 2048) (h : n.val = b.val * 2048 + s.val) :
    val_main_v96 (F := Ideal) x0 x1 x2 x3 x4 (ix2 n c) = val_main_v48 (F := Ideal) x0 x1 x2 x3 x4 (ix3 b s c) := by
  pointwise [val_main_v96]
  have e : (⟨n.val, by omega⟩ : Fin 32768) = ⟨b.val * 2048 + s.val, by omega⟩ := Fin.ext h
  rw [dif_pos (by omega), e]
  pointwise [val_main_v94]

theorem out_ctx (n : Fin 36864) (c : Fin 1024) (b : Fin 16) (s : Fin 256) (h : n.val = 32768 + (b.val * 256 + s.val)) :
    val_main_v96 (F := Ideal) x0 x1 x2 x3 x4 (ix2 n c) = val_main_v93 (F := Ideal) x0 x1 x2 x3 x4 (ix3 b s c) := by
  pointwise [val_main_v96]
  have e : (⟨n.val - 32768, by omega⟩ : Fin 4096) = ⟨b.val * 256 + s.val, by omega⟩ := Fin.ext (by dsimp only; omega)
  rw [dif_neg (by omega), e]
  pointwise [val_main_v95]

theorem row_lat (n : Fin 36864) (b : Fin 16) (s : Fin 2048) (h : n.val = b.val * 2048 + s.val) : Xlat x0 b s = fun k => x0 (ix2 n k) := by
  obtain rfl : n = ⟨b.val * 2048 + s.val, by clear h; omega⟩ := Fin.ext h
  rfl

theorem row_ctx (n : Fin 36864) (b : Fin 16) (s : Fin 256) (h : n.val = 32768 + (b.val * 256 + s.val)) : Xctx x0 b s = fun k => x0 (ix2 n k) := by
  obtain rfl : n = ⟨32768 + (b.val * 256 + s.val), by clear h; omega⟩ := Fin.ext h
  rfl

/-- The reference's result is the half step's. -/
theorem result_eq : val_main_v96 (F := Ideal) x0 x1 x2 x3 x4 = fun i => Ffn.half (fun n k => x0 (ix2 n k)) x1 x2 x3 x4 1 0 0 0 1 2 (i 0) (i 1) := by
  funext i
  idx_vars i
  rcases lt_or_ge i0.val 32768 with h | h
  · have e : i0.val = (⟨i0.val / 2048, by omega⟩ : Fin 16).val * 2048 + (⟨i0.val % 2048, by omega⟩ : Fin 2048).val := by dsimp only; omega
    rw [out_lat _ _ _ _ _ i0 i1 _ _ e, y_lat]
    exact Ffn.stepped_congr (row_lat x0 i0 _ _ e) rfl
      (funext fun k => congrArg (fun b => x1 (ix3 b 1 k)) (Ffn.modRow_lat _ _ _ e).symm) (funext fun k => congrArg (fun b => x1 (ix3 b 0 k)) (Ffn.modRow_lat _ _ _ e).symm)
      (funext fun k => congrArg (fun b => x1 (ix3 b 2 k)) (Ffn.modRow_lat _ _ _ e).symm) rfl rfl i1
  · have e : i0.val = 32768 + ((⟨(i0.val - 32768) / 256, by omega⟩ : Fin 16).val * 256 + (⟨(i0.val - 32768) % 256, by omega⟩ : Fin 256).val) := by dsimp only; omega
    rw [out_ctx _ _ _ _ _ i0 i1 _ _ e, y_ctx]
    exact Ffn.stepped_congr (row_ctx x0 i0 _ _ e) rfl
      (funext fun k => congrArg (fun b => x1 (ix3 b 1 k)) (Ffn.modRow_ctx _ h).symm) (funext fun k => congrArg (fun b => x1 (ix3 b 0 k)) (Ffn.modRow_ctx _ h).symm)
      (funext fun k => congrArg (fun b => x1 (ix3 b 2 k)) (Ffn.modRow_ctx _ h).symm) rfl rfl i1

end Cert.Reference3Ideal.Point

end
-- ==== Proof.Ffn3Equation.lean ====
/- The claims about the half step before mixing in layer 1. -/
module

public import proofs.«01_k».proof.Defs
public import proofs.«01_k».proof.Proof.Ffn3Array
public import proofs.«01_k».proof.Proof.Ffn3Reference
public import proofs.«01_k».proof.Proof.Gen.Reference3Ideal.Run
public import Idealize.ShloMosaic.Lib.Claim

@[expose] public section

set_option maxRecDepth 16384

noncomputable section

namespace Cert.Ffn3

open Idealize.ShloMosaic Idealize.SL.Sem

/-- The reference leaves its arguments as they were. -/
theorem reference_frame :
    Cert.quiescent_Reference3Ideal (hReference3Ideal := Cert.Reference3Ideal.Gen.facts) := by
  intro m g _
  exact (θ_run _ _ _).mono (fun r h => ⟨fun c => (h c).2, sem_eq_zero_of_no_sems (by decide) r.2⟩)
    (Cert.Reference3Ideal.Value.run m g)

/-- From the same arguments both programs end with the same result. -/
theorem algebraic : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    obtain ⟨h0, h1, h2, h3, h4⟩ := hagree c
    refine (Cert.Reference3Ideal.Read.val_main_v96_eq m' c).trans ?_
    rw [h0, h1, h2, h3, h4]
    exact (Cert.Reference3Ideal.Point.result_eq _ _ _ _ _).trans (Cert.Kernel3Ideal.Point.final m c).symm

end Cert.Ffn3

end
-- ==== Proof.Ffn4Point.lean ====
/- What the post-mixing half step of layer 0 stores for one row of its tile. -/
module

public import proofs.«01_k».proof.Proof.FfnMath
public import proofs.«01_k».proof.Proof.Gen.Kernel4Ideal.Frame
public import Idealize.ShloMosaic.Lib.Pipeline.ValueKit

@[expose] public section

set_option maxRecDepth 16384
set_option maxHeartbeats 4000000

noncomputable section

namespace Cert.Kernel4Ideal.Point

open Idealize.ShloMosaic Idealize.ShloMosaic.TcCoe Idealize.SL.Sem
open Cert.Kernel4Ideal Cert.Kernel4Ideal.Gen

variable (i : grid0.Coords) (x0 : FVec Ideal S512x1024 .f32) (x1 : FVec Ideal S1x9x1024 .f32) (x2 : FVec Ideal S3x1024 .f32)
  (x3 x4 x5 : FVec Ideal S512x512 .bf16) (x6 x7 : FVec Ideal S512x1024 .bf16) (x8 : FVec Ideal S1x1x1024x5632 .f32) (x9 : FVec Ideal S1x1x2816x1024 .f32)

theorem slt_at : ∀ n : Fin 72, Scalar.cmpi .slt (BitVec.ofNat 32 n.val) 64#32 = if n.val < 64 then 1#1 else 0#1 := by decide +kernel

/-- In the first 64 tiles the mixed rows come from the first array, -/
theorem x_lat (h : (i 0).val < 64) (r : Fin 512) (c : Fin 1024) : k0_pay3 (F := Ideal) i x0 x1 x3 x4 x6 x5 x7 (ix2 r c)
    = x0 (ix2 r c) + x1 (ix3 0 5 c) * (∑ l, x3 (ix2 r l) * x6 (ix2 l c) + ∑ l, x5 (ix2 r l) * x7 (ix2 l c)) := by
  have e : Scalar.cmpi .slt (BitVec.ofNat 32 (i 0).val) 64#32 = 1#1 := (slt_at ⟨(i 0).val, (i 0).isLt⟩).trans (if_pos h)
  have s : Scalar.select (Scalar.cmpi .slt (BitVec.ofNat 32 (i 0).val) 64#32) x3 x4 = x3 := by rw [e]; rfl
  unfold k0_pay3
  dsimp only
  rw [s]
  pointwise [k0_pay2]

/-- and in the others from the second. -/
theorem x_ctx (h : ¬ (i 0).val < 64) (r : Fin 512) (c : Fin 1024) : k0_pay3 (F := Ideal) i x0 x1 x3 x4 x6 x5 x7 (ix2 r c)
    = x0 (ix2 r c) + x1 (ix3 0 5 c) * (∑ l, x4 (ix2 r l) * x6 (ix2 l c) + ∑ l, x5 (ix2 r l) * x7 (ix2 l c)) := by
  have e : Scalar.cmpi .slt (BitVec.ofNat 32 (i 0).val) 64#32 = 0#1 := (slt_at ⟨(i 0).val, (i 0).isLt⟩).trans (if_neg h)
  have s : Scalar.select (Scalar.cmpi .slt (BitVec.ofNat 32 (i 0).val) 64#32) x3 x4 = x4 := by rw [e]; rfl
  unfold k0_pay3
  dsimp only
  rw [s]
  pointwise [k0_pay2]

/-- Reading the whole of each block changes nothing. -/
theorem x_same : k0_pay3 (F := Ideal) i (View.ld x0 r0_0) (View.ld x1 r0_1) (View.ld x3 r0_2) (View.ld x4 r0_2) (View.ld x6 r0_0) (View.ld x5 r0_2)
    (View.ld x7 r0_0) = k0_pay3 (F := Ideal) i x0 x1 x3 x4 x6 x5 x7 := by
  frame_out

theorem h_at (r : Fin 512) (c : Fin 1024) : k0_pay24 (F := Ideal) i x0 x1 x2 x3 x4 x5 x6 x7 x8 x9 (ix2 r c)
    = Ffn.normed (fun k => k0_pay3 (F := Ideal) i x0 x1 x3 x4 x6 x5 x7 (ix2 r k)) (fun k => x2 (ix2 2 k)) (fun k => x1 (ix3 0 7 k)) (fun k => x1 (ix3 0 6 k)) c := by
  pointwise [k0_pay24, k0_pay8, k0_pay21, k0_pay22, k0_pay23, k0_pay4, k0_pay6, k0_pay7, k0_pay2, x_same, Ffn.normed, Ffn.rinv]

theorem h_same : k0_pay8 (F := Ideal) (k0_pay21 (F := Ideal) i x0 x1 x2 x3 x4 x5 x6 x7 x8 x9) (k0_pay22 (F := Ideal) i x0 x1 x2 x3 x4 x5 x6 x7 x8 x9)
    (k0_pay23 (F := Ideal) i x0 x1 x2 x3 x4 x5 x6 x7 x8 x9) = k0_pay24 (F := Ideal) i x0 x1 x2 x3 x4 x5 x6 x7 x8 x9 := rfl

theorem gate_at (c : Fin 1024) : k0_pay5 (F := Ideal) x1 (ix2 0 c) = x1 (ix3 0 8 c) := by
  pointwise [k0_pay5, k0_pay2]

theorem out_at (r : Fin 512) (c : Fin 1024) : out0_10 (F := Ideal) i x0 x1 x2 x3 x4 x5 x6 x7 x8 x9 (ix2 r c)
    = Ffn.stepped (fun k => k0_pay3 (F := Ideal) i x0 x1 x3 x4 x6 x5 x7 (ix2 r k))
        (Ffn.normed (fun k => k0_pay3 (F := Ideal) i x0 x1 x3 x4 x6 x5 x7 (ix2 r k)) (fun k => x2 (ix2 2 k)) (fun k => x1 (ix3 0 7 k)) (fun k => x1 (ix3 0 6 k)))
        (fun k => x1 (ix3 0 8 k)) (fun k j => x8 (ix4 0 0 k j)) (fun j k => x9 (ix4 0 0 j k)) c := by
  unfold out0_10
  frame_out
  pointwise [k0_pay1, k0_pay9, k0_pay10, k0_pay11, k0_pay12, k0_pay13, k0_pay14, k0_pay15, k0_pay16, k0_pay17, k0_pay18, k0_pay19, k0_pay20,
    h_same i x0 x1 x2 x3 x4 x5 x6 x7 x8 x9, gate_at]
  rw [Ffn.stepped, Ffn.mlp_eq_chunks, ← funext fun k => h_at i x0 x1 x2 x3 x4 x5 x6 x7 x8 x9 r k]
  generalize k0_pay24 (F := Ideal) i x0 x1 x2 x3 x4 x5 x6 x7 x8 x9 = h
  simp only [Ffn.chunk, Ffn.unit, Nat.zero_add]

end Cert.Kernel4Ideal.Point

end
-- ==== Proof.Ffn4Array.lean ====
/- The array that the half step after mixing leaves in layer 0: each tile's rows are rows of the half step. -/
module

public import proofs.«01_k».proof.Proof.Ffn4Point
public import proofs.«01_k».proof.Proof.FfnHalf
public import Idealize.ShloMosaic.Lib.Pipeline.ValueKit.Tiles

@[expose] public section

set_option maxRecDepth 16384

noncomputable section

namespace Cert.Kernel4Ideal.Point

open Idealize.ShloMosaic Idealize.ShloMosaic.TcCoe Idealize.SL.Sem
open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![min (t.val / 4) 16, 0, 0] ∧ win0_2.index t = ![0, 0]
    ∧ win0_3.index t = ![min t.val 63, 0] ∧ win0_4.index t = ![t.val - 64, 0] ∧ win0_5.index t = ![t.val, 0] ∧ win0_6.index t = ![0, 0] ∧ win0_7.index t = ![0, 0]
    ∧ win0_8.index t = ![0, 1, 0, 0] ∧ win0_9.index t = ![0, 1, 0, 0] ∧ win0_10.index t = ![t.val, 0] ∧ t.val < 72 :=
  (by decide +kernel : ∀ t : Fin grid0.N, _)

theorem blk0 (c : Dev nD) (t : Fin cfg0.N) (r : Fin 512) (k : Fin 1024) (n : Fin 36864) (hn : n.val = t.val * 512 + r.val) :
    (show FVec Ideal S512x1024 .f32 from iblk m c 0 t) (ix2 r k) = (show FVec Ideal S36864x1024 .f32 from m ((c : Thread nD τ).loc main_arg0)) (ix2 n k) := by
  show iblk m c 0 t _ = _
  blk_ext [iblk, V, idx t]

theorem blk3 (c : Dev nD) (t : Fin cfg0.N) (ht : t.val < 64) (r : Fin 512) (k : Fin 512) (n : Fin 32768) (hn : n.val = t.val * 512 + r.val) :
    (show FVec Ideal S512x512 .bf16 from iblk m c 3 t) (ix2 r k) = (show FVec Ideal S32768x512 .bf16 from m ((c : Thread nD τ).loc main_arg5)) (ix2 n k) := by
  have hm : min t.val 63 = t.val := by omega
  show iblk m c 3 t _ = _
  blk_ext [iblk, V, idx t, hm]

theorem blk4 (c : Dev nD) (t : Fin cfg0.N) (ht : 64 ≤ t.val) (r : Fin 512) (k : Fin 512) (n : Fin 4096) (hn : 32768 + n.val = t.val * 512 + r.val) :
    (show FVec Ideal S512x512 .bf16 from iblk m c 4 t) (ix2 r k) = (show FVec Ideal S4096x512 .bf16 from m ((c : Thread nD τ).loc main_arg6)) (ix2 n k) := by
  have hm : (t.val - 64) * 512 + r.val = n.val := by omega
  show iblk m c 4 t _ = _
  blk_ext [iblk, V, idx t, hm]

theorem blk5 (c : Dev nD) (t : Fin cfg0.N) (r : Fin 512) (k : Fin 512) (n : Fin 36864) (hn : n.val = t.val * 512 + r.val) :
    (show FVec Ideal S512x512 .bf16 from iblk m c 5 t) (ix2 r k) = (show FVec Ideal S36864x512 .bf16 from m ((c : Thread nD τ).loc main_arg7)) (ix2 n k) := by
  show iblk m c 5 t _ = _
  blk_ext [iblk, V, idx t]

theorem blk6 (c : Dev nD) (t : Fin cfg0.N) (a : Fin 512) (k : Fin 1024) :
    (show FVec Ideal S512x1024 .bf16 from iblk m c 6 t) (ix2 a k) = (show FVec Ideal S512x1024 .bf16 from m ((c : Thread nD τ).loc main_arg8)) (ix2 a k) := by
  show iblk m c 6 t _ = _
  blk_ext [iblk, V, idx t]

theorem blk7 (c : Dev nD) (t : Fin cfg0.N) (a : Fin 512) (k : Fin 1024) :
    (show FVec Ideal S512x1024 .bf16 from iblk m c 7 t) (ix2 a k) = (show FVec Ideal S512x1024 .bf16 from m ((c : Thread nD τ).loc main_arg9)) (ix2 a k) := by
  show iblk m c 7 t _ = _
  blk_ext [iblk, V, idx t]

theorem blk1 (c : Dev nD) (t : Fin cfg0.N) (a : Fin 9) (k : Fin 1024) (b : Fin 17) (hb : b.val = min (t.val / 4) 16) :
    (show FVec Ideal S1x9x1024 .f32 from iblk m c 1 t) (ix3 0 a k) = (show FVec Ideal S17x9x1024 .f32 from m ((c : Thread nD τ).loc main_arg1)) (ix3 b a k) := by
  show iblk m c 1 t _ = _
  blk_ext [iblk, V, idx t]

theorem blk2 (c : Dev nD) (t : Fin cfg0.N) (a : Fin 3) (k : Fin 1024) :
    (show FVec Ideal S3x1024 .f32 from iblk m c 2 t) (ix2 a k) = (show FVec Ideal S3x1024 .f32 from m ((c : Thread nD τ).loc main_arg2)) (ix2 a k) := by
  show iblk m c 2 t _ = _
  blk_ext [iblk, V, idx t]

theorem blk8 (c : Dev nD) (t : Fin cfg0.N) (r : Fin 1024) (k : Fin 5632) :
    (show FVec Ideal S1x1x1024x5632 .f32 from iblk m c 8 t) (ix4 0 0 r k) = (show FVec Ideal S2x2x1024x5632 .f32 from m ((c : Thread nD τ).loc main_arg3)) (ix4 0 1 r k) := by
  show iblk m c 8 t _ = _
  blk_ext [iblk, V, idx t]

theorem blk9 (c : Dev nD) (t : Fin cfg0.N) (r : Fin 2816) (k : Fin 1024) :
    (show FVec Ideal S1x1x2816x1024 .f32 from iblk m c 9 t) (ix4 0 0 r k) = (show FVec Ideal S2x2x2816x1024 .f32 from m ((c : Thread nD τ).loc main_arg4)) (ix4 0 1 r k) := by
  show iblk m c 9 t _ = _
  blk_ext [iblk, V, idx t]

/-- The grid's one coordinate is the tile's number. -/
theorem coord : ∀ t : Fin cfg0.N, ((cfg0.grid.coords t) 0).val = t.val :=
  (by decide +kernel : ∀ t : Fin grid0.N, ((grid0.coords t) 0).val = t.val)

/-- The kernel's result is the half step's. -/
theorem final (c : Dev nD) : (dats m 0 c).arrAt 10 (cfgs 0).N = fun i => Ffn.half (Ffn.mixed (m ((c : Thread nD τ).loc main_arg0)) (m ((c : Thread nD τ).loc main_arg1)) (m ((c : Thread nD τ).loc main_arg5)) (m ((c : Thread nD τ).loc main_arg6))
        (m ((c : Thread nD τ).loc main_arg7)) (m ((c : Thread nD τ).loc main_arg8)) (m ((c : Thread nD τ).loc main_arg9))) (m ((c : Thread nD τ).loc main_arg1)) (m ((c : Thread nD τ).loc main_arg2))
        (m ((c : Thread nD τ).loc main_arg3)) (m ((c : Thread nD τ).loc main_arg4)) 0 1 2 6 7 8 (i 0) (i 1) := by
  refine (dats m 0 c).arrAt_eq_of_covers 10 _ (by decide +kernel) fun t _ y => ?_
  blk_simp
  rw [after0_10]
  idx_vars y
  refine (out_at _ _ _ _ _ _ _ _ _ _ _ _ _).trans ?_
  have ht : t.val < 72 := (idx t).2.2.2.2.2.2.2.2.2.2.2
  have hr : t.val * 512 + y0.val < 36864 := by have := y0.isLt; omega
  have e0 : (((View.whole main_v0).slice (win0_10.rect t)).emb (ix2 y0 y1) 0 : Fin 36864) = ⟨t.val * 512 + y0.val, hr⟩ := by
    apply Fin.ext; blk_simp [idx t]
  have e1 : (((View.whole main_v0).slice (win0_10.rect t)).emb (ix2 y0 y1) 1 : Fin 1024) = y1 := by
    apply Fin.ext; blk_simp [idx t]
  refine Eq.trans ?_ (congrArg₂ (Ffn.half (Ffn.mixed (m ((c : Thread nD τ).loc main_arg0)) (m ((c : Thread nD τ).loc main_arg1)) (m ((c : Thread nD τ).loc main_arg5)) (m ((c : Thread nD τ).loc main_arg6))
        (m ((c : Thread nD τ).loc main_arg7)) (m ((c : Thread nD τ).loc main_arg8)) (m ((c : Thread nD τ).loc main_arg9))) (m ((c : Thread nD τ).loc main_arg1)) (m ((c : Thread nD τ).loc main_arg2))
        (m ((c : Thread nD τ).loc main_arg3)) (m ((c : Thread nD τ).loc main_arg4)) 0 1 2 6 7 8) e0 e1).symm
  have hb : (Ffn.modRow ⟨t.val * 512 + y0.val, hr⟩).val = min (t.val / 4) 16 := by dsimp only [Ffn.modRow]; omega
  refine Ffn.stepped_congr (funext fun k => ?_)
    (funext fun k => blk2 m c t 2 k) (funext fun k => blk1 m c t 7 k _ hb) (funext fun k => blk1 m c t 6 k _ hb)
    (funext fun k => blk1 m c t 8 k _ hb) (funext fun k => funext fun j => blk8 m c t k j) (funext fun j => funext fun k => blk9 m c t j k) y1
  have hc := coord t
  rcases Nat.lt_or_ge t.val 64 with h | h
  · have hn : t.val * 512 + y0.val < 32768 := by have := y0.isLt; omega
    have hi : ((cfg0.grid.coords t) 0).val < 64 := by rw [hc]; exact h
    refine (x_lat _ _ _ _ _ _ _ _ hi y0 k).trans (Eq.trans ?_ (Ffn.mixed_lat _ _ _ _ _ _ _ _ k ⟨_, hn⟩ rfl).symm)
    exact congrArg₂ (· + ·) (blk0 m c t y0 k _ rfl) (congrArg₂ (· * ·) (blk1 m c t 5 k _ hb) (congrArg₂ (· + ·)
      (Finset.sum_congr rfl fun l _ => congrArg₂ (· * ·) (blk3 m c t h y0 l ⟨_, hn⟩ rfl) (blk6 m c t l k))
      (Finset.sum_congr rfl fun l _ => congrArg₂ (· * ·) (blk5 m c t y0 l _ rfl) (blk7 m c t l k))))
  · have hn : t.val * 512 + y0.val - 32768 < 4096 := by omega
    have he : t.val * 512 + y0.val = 32768 + (t.val * 512 + y0.val - 32768) := by omega
    have hi : ¬ ((cfg0.grid.coords t) 0).val < 64 := by rw [hc]; omega
    refine (x_ctx _ _ _ _ _ _ _ _ hi y0 k).trans (Eq.trans ?_ (Ffn.mixed_ctx _ _ _ _ _ _ _ _ k ⟨_, hn⟩ he).symm)
    exact congrArg₂ (· + ·) (blk0 m c t y0 k _ rfl) (congrArg₂ (· * ·) (blk1 m c t 5 k _ hb) (congrArg₂ (· + ·)
      (Finset.sum_congr rfl fun l _ => congrArg₂ (· * ·) (blk4 m c t h y0 l ⟨_, hn⟩ he.symm) (blk6 m c t l k))
      (Finset.sum_congr rfl fun l _ => congrArg₂ (· * ·) (blk5 m c t y0 l _ rfl) (blk7 m c t l k))))

end Cert.Kernel4Ideal.Point

end
-- ==== Proof.Ffn4Reference.lean ====
/- What the reference of the half step after mixing returns, in layer 0: the latent rows and the context rows in turn. -/
module

public import proofs.«01_k».proof.Proof.Gen.Reference4Ideal.Read
public import proofs.«01_k».proof.Proof.FfnHalf
public import Idealize.ShloMosaic.Lib.Pointwise

@[expose] public section

set_option maxRecDepth 16384

noncomputable section

namespace Cert.Reference4Ideal.Point

open Idealize.ShloMosaic Idealize.ShloMosaic.TcCoe Idealize.SL.Sem
open Cert.Reference4Ideal Cert.Reference4Ideal.Read

variable (x0 : FVec Ideal S36864x1024 .f32) (x1 : FVec Ideal S17x9x1024 .f32) (x2 : FVec Ideal S3x1024 .f32) (x3 : FVec Ideal S2x2x1024x5632 .f32) (x4 : FVec Ideal S2x2x2816x1024 .f32) (x5 : FVec Ideal S32768x512 .bf16) (x6 : FVec Ideal S4096x512 .bf16) (x7 : FVec Ideal S36864x512 .bf16) (x8 x9 : FVec Ideal S512x1024 .bf16)

/-- Row `s` of sequence `b` with the projection of the mixers' outputs. -/
abbrev Xlat (b : Fin 16) (s : Fin 2048) (c : Fin 1024) : EReal :=
  x0 (ix2 ⟨b.val * 2048 + s.val, by omega⟩ c) + x1 (ix3 ⟨b.val, by omega⟩ 5 c) * (∑ l, x5 (ix2 ⟨b.val * 2048 + s.val, by omega⟩ l) * x8 (ix2 l c)
    + ∑ l, x7 (ix2 ⟨b.val * 2048 + s.val, by omega⟩ l) * x9 (ix2 l c))

/-- Context row `s` of sequence `b` with the projection of the mixers' outputs. -/
abbrev Xctx (b : Fin 16) (s : Fin 256) (c : Fin 1024) : EReal :=
  x0 (ix2 ⟨32768 + (b.val * 256 + s.val), by omega⟩ c) + x1 (ix3 16 5 c) * (∑ l, x6 (ix2 ⟨b.val * 256 + s.val, by omega⟩ l) * x8 (ix2 l c)
    + ∑ l, x7 (ix2 ⟨32768 + (b.val * 256 + s.val), by omega⟩ l) * x9 (ix2 l c))

theorem proj_lat (b : Fin 16) (s : Fin 2048) (c : Fin 1024) : val_main_v6 (F := Ideal) x5 x7 x8 x9 (ix3 b s c)
    = ∑ l, x5 (ix2 ⟨b.val * 2048 + s.val, by omega⟩ l) * x8 (ix2 l c) + ∑ l, x7 (ix2 ⟨b.val * 2048 + s.val, by omega⟩ l) * x9 (ix2 l c) := by
  pointwise [val_main_v0, val_main_v1, val_main_v2, val_main_v3, val_main_v4, val_main_v5, val_main_v6]

theorem proj_ctx (b : Fin 16) (s : Fin 256) (c : Fin 1024) : val_main_v11 (F := Ideal) x6 x7 x8 x9 (ix3 b s c)
    = ∑ l, x6 (ix2 ⟨b.val * 256 + s.val, by omega⟩ l) * x8 (ix2 l c) + ∑ l, x7 (ix2 ⟨32768 + (b.val * 256 + s.val), by omega⟩ l) * x9 (ix2 l c) := by
  pointwise [val_main_v0, val_main_v1, val_main_v7, val_main_v8, val_main_v9, val_main_v10, val_main_v11]

theorem x_lat (b : Fin 16) (s : Fin 2048) (c : Fin 1024) : val_main_v27 (F := Ideal) x0 x1 x5 x7 x8 x9 (ix3 b s c) = Xlat x0 x1 x5 x7 x8 x9 b s c := by
  pointwise [val_main_v20, val_main_v21, val_main_v22, val_main_v23, val_main_v24, val_main_v25, val_main_v26, val_main_v27, proj_lat]

theorem x_ctx (b : Fin 16) (s : Fin 256) (c : Fin 1024) : val_main_v19 (F := Ideal) x0 x1 x6 x7 x8 x9 (ix3 b s c) = Xctx x0 x1 x6 x7 x8 x9 b s c := by
  pointwise [val_main_v12, val_main_v13, val_main_v14, val_main_v15, val_main_v16, val_main_v17, val_main_v18, val_main_v19, proj_ctx]

theorem h_lat (b : Fin 16) (s : Fin 2048) (c : Fin 1024) : val_main_v61 (F := Ideal) x0 x1 x2 x5 x7 x8 x9 (ix3 b s c)
    = Ffn.normed (Xlat x0 x1 x5 x7 x8 x9 b s) (fun k => x2 (ix2 2 k)) (fun k => x1 (ix3 ⟨b.val, by omega⟩ 7 k)) (fun k => x1 (ix3 ⟨b.val, by omega⟩ 6 k)) c := by
  pointwise [val_main_v28, val_main_v29, val_main_v30, val_main_v31, val_main_v32, val_main_v33, val_main_v37, val_main_v38, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_cst, val_main_cst_0, val_main_cst_1, val_main_cst_2, x_lat, Ffn.normed, Ffn.rinv]
  rw [mul_assoc _ (x2 (ix2 2 c))]

theorem h_ctx (b : Fin 16) (s : Fin 256) (c : Fin 1024) : val_main_v106 (F := Ideal) x0 x1 x2 x6 x7 x8 x9 (ix3 b s c)
    = Ffn.normed (Xctx x0 x1 x6 x7 x8 x9 b s) (fun k => x2 (ix2 2 k)) (fun k => x1 (ix3 16 7 k)) (fun k => x1 (ix3 16 6 k)) c := by
  pointwise [val_main_v73, val_main_v74, val_main_v75, val_main_v76, val_main_v77, val_main_v78, val_main_v82, val_main_v83, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_cst_4, val_main_cst_5, val_main_cst_6, val_main_cst_7, x_ctx, Ffn.normed, Ffn.rinv]
  rw [mul_assoc _ (x2 (ix2 2 c))]

theorem hidden_lat (b : Fin 16) (s : Fin 2048) (j : Fin 2816) : val_main_v68 (F := Ideal) x0 x1 x2 x3 x5 x7 x8 x9 (ix3 b s j)
    = Ffn.hidden (fun k => val_main_v61 (F := Ideal) x0 x1 x2 x5 x7 x8 x9 (ix3 b s k)) (fun k j => x3 (ix4 0 1 k j)) j := by
  pointwise [val_main_v39, val_main_v40, val_main_v62, val_main_v63, val_main_v64, val_main_v67, val_main_v68, val_main_call0_v0, val_main_call0_v1, val_main_call0_v2, val_main_call0_v3, val_main_call0_v4, val_main_call0_v5, val_main_call0_cst, val_main_call0_cst_0, Ffn.hidden, Ffn.unit]
  rfl

theorem hidden_ctx (b : Fin 16) (s : Fin 256) (j : Fin 2816) : val_main_v113 (F := Ideal) x0 x1 x2 x3 x6 x7 x8 x9 (ix3 b s j)
    = Ffn.hidden (fun k => val_main_v106 (F := Ideal) x0 x1 x2 x6 x7 x8 x9 (ix3 b s k)) (fun k j => x3 (ix4 0 1 k j)) j := by
  pointwise [val_main_v84, val_main_v85, val_main_v107, val_main_v108, val_main_v109, val_main_v112, val_main_v113, val_main_call1_v0, val_main_call1_v1, val_main_call1_v2, val_main_call1_v3, val_main_call1_v4, val_main_call1_v5, val_main_call1_cst, val_main_call1_cst_0, Ffn.hidden, Ffn.unit]
  rfl

theorem y_lat (b : Fin 16) (s : Fin 2048) (c : Fin 1024) : val_main_v72 (F := Ideal) x0 x1 x2 x3 x4 x5 x7 x8 x9 (ix3 b s c)
    = Ffn.stepped (Xlat x0 x1 x5 x7 x8 x9 b s) (Ffn.normed (Xlat x0 x1 x5 x7 x8 x9 b s) (fun k => x2 (ix2 2 k)) (fun k => x1 (ix3 ⟨b.val, by omega⟩ 7 k)) (fun k => x1 (ix3 ⟨b.val, by omega⟩ 6 k)))
      (fun k => x1 (ix3 ⟨b.val, by omega⟩ 8 k)) (fun k j => x3 (ix4 0 1 k j)) (fun j k => x4 (ix4 0 1 j k)) c := by
  pointwise [val_main_v34, val_main_v35, val_main_v36, val_main_v41, val_main_v42, val_main_v65, val_main_v66, val_main_v69, val_main_v70, val_main_v71, val_main_v72, val_main_cst_3, x_lat, hidden_lat, h_lat, Ffn.stepped, Ffn.mlp]

theorem y_ctx (b : Fin 16) (s : Fin 256) (c : Fin 1024) : val_main_v117 (F := Ideal) x0 x1 x2 x3 x4 x6 x7 x8 x9 (ix3 b s c)
    = Ffn.stepped (Xctx x0 x1 x6 x7 x8 x9 b s) (Ffn.normed (Xctx x0 x1 x6 x7 x8 x9 b s) (fun k => x2 (ix2 2 k)) (fun k => x1 (ix3 16 7 k)) (fun k => x1 (ix3 16 6 k)))
      (fun k => x1 (ix3 16 8 k)) (fun k j => x3 (ix4 0 1 k j)) (fun j k => x4 (ix4 0 1 j k)) c := by
  pointwise [val_main_v79, val_main_v80, val_main_v81, val_main_v86, val_main_v87, val_main_v110, val_main_v111, val_main_v114, val_main_v115, val_main_v116, val_main_v117, val_main_cst_8, x_ctx, hidden_ctx, h_ctx, Ffn.stepped, Ffn.mlp]

theorem out_lat (n : Fin 36864) (c : Fin 1024) (b : Fin 16) (s : Fin 2048) (h : n.val = b.val * 2048 + s.val) :
    val_main_v120 (F := Ideal) x0 x1 x2 x3 x4 x5 x6 x7 x8 x9 (ix2 n c) = val_main_v72 (F := Ideal) x0 x1 x2 x3 x4 x5 x7 x8 x9 (ix3 b s c) := by
  pointwise [val_main_v120]
  have e : (⟨n.val, by omega⟩ : Fin 32768) = ⟨b.val * 2048 + s.val, by omega⟩ := Fin.ext h
  rw [dif_pos (by omega), e]
  pointwise [val_main_v118]

theorem out_ctx (n : Fin 36864) (c : Fin 1024) (b : Fin 16) (s : Fin 256) (h : n.val = 32768 + (b.val * 256 + s.val)) :
    val_main_v120 (F := Ideal) x0 x1 x2 x3 x4 x5 x6 x7 x8 x9 (ix2 n c) = val_main_v117 (F := Ideal) x0 x1 x2 x3 x4 x6 x7 x8 x9 (ix3 b s c) := by
  pointwise [val_main_v120]
  have e : (⟨n.val - 32768, by omega⟩ : Fin 4096) = ⟨b.val * 256 + s.val, by omega⟩ := Fin.ext (by dsimp only; omega)
  rw [dif_neg (by omega), e]
  pointwise [val_main_v119]

theorem row_lat (n : Fin 36864) (b : Fin 16) (s : Fin 2048) (h : n.val = b.val * 2048 + s.val) : Xlat x0 x1 x5 x7 x8 x9 b s = Ffn.mixed x0 x1 x5 x6 x7 x8 x9 n := by
  funext k
  rw [Ffn.mixed_lat x0 x1 x5 x6 x7 x8 x9 n k ⟨b.val * 2048 + s.val, by omega⟩ h, Ffn.modRow_lat n b s h]
  obtain rfl : n = ⟨b.val * 2048 + s.val, by clear h; omega⟩ := Fin.ext h
  rfl

theorem row_ctx (n : Fin 36864) (b : Fin 16) (s : Fin 256) (h : n.val = 32768 + (b.val * 256 + s.val)) : Xctx x0 x1 x6 x7 x8 x9 b s = Ffn.mixed x0 x1 x5 x6 x7 x8 x9 n := by
  funext k
  rw [Ffn.mixed_ctx x0 x1 x5 x6 x7 x8 x9 n k ⟨b.val * 256 + s.val, by omega⟩ h, Ffn.modRow_ctx n (by omega)]
  obtain rfl : n = ⟨32768 + (b.val * 256 + s.val), by clear h; omega⟩ := Fin.ext h
  rfl

/-- The reference's result is the half step's. -/
theorem result_eq : val_main_v120 (F := Ideal) x0 x1 x2 x3 x4 x5 x6 x7 x8 x9 = fun i => Ffn.half (Ffn.mixed x0 x1 x5 x6 x7 x8 x9) x1 x2 x3 x4 0 1 2 6 7 8 (i 0) (i 1) := by
  funext i
  idx_vars i
  rcases lt_or_ge i0.val 32768 with h | h
  · have e : i0.val = (⟨i0.val / 2048, by omega⟩ : Fin 16).val * 2048 + (⟨i0.val % 2048, by omega⟩ : Fin 2048).val := by dsimp only; omega
    rw [out_lat _ _ _ _ _ _ _ _ _ _ i0 i1 _ _ e, y_lat]
    exact Ffn.stepped_congr (row_lat x0 x1 x5 x6 x7 x8 x9 i0 _ _ e) rfl
      (funext fun k => congrArg (fun b => x1 (ix3 b 7 k)) (Ffn.modRow_lat _ _ _ e).symm) (funext fun k => congrArg (fun b => x1 (ix3 b 6 k)) (Ffn.modRow_lat _ _ _ e).symm)
      (funext fun k => congrArg (fun b => x1 (ix3 b 8 k)) (Ffn.modRow_lat _ _ _ e).symm) rfl rfl i1
  · have e : i0.val = 32768 + ((⟨(i0.val - 32768) / 256, by omega⟩ : Fin 16).val * 256 + (⟨(i0.val - 32768) % 256, by omega⟩ : Fin 256).val) := by dsimp only; omega
    rw [out_ctx _ _ _ _ _ _ _ _ _ _ i0 i1 _ _ e, y_ctx]
    exact Ffn.stepped_congr (row_ctx x0 x1 x5 x6 x7 x8 x9 i0 _ _ e) rfl
      (funext fun k => congrArg (fun b => x1 (ix3 b 7 k)) (Ffn.modRow_ctx _ h).symm) (funext fun k => congrArg (fun b => x1 (ix3 b 6 k)) (Ffn.modRow_ctx _ h).symm)
      (funext fun k => congrArg (fun b => x1 (ix3 b 8 k)) (Ffn.modRow_ctx _ h).symm) rfl rfl i1

end Cert.Reference4Ideal.Point

end
-- ==== Proof.Ffn4Equation.lean ====
/- The claims about the half step after mixing in layer 0. -/
module

public import proofs.«01_k».proof.Defs
public import proofs.«01_k».proof.Proof.Ffn4Array
public import proofs.«01_k».proof.Proof.Ffn4Reference
public import proofs.«01_k».proof.Proof.Gen.Reference4Ideal.Run
public import Idealize.ShloMosaic.Lib.Claim

@[expose] public section

set_option maxRecDepth 16384

noncomputable section

namespace Cert.Ffn4

open Idealize.ShloMosaic Idealize.SL.Sem

/-- The reference leaves its arguments as they were. -/
theorem reference_frame :
    Cert.quiescent_Reference4Ideal (hReference4Ideal := Cert.Reference4Ideal.Gen.facts) := by
  intro m g _
  exact (θ_run _ _ _).mono (fun r h => ⟨fun c => (h c).2, sem_eq_zero_of_no_sems (by decide) r.2⟩)
    (Cert.Reference4Ideal.Value.run m g)

/-- From the same arguments both programs end with the same result. -/
theorem algebraic : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    obtain ⟨h0, h1, h2, h3, h4, h5, h6, h7, h8, h9⟩ := hagree c
    refine (Cert.Reference4Ideal.Read.val_main_v120_eq m' c).trans ?_
    rw [h0, h1, h2, h3, h4, h5, h6, h7, h8, h9]
    exact (Cert.Reference4Ideal.Point.result_eq _ _ _ _ _ _ _ _ _ _).trans (Cert.Kernel4Ideal.Point.final m c).symm

end Cert.Ffn4

end
-- ==== Proof.Ffn5Point.lean ====
/- What the pre-mixing half step of layer 0 stores for one row of its tile. -/
module

public import proofs.«01_k».proof.Proof.FfnMath
public import proofs.«01_k».proof.Proof.Gen.Kernel5Ideal.Frame
public import Idealize.ShloMosaic.Lib.Pipeline.ValueKit

@[expose] public section

set_option maxRecDepth 16384
set_option maxHeartbeats 4000000

noncomputable section

namespace Cert.Kernel5Ideal.Point

open Idealize.ShloMosaic Idealize.ShloMosaic.TcCoe Idealize.SL.Sem
open Cert.Kernel5Ideal Cert.Kernel5Ideal.Gen

variable (i : grid0.Coords) (x0 x1 : FVec Ideal S512x1024 .f32) (x2 : FVec Ideal S1x9x1024 .f32) (x3 : FVec Ideal S3x1024 .f32)
  (x4 : FVec Ideal S1x1x1024x5632 .f32) (x5 : FVec Ideal S1x1x2816x1024 .f32)

theorem slt_at : ∀ n : Fin 72, Scalar.cmpi .slt (BitVec.ofNat 32 n.val) 64#32 = if n.val < 64 then 1#1 else 0#1 := by decide +kernel

/-- The first 64 tiles are read from the first array, -/
theorem x_lat (h : (i 0).val < 64) : k0_pay2 (F := Ideal) i x0 x1 = x0 := by
  have e : Scalar.cmpi .slt (BitVec.ofNat 32 (i 0).val) 64#32 = 1#1 := (slt_at ⟨(i 0).val, (i 0).isLt⟩).trans (if_pos h)
  unfold k0_pay2
  dsimp only
  rw [e]
  rfl

/-- and the others from the second. -/
theorem x_ctx (h : ¬ (i 0).val < 64) : k0_pay2 (F := Ideal) i x0 x1 = x1 := by
  have e : Scalar.cmpi .slt (BitVec.ofNat 32 (i 0).val) 64#32 = 0#1 := (slt_at ⟨(i 0).val, (i 0).isLt⟩).trans (if_neg h)
  unfold k0_pay2
  dsimp only
  rw [e]
  rfl

/-- Reading the whole of each block changes nothing. -/
theorem x_same : k0_pay2 (F := Ideal) i (View.ld x0 r0_0) (View.ld x1 r0_0) = k0_pay2 (F := Ideal) i x0 x1 := by
  frame_out

theorem h_at (r : Fin 512) (c : Fin 1024) : k0_pay18 (F := Ideal) i x0 x1 x2 x3 x4 x5 (ix2 r c)
    = Ffn.normed (fun k => k0_pay2 (F := Ideal) i x0 x1 (ix2 r k)) (fun k => x3 (ix2 0 k)) (fun k => x2 (ix3 0 1 k)) (fun k => x2 (ix3 0 0 k)) c := by
  pointwise [k0_pay18, k0_pay5, k0_pay3, x_same, Ffn.normed, Ffn.rinv]

theorem h_same (r : Fin 512) (c : Fin 1024) :
    k0_pay5 (F := Ideal) i x0 x1 x2 (View.ld x3 r0_2) (ix2 r c) = k0_pay18 (F := Ideal) i x0 x1 x2 x3 x4 x5 (ix2 r c) := by
  pointwise [k0_pay18, k0_pay5, k0_pay3, x_same]

/-- The first chunk's first half of the hidden units. -/
theorem first_at (r : Fin 512) (t : Fin 256) :
    k0_pay6 (F := Ideal) i x0 x1 x2 (View.ld x3 r0_2) (View.ld x4 r0_3) (ix2 r t)
      = ∑ k, k0_pay18 (F := Ideal) i x0 x1 x2 x3 x4 x5 (ix2 r k) * x4 (ix4 0 0 k ⟨t.val, by omega⟩) := by
  pointwise [k0_pay6, h_same i x0 x1 x2 x3 x4 x5]

theorem gate_at (c : Fin 1024) : k0_pay4 (F := Ideal) x2 (ix2 0 c) = x2 (ix3 0 2 c) := by
  pointwise [k0_pay4, k0_pay3]

theorem out_at (r : Fin 512) (c : Fin 1024) : out0_6 (F := Ideal) i x0 x1 x2 x3 x4 x5 (ix2 r c)
    = Ffn.stepped (fun k => k0_pay2 (F := Ideal) i x0 x1 (ix2 r k))
        (Ffn.normed (fun k => k0_pay2 (F := Ideal) i x0 x1 (ix2 r k)) (fun k => x3 (ix2 0 k)) (fun k => x2 (ix3 0 1 k)) (fun k => x2 (ix3 0 0 k)))
        (fun k => x2 (ix3 0 2 k)) (fun k j => x4 (ix4 0 0 k j)) (fun j k => x5 (ix4 0 0 j k)) c := by
  unfold out0_6
  frame_out
  pointwise [k0_pay1, k0_pay7, k0_pay8, k0_pay9, k0_pay10, k0_pay11, k0_pay12, k0_pay13, k0_pay14, k0_pay15, k0_pay16, k0_pay17,
    first_at i x0 x1 x2 x3 x4 x5, gate_at]
  rw [Ffn.stepped, Ffn.mlp_eq_chunks, ← funext fun k => h_at i x0 x1 x2 x3 x4 x5 r k]
  generalize k0_pay18 (F := Ideal) i x0 x1 x2 x3 x4 x5 = h
  simp only [Ffn.chunk, Ffn.unit, Nat.zero_add]

end Cert.Kernel5Ideal.Point

end
-- ==== Proof.Ffn5Array.lean ====
/- The array that the half step before mixing leaves in layer 0: each tile's rows are rows of the half step. -/
module

public import proofs.«01_k».proof.Proof.Ffn5Point
public import proofs.«01_k».proof.Proof.FfnHalf
public import Idealize.ShloMosaic.Lib.Pipeline.ValueKit.Tiles

@[expose] public section

set_option maxRecDepth 16384

noncomputable section

namespace Cert.Kernel5Ideal.Point

open Idealize.ShloMosaic Idealize.ShloMosaic.TcCoe Idealize.SL.Sem
open Cert.Kernel5Ideal Cert.Kernel5Ideal.Gen

variable (m : (ℓ : Loc nD τ sig) → Buf (Elt Ideal) ℓ)

theorem idx : ∀ t : Fin cfg0.N, win0_0.index t = ![min t.val 63, 0] ∧ win0_1.index t = ![t.val - 64, 0] ∧ win0_2.index t = ![min (t.val / 4) 16, 0, 0] ∧ win0_3.index t = ![0, 0]
    ∧ win0_4.index t = ![0, 0, 0, 0] ∧ win0_5.index t = ![0, 0, 0, 0] ∧ win0_6.index t = ![t.val, 0] ∧ t.val < 72 :=
  (by decide +kernel : ∀ t : Fin grid0.N, _)

theorem blk0 (c : Dev nD) (t : Fin cfg0.N) (ht : t.val < 64) (r : Fin 512) (k : Fin 1024) (n : Fin 32768) (hn : n.val = t.val * 512 + r.val) :
    (show FVec Ideal S512x1024 .f32 from iblk m c 0 t) (ix2 r k) = (show FVec Ideal S32768x1024 .f32 from m ((c : Thread nD τ).loc main_arg0)) (ix2 n k) := by
  have hm : min t.val 63 = t.val := by omega
  show iblk m c 0 t _ = _
  blk_ext [iblk, V, idx t, hm]

theorem blk1 (c : Dev nD) (t : Fin cfg0.N) (ht : 64 ≤ t.val) (r : Fin 512) (k : Fin 1024) (n : Fin 4096) (hn : 32768 + n.val = t.val * 512 + r.val) :
    (show FVec Ideal S512x1024 .f32 from iblk m c 1 t) (ix2 r k) = (show FVec Ideal S4096x1024 .f32 from m ((c : Thread nD τ).loc main_arg1)) (ix2 n k) := by
  have hm : (t.val - 64) * 512 + r.val = n.val := by omega
  show iblk m c 1 t _ = _
  blk_ext [iblk, V, idx t, hm]

theorem blk2 (c : Dev nD) (t : Fin cfg0.N) (a : Fin 9) (k : Fin 1024) (b : Fin 17) (hb : b.val = min (t.val / 4) 16) :
    (show FVec Ideal S1x9x1024 .f32 from iblk m c 2 t) (ix3 0 a k) = (show FVec Ideal S17x9x1024 .f32 from m ((c : Thread nD τ).loc main_arg2)) (ix3 b a k) := by
  show iblk m c 2 t _ = _
  blk_ext [iblk, V, idx t]

theorem blk3 (c : Dev nD) (t : Fin cfg0.N) (a : Fin 3) (k : Fin 1024) :
    (show FVec Ideal S3x1024 .f32 from iblk m c 3 t) (ix2 a k) = (show FVec Ideal S3x1024 .f32 from m ((c : Thread nD τ).loc main_arg3)) (ix2 a k) := by
  show iblk m c 3 t _ = _
  blk_ext [iblk, V, idx t]

theorem blk4 (c : Dev nD) (t : Fin cfg0.N) (r : Fin 1024) (k : Fin 5632) :
    (show FVec Ideal S1x1x1024x5632 .f32 from iblk m c 4 t) (ix4 0 0 r k) = (show FVec Ideal S2x2x1024x5632 .f32 from m ((c : Thread nD τ).loc main_arg4)) (ix4 0 0 r k) := by
  show iblk m c 4 t _ = _
  blk_ext [iblk, V, idx t]

theorem blk5 (c : Dev nD) (t : Fin cfg0.N) (r : Fin 2816) (k : Fin 1024) :
    (show FVec Ideal S1x1x2816x1024 .f32 from iblk m c 5 t) (ix4 0 0 r k) = (show FVec Ideal S2x2x2816x1024 .f32 from m ((c : Thread nD τ).loc main_arg5)) (ix4 0 0 r k) := by
  show iblk m c 5 t _ = _
  blk_ext [iblk, V, idx t]

/-- The grid's one coordinate is the tile's number. -/
theorem coord : ∀ t : Fin cfg0.N, ((cfg0.grid.coords t) 0).val = t.val :=
  (by decide +kernel : ∀ t : Fin grid0.N, ((grid0.coords t) 0).val = t.val)

/-- The kernel's result is the half step's. -/
theorem final (c : Dev nD) : (dats m 0 c).arrAt 6 (cfgs 0).N = fun i => Ffn.half (Ffn.joined (m ((c : Thread nD τ).loc main_arg0)) (m ((c : Thread nD τ).loc main_arg1))) (m ((c : Thread nD τ).loc main_arg2)) (m ((c : Thread nD τ).loc main_arg3))
        (m ((c : Thread nD τ).loc main_arg4)) (m ((c : Thread nD τ).loc main_arg5)) 0 0 0 0 1 2 (i 0) (i 1) := by
  refine (dats m 0 c).arrAt_eq_of_covers 6 _ (by decide +kernel) fun t _ y => ?_
  blk_simp
  rw [after0_6]
  idx_vars y
  refine (out_at _ _ _ _ _ _ _ _ _).trans ?_
  have ht : t.val < 72 := (idx t).2.2.2.2.2.2.2
  have hr : t.val * 512 + y0.val < 36864 := by have := y0.isLt; omega
  have e0 : (((View.whole main_v0).slice (win0_6.rect t)).emb (ix2 y0 y1) 0 : Fin 36864) = ⟨t.val * 512 + y0.val, hr⟩ := by
    apply Fin.ext; blk_simp [idx t]
  have e1 : (((View.whole main_v0).slice (win0_6.rect t)).emb (ix2 y0 y1) 1 : Fin 1024) = y1 := by
    apply Fin.ext; blk_simp [idx t]
  refine Eq.trans ?_ (congrArg₂ (Ffn.half (Ffn.joined (m ((c : Thread nD τ).loc main_arg0)) (m ((c : Thread nD τ).loc main_arg1))) (m ((c : Thread nD τ).loc main_arg2)) (m ((c : Thread nD τ).loc main_arg3))
        (m ((c : Thread nD τ).loc main_arg4)) (m ((c : Thread nD τ).loc main_arg5)) 0 0 0 0 1 2) e0 e1).symm
  have hb : (Ffn.modRow ⟨t.val * 512 + y0.val, hr⟩).val = min (t.val / 4) 16 := by dsimp only [Ffn.modRow]; omega
  refine Ffn.stepped_congr (funext fun k => ?_)
    (funext fun k => blk3 m c t 0 k) (funext fun k => blk2 m c t 1 k _ hb) (funext fun k => blk2 m c t 0 k _ hb)
    (funext fun k => blk2 m c t 2 k _ hb) (funext fun k => funext fun j => blk4 m c t k j) (funext fun j => funext fun k => blk5 m c t j k) y1
  have hc := coord t
  rcases Nat.lt_or_ge t.val 64 with h | h
  · have hn : t.val * 512 + y0.val < 32768 := by have := y0.isLt; omega
    have hi : ((cfg0.grid.coords t) 0).val < 64 := by rw [hc]; exact h
    refine (congrFun (x_lat _ _ _ hi) _).trans ((blk0 m c t h y0 k ⟨_, hn⟩ rfl).trans ?_)
    exact (Ffn.joined_lat _ _ _ k ⟨_, hn⟩ rfl).symm
  · have hn : t.val * 512 + y0.val - 32768 < 4096 := by omega
    have he : t.val * 512 + y0.val = 32768 + (t.val * 512 + y0.val - 32768) := by omega
    have hi : ¬ ((cfg0.grid.coords t) 0).val < 64 := by rw [hc]; omega
    refine (congrFun (x_ctx _ _ _ hi) _).trans ((blk1 m c t h y0 k ⟨_, hn⟩ he.symm).trans ?_)
    exact (Ffn.joined_ctx _ _ _ k ⟨_, hn⟩ he).symm

end Cert.Kernel5Ideal.Point

end
-- ==== Proof.Ffn5Reference.lean ====
/- What the reference of the half step before mixing returns, in layer 0: the latent rows and the context rows in turn. -/
module

public import proofs.«01_k».proof.Proof.Gen.Reference5Ideal.Read
public import proofs.«01_k».proof.Proof.FfnHalf
public import Idealize.ShloMosaic.Lib.Pointwise

@[expose] public section

set_option maxRecDepth 16384

noncomputable section

namespace Cert.Reference5Ideal.Point

open Idealize.ShloMosaic Idealize.ShloMosaic.TcCoe Idealize.SL.Sem
open Cert.Reference5Ideal Cert.Reference5Ideal.Read

variable (x0 : FVec Ideal S32768x1024 .f32) (x1 : FVec Ideal S4096x1024 .f32) (x2 : FVec Ideal S17x9x1024 .f32) (x3 : FVec Ideal S3x1024 .f32) (x4 : FVec Ideal S2x2x1024x5632 .f32) (x5 : FVec Ideal S2x2x2816x1024 .f32)

/-- Row `s` of sequence `b`. -/
abbrev Xlat (b : Fin 16) (s : Fin 2048) (c : Fin 1024) : EReal := x0 (ix2 ⟨b.val * 2048 + s.val, by omega⟩ c)

/-- Context row `s` of sequence `b`. -/
abbrev Xctx (b : Fin 16) (s : Fin 256) (c : Fin 1024) : EReal := x1 (ix2 ⟨b.val * 256 + s.val, by omega⟩ c)

theorem x_lat (b : Fin 16) (s : Fin 2048) (c : Fin 1024) : val_main_v1 (F := Ideal) x0 (ix3 b s c) = Xlat x0 b s c := by
  pointwise [val_main_v1]

theorem x_ctx (b : Fin 16) (s : Fin 256) (c : Fin 1024) : val_main_v0 (F := Ideal) x1 (ix3 b s c) = Xctx x1 b s c := by
  pointwise [val_main_v0]

theorem h_lat (b : Fin 16) (s : Fin 2048) (c : Fin 1024) : val_main_v35 (F := Ideal) x0 x2 x3 (ix3 b s c)
    = Ffn.normed (Xlat x0 b s) (fun k => x3 (ix2 0 k)) (fun k => x2 (ix3 ⟨b.val, by omega⟩ 1 k)) (fun k => x2 (ix3 ⟨b.val, by omega⟩ 0 k)) c := by
  pointwise [val_main_v2, val_main_v3, val_main_v4, val_main_v5, val_main_v6, val_main_v7, val_main_v11, val_main_v12, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, x_lat, Ffn.normed, Ffn.rinv]
  rw [mul_assoc _ (x3 (ix2 0 c))]

theorem h_ctx (b : Fin 16) (s : Fin 256) (c : Fin 1024) : val_main_v80 (F := Ideal) x1 x2 x3 (ix3 b s c)
    = Ffn.normed (Xctx x1 b s) (fun k => x3 (ix2 0 k)) (fun k => x2 (ix3 16 1 k)) (fun k => x2 (ix3 16 0 k)) c := by
  pointwise [val_main_v47, val_main_v48, val_main_v49, val_main_v50, val_main_v51, val_main_v52, val_main_v56, val_main_v57, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_cst_4, val_main_cst_5, val_main_cst_6, val_main_cst_7, x_ctx, Ffn.normed, Ffn.rinv]
  rw [mul_assoc _ (x3 (ix2 0 c))]

theorem hidden_lat (b : Fin 16) (s : Fin 2048) (j : Fin 2816) : val_main_v42 (F := Ideal) x0 x2 x3 x4 (ix3 b s j)
    = Ffn.hidden (fun k => val_main_v35 (F := Ideal) x0 x2 x3 (ix3 b s k)) (fun k j => x4 (ix4 0 0 k j)) j := by
  pointwise [val_main_v13, val_main_v14, val_main_v36, val_main_v37, val_main_v38, val_main_v41, val_main_v42, val_main_call0_v0, val_main_call0_v1, val_main_call0_v2, val_main_call0_v3, val_main_call0_v4, val_main_call0_v5, val_main_call0_cst, val_main_call0_cst_0, Ffn.hidden, Ffn.unit]
  rfl

theorem hidden_ctx (b : Fin 16) (s : Fin 256) (j : Fin 2816) : val_main_v87 (F := Ideal) x1 x2 x3 x4 (ix3 b s j)
    = Ffn.hidden (fun k => val_main_v80 (F := Ideal) x1 x2 x3 (ix3 b s k)) (fun k j => x4 (ix4 0 0 k j)) j := by
  pointwise [val_main_v58, val_main_v59, val_main_v81, val_main_v82, val_main_v83, val_main_v86, val_main_v87, val_main_call1_v0, val_main_call1_v1, val_main_call1_v2, val_main_call1_v3, val_main_call1_v4, val_main_call1_v5, val_main_call1_cst, val_main_call1_cst_0, Ffn.hidden, Ffn.unit]
  rfl

theorem y_lat (b : Fin 16) (s : Fin 2048) (c : Fin 1024) : val_main_v46 (F := Ideal) x0 x2 x3 x4 x5 (ix3 b s c)
    = Ffn.stepped (Xlat x0 b s) (Ffn.normed (Xlat x0 b s) (fun k => x3 (ix2 0 k)) (fun k => x2 (ix3 ⟨b.val, by omega⟩ 1 k)) (fun k => x2 (ix3 ⟨b.val, by omega⟩ 0 k)))
      (fun k => x2 (ix3 ⟨b.val, by omega⟩ 2 k)) (fun k j => x4 (ix4 0 0 k j)) (fun j k => x5 (ix4 0 0 j k)) c := by
  pointwise [val_main_v8, val_main_v9, val_main_v10, val_main_v15, val_main_v16, val_main_v39, val_main_v40, val_main_v43, val_main_v44, val_main_v45, val_main_v46, val_main_cst_3, x_lat, hidden_lat, h_lat, Ffn.stepped, Ffn.mlp]

theorem y_ctx (b : Fin 16) (s : Fin 256) (c : Fin 1024) : val_main_v91 (F := Ideal) x1 x2 x3 x4 x5 (ix3 b s c)
    = Ffn.stepped (Xctx x1 b s) (Ffn.normed (Xctx x1 b s) (fun k => x3 (ix2 0 k)) (fun k => x2 (ix3 16 1 k)) (fun k => x2 (ix3 16 0 k)))
      (fun k => x2 (ix3 16 2 k)) (fun k j => x4 (ix4 0 0 k j)) (fun j k => x5 (ix4 0 0 j k)) c := by
  pointwise [val_main_v53, val_main_v54, val_main_v55, val_main_v60, val_main_v61, val_main_v84, val_main_v85, val_main_v88, val_main_v89, val_main_v90, val_main_v91, val_main_cst_8, x_ctx, hidden_ctx, h_ctx, Ffn.stepped, Ffn.mlp]

theorem out_lat (n : Fin 36864) (c : Fin 1024) (b : Fin 16) (s : Fin 2048) (h : n.val = b.val * 2048 + s.val) :
    val_main_v94 (F := Ideal) x0 x1 x2 x3 x4 x5 (ix2 n c) = val_main_v46 (F := Ideal) x0 x2 x3 x4 x5 (ix3 b s c) := by
  pointwise [val_main_v94]
  have e : (⟨n.val, by omega⟩ : Fin 32768) = ⟨b.val * 2048 + s.val, by omega⟩ := Fin.ext h
  rw [dif_pos (by omega), e]
  pointwise [val_main_v92]

theorem out_ctx (n : Fin 36864) (c : Fin 1024) (b : Fin 16) (s : Fin 256) (h : n.val = 32768 + (b.val * 256 + s.val)) :
    val_main_v94 (F := Ideal) x0 x1 x2 x3 x4 x5 (ix2 n c) = val_main_v91 (F := Ideal) x1 x2 x3 x4 x5 (ix3 b s c) := by
  pointwise [val_main_v94]
  have e : (⟨n.val - 32768, by omega⟩ : Fin 4096) = ⟨b.val * 256 + s.val, by omega⟩ := Fin.ext (by dsimp only; omega)
  rw [dif_neg (by omega), e]
  pointwise [val_main_v93]

theorem row_lat (n : Fin 36864) (b : Fin 16) (s : Fin 2048) (h : n.val = b.val * 2048 + s.val) : Xlat x0 b s = Ffn.joined x0 x1 n :=
  funext fun k => (Ffn.joined_lat x0 x1 n k ⟨b.val * 2048 + s.val, by omega⟩ h).symm

theorem row_ctx (n : Fin 36864) (b : Fin 16) (s : Fin 256) (h : n.val = 32768 + (b.val * 256 + s.val)) : Xctx x1 b s = Ffn.joined x0 x1 n :=
  funext fun k => (Ffn.joined_ctx x0 x1 n k ⟨b.val * 256 + s.val, by omega⟩ h).symm

/-- The reference's result is the half step's. -/
theorem result_eq : val_main_v94 (F := Ideal) x0 x1 x2 x3 x4 x5 = fun i => Ffn.half (Ffn.joined x0 x1) x2 x3 x4 x5 0 0 0 0 1 2 (i 0) (i 1) := by
  funext i
  idx_vars i
  rcases lt_or_ge i0.val 32768 with h | h
  · have e : i0.val = (⟨i0.val / 2048, by omega⟩ : Fin 16).val * 2048 + (⟨i0.val % 2048, by omega⟩ : Fin 2048).val := by dsimp only; omega
    rw [out_lat _ _ _ _ _ _ i0 i1 _ _ e, y_lat]
    exact Ffn.stepped_congr (row_lat x0 x1 i0 _ _ e) rfl
      (funext fun k => congrArg (fun b => x2 (ix3 b 1 k)) (Ffn.modRow_lat _ _ _ e).symm) (funext fun k => congrArg (fun b => x2 (ix3 b 0 k)) (Ffn.modRow_lat _ _ _ e).symm)
      (funext fun k => congrArg (fun b => x2 (ix3 b 2 k)) (Ffn.modRow_lat _ _ _ e).symm) rfl rfl i1
  · have e : i0.val = 32768 + ((⟨(i0.val - 32768) / 256, by omega⟩ : Fin 16).val * 256 + (⟨(i0.val - 32768) % 256, by omega⟩ : Fin 256).val) := by dsimp only; omega
    rw [out_ctx _ _ _ _ _ _ i0 i1 _ _ e, y_ctx]
    exact Ffn.stepped_congr (row_ctx x0 x1 i0 _ _ e) rfl
      (funext fun k => congrArg (fun b => x2 (ix3 b 1 k)) (Ffn.modRow_ctx _ h).symm) (funext fun k => congrArg (fun b => x2 (ix3 b 0 k)) (Ffn.modRow_ctx _ h).symm)
      (funext fun k => congrArg (fun b => x2 (ix3 b 2 k)) (Ffn.modRow_ctx _ h).symm) rfl rfl i1

end Cert.Reference5Ideal.Point

end
-- ==== Proof.Ffn5Equation.lean ====
/- The claims about the half step before mixing in layer 0. -/
module

public import proofs.«01_k».proof.Defs
public import proofs.«01_k».proof.Proof.Ffn5Array
public import proofs.«01_k».proof.Proof.Ffn5Reference
public import proofs.«01_k».proof.Proof.Gen.Reference5Ideal.Run
public import Idealize.ShloMosaic.Lib.Claim

@[expose] public section

set_option maxRecDepth 16384

noncomputable section

namespace Cert.Ffn5

open Idealize.ShloMosaic Idealize.SL.Sem

/-- The reference leaves its arguments as they were. -/
theorem reference_frame :
    Cert.quiescent_Reference5Ideal (hReference5Ideal := Cert.Reference5Ideal.Gen.facts) := by
  intro m g _
  exact (θ_run _ _ _).mono (fun r h => ⟨fun c => (h c).2, sem_eq_zero_of_no_sems (by decide) r.2⟩)
    (Cert.Reference5Ideal.Value.run m g)

/-- From the same arguments both programs end with the same result. -/
theorem algebraic : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · run_from Cert.Reference5Ideal.Value.run m' g'
    obtain ⟨h0, h1, h2, h3, h4, h5⟩ := hagree c
    refine (Cert.Reference5Ideal.Read.val_main_v94_eq m' c).trans ?_
    rw [h0, h1, h2, h3, h4, h5]
    exact (Cert.Reference5Ideal.Point.result_eq _ _ _ _ _ _).trans (Cert.Kernel5Ideal.Point.final m c).symm

end Cert.Ffn5

end
-- ==== Proof.MlaHead.lean ====
/- One head of the attention kernel, written once for all eight: the scores of the latent and the context keys against a
   tile of queries, the largest score of each query's column, the exponentials, their sum, and the weighted values. -/
module

public import proofs.«01_k».proof.Proof.Gen.KernelIdeal.Skeleton

@[expose] public section

set_option maxRecDepth 16384

noncomputable section

namespace Cert.KernelIdeal.Mla

open Idealize.ShloMosaic Idealize.SL.Sem Cert.KernelIdeal Cert.KernelIdeal.Gen

/-- `f 0 ∘ f 1 ∘ … ∘ f n`, from the left. -/
def chain {α : Type} (op : α → α → α) (f : Nat → α) : Nat → α
  | 0 => f 0
  | n + 1 => op (chain op f n) (f (n + 1))

/-- Eight values combined in pairs. -/
def tree8 {α : Type} (op : α → α → α) (p : Nat → α) : α :=
  op (op (op (p 0) (p 1)) (op (p 2) (p 3))) (op (op (p 4) (p 5)) (op (p 6) (p 7)))

variable {F : FTy → Type} [FloatOps F]

theorem slices_lat (n : Nat) : S256x8x512.Slices ![n % 256, 0, 0] S1x8x512 :=
  ⟨rfl, fun a => by
    have : n % 256 < 256 := Nat.mod_lt _ (by decide)
    match a with
    | ⟨0, _⟩ => exact this
    | ⟨1, _⟩ => exact Nat.le_refl 8
    | ⟨2, _⟩ => exact Nat.le_refl 512⟩

theorem slices_ctx (n : Nat) : S32x8x512.Slices ![n % 32, 0, 0] S1x8x512 :=
  ⟨rfl, fun a => by
    have : n % 32 < 32 := Nat.mod_lt _ (by decide)
    match a with
    | ⟨0, _⟩ => exact this
    | ⟨1, _⟩ => exact Nat.le_refl 8
    | ⟨2, _⟩ => exact Nat.le_refl 512⟩

/-- Eight consecutive rows, number `n`, of the latent scores. -/
def latAt (s : FVec F S2048x512 .f32) (n : Nat) : FVec F S8x512 .f32 :=
  shapeCast S8x512 (extractStridedSlice S1x8x512 ![n % 256, 0, 0]
    (shapeCast S256x8x512 s shapeCasts_S2048x512_S256x8x512) (slices_lat n)) shapeCasts_S1x8x512_S8x512

/-- Eight consecutive rows, number `n`, of the context scores. -/
def ctxAt (s : FVec F S256x512 .f32) (n : Nat) : FVec F S8x512 .f32 :=
  shapeCast S8x512 (extractStridedSlice S1x8x512 ![n % 32, 0, 0]
    (shapeCast S32x8x512 s shapeCasts_S256x512_S32x8x512) (slices_ctx n)) shapeCasts_S1x8x512_S8x512

/-- The latent rows combined down to eight. -/
def latReduce (op : FVec F S8x512 .f32 → FVec F S8x512 .f32 → FVec F S8x512 .f32) (s : FVec F S2048x512 .f32) :
    FVec F S8x512 .f32 :=
  tree8 op fun g => chain op (fun i => latAt s (32 * g + i)) 31

/-- The context rows combined down to eight. -/
def ctxReduce (op : FVec F S8x512 .f32 → FVec F S8x512 .f32 → FVec F S8x512 .f32) (s : FVec F S256x512 .f32) :
    FVec F S8x512 .f32 :=
  tree8 op fun g => chain op (fun i => ctxAt s (4 * g + i)) 3

/-- The largest score of each column. -/
def colMax (s1 : FVec F S2048x512 .f32) (s2 : FVec F S256x512 .f32) : FVec F S1x512 .f32 :=
  shapeCast S1x512 (multiReduction .maximumf [0] S512
    (maximumf (latReduce maximumf s1) (ctxReduce maximumf s2)) 0xFF800000#32 reduces_S8x512_S512 (.inl rfl) rfl)
    shapeCasts_S512_S1x512

/-- The sum of each column. -/
def colSum (s1 : FVec F S2048x512 .f32) (s2 : FVec F S256x512 .f32) : FVec F S1x512 .f32 :=
  shapeCast S1x512 (multiReduction .add [0] S512
    (addf (latReduce addf s1) (ctxReduce addf s2)) 0x00000000#32 reduces_S8x512_S512 (.inl rfl) rfl)
    shapeCasts_S512_S1x512

/-- The scores of the latent keys. -/
def latScores (q : Vec F S512x256 .bf16) (k : Vec F S2048x256 .bf16) : FVec F S2048x512 .f32 :=
  matmul dot_S2048x256_S512x256_S2048x512_1_1_0_0_n_n none k q (constant S2048x512 .f32 0x00000000#32)

/-- The scores of the context keys. -/
def ctxScores (q : Vec F S512x256 .bf16) (k : Vec F S256x256 .bf16) : FVec F S256x512 .f32 :=
  matmul dot_S256x256_S512x256_S256x512_1_1_0_0_n_n none k q (constant S256x512 .f32 0x00000000#32)

/-- The latent exponentials. -/
def latExp (s : FVec F S2048x512 .f32) (m : FVec F S1x512 .f32) : FVec F S2048x512 .f32 :=
  exp2 (subf s (broadcastTo S2048x512 m broadcasts_S1x512_S2048x512))

/-- The context exponentials. -/
def ctxExp (s : FVec F S256x512 .f32) (m : FVec F S1x512 .f32) : FVec F S256x512 .f32 :=
  exp2 (subf s (broadcastTo S256x512 m broadcasts_S1x512_S256x512))

/-- The values weighted by the exponentials and divided by their sum. -/
def weighted (e1 : FVec F S2048x512 .f32) (e2 : FVec F S256x512 .f32) (l : FVec F S1x512 .f32)
    (v1 : Vec F S128x2048 .bf16) (v2 : Vec F S128x256 .bf16) : FVec F S512x128 .bf16 :=
  truncf .bf16 (transpose S512x128 [1, 0]
    (mulf
      (addf
        (matmul dot_S128x2048_S2048x512_S128x512_1_0_0_1_n_n none v1 (truncf .bf16 e1 bitsLt_bf16_f32)
          (constant S128x512 .f32 0x00000000#32))
        (matmul dot_S128x256_S256x512_S128x512_1_0_0_1_n_n none v2 (truncf .bf16 e2 bitsLt_bf16_f32)
          (constant S128x512 .f32 0x00000000#32)))
      (broadcastTo S128x512 (divf (broadcast S1x512 (Scalar.ofBits .f32 0x3F800000#32)) l) broadcasts_S1x512_S128x512))
    transposes_S128x512_p1_0_S512x128) bitsLt_bf16_f32

/-- One head's output from its scores and values. -/
def fromScores (s1 : FVec F S2048x512 .f32) (s2 : FVec F S256x512 .f32) (v1 : Vec F S128x2048 .bf16)
    (v2 : Vec F S128x256 .bf16) : FVec F S512x128 .bf16 :=
  weighted (latExp s1 (colMax s1 s2)) (ctxExp s2 (colMax s1 s2))
    (colSum (latExp s1 (colMax s1 s2)) (ctxExp s2 (colMax s1 s2))) v1 v2

/-- One head's output. -/
def head (q : Vec F S512x256 .bf16) (k1 : Vec F S2048x256 .bf16) (k2 : Vec F S256x256 .bf16)
    (v1 : Vec F S128x2048 .bf16) (v2 : Vec F S128x256 .bf16) : FVec F S512x128 .bf16 :=
  fromScores (latScores q k1) (ctxScores q k2) v1 v2

end Cert.KernelIdeal.Mla

end
-- ==== Proof.MlaSame.lean ====
/- The eight pieces the kernel stores are one head each. -/
module

public import proofs.«01_k».proof.Proof.MlaHead
public import proofs.«01_k».proof.Proof.Gen.KernelIdeal.Frame

@[expose] public section

set_option maxRecDepth 65536
set_option maxHeartbeats 4000000

noncomputable section

namespace Cert.KernelIdeal.Mla

open Idealize.ShloMosaic Idealize.SL.Sem Cert.KernelIdeal Cert.KernelIdeal.Gen

variable {F : FTy → Type} [FloatOps F]

/-- The kernel's output block, as eight heads' outputs side by side. -/
theorem out_eq (x0 : Vec F S512x2048 .bf16) (x1 : Vec F S2048x2048 .bf16) (x2 : Vec F S256x2048 .bf16)
    (x3 : Vec F S1024x2048 .bf16) (x4 : Vec F S1024x256 .bf16) :
    out0_5 x0 x1 x2 x3 x4 = View.canon [⟨r0_47, head (View.ld x0 r0_39) (View.ld x1 r0_40) (View.ld x2 r0_41) (View.ld x3 r0_45) (View.ld x4 r0_46)⟩,
      ⟨r0_44, head (View.ld x0 r0_33) (View.ld x1 r0_34) (View.ld x2 r0_35) (View.ld x3 r0_42) (View.ld x4 r0_43)⟩,
      ⟨r0_38, head (View.ld x0 r0_27) (View.ld x1 r0_28) (View.ld x2 r0_29) (View.ld x3 r0_36) (View.ld x4 r0_37)⟩,
      ⟨r0_32, head (View.ld x0 r0_21) (View.ld x1 r0_22) (View.ld x2 r0_23) (View.ld x3 r0_30) (View.ld x4 r0_31)⟩,
      ⟨r0_26, head (View.ld x0 r0_15) (View.ld x1 r0_16) (View.ld x2 r0_17) (View.ld x3 r0_24) (View.ld x4 r0_25)⟩,
      ⟨r0_20, head (View.ld x0 r0_9) (View.ld x1 r0_10) (View.ld x2 r0_11) (View.ld x3 r0_18) (View.ld x4 r0_19)⟩,
      ⟨r0_14, head (View.ld x0 r0_3) (View.ld x1 r0_4) (View.ld x2 r0_5) (View.ld x3 r0_12) (View.ld x4 r0_13)⟩,
      ⟨r0_8, head (View.ld x0 r0_0) (View.ld x1 r0_1) (View.ld x2 r0_2) (View.ld x3 r0_6) (View.ld x4 r0_7)⟩] := rfl

end Cert.KernelIdeal.Mla

end
-- ==== Proof.MlaMath.lean ====
/- Softmax attention of one query over its 2048 latent and 256 context keys, on extended reals: dividing every weight
   by the sum of the weights, or the weighted values by it once, gives the same where the scores are finite. -/
module

public import Idealize.ShloMosaic.Lib.Pointwise

@[expose] public section

set_option maxRecDepth 16384

noncomputable section

namespace Cert.Mla

open Idealize.ShloMosaic

/-- The largest of the scores. -/
def top (s1 : Fin 2048 → EReal) (s2 : Fin 256 → EReal) : EReal := max (Finset.univ.sup s1) (Finset.univ.sup s2)

/-- The sum of the weights, powers of two of the scores less the largest. -/
def total (s1 : Fin 2048 → EReal) (s2 : Fin 256 → EReal) : EReal :=
  ∑ x, Ideal.exp2 (s1 x - top s1 s2) + ∑ x, Ideal.exp2 (s2 x - top s1 s2)

/-- The weighted values of the latent and of the context keys, divided by the sum of the weights. -/
def attended (s1 : Fin 2048 → EReal) (s2 : Fin 256 → EReal) (v1 : Fin 2048 → EReal) (v2 : Fin 256 → EReal) : EReal :=
  (∑ x, v1 x * Ideal.exp2 (s1 x - top s1 s2) + ∑ x, v2 x * Ideal.exp2 (s2 x - top s1 s2)) * Ideal.div 1 (total s1 s2)

/-- The scale that turns powers of two into exponentials. -/
def ln2 : EReal := Ideal.log (Ideal.ofBits .f32 0x40000000#32)

/-- The largest scaled score, over all the keys at once. -/
def peak (s : Fin 2304 → EReal) : EReal :=
  max (Ideal.ofBits .f32 0xFF800000#32) (Finset.univ.fold max (Ideal.ofBits .f32 0xFF800000#32) fun j => s j * ln2)

/-- The softmax of the scaled scores against the values. -/
def softmax (s v : Fin 2304 → EReal) : EReal :=
  ∑ j, v j * Ideal.div (Ideal.exp (s j * ln2 - peak s)) (∑ x, Ideal.exp (s x * ln2 - peak s))

theorem ofBits_two : Ideal.ofBits .f32 0x40000000#32 = ((2 : ℝ) : EReal) := by
  simp [Ideal.ofBits, Ideal.ieee, -EReal.coe_mul]
  norm_num

theorem ofBits_bot : Ideal.ofBits .f32 0xFF800000#32 = ⊥ := by
  simp [Ideal.ofBits, Ideal.ieee]

theorem ln2_eq : ln2 = ((Real.log 2 : ℝ) : EReal) := by
  unfold ln2
  rw [ofBits_two]
  show (if (2 : ℝ) ≤ 0 then ⊥ else ((Real.log 2 : ℝ) : EReal)) = _
  rw [if_neg (by norm_num)]

theorem log2_pos : (0 : ℝ) < Real.log 2 := Real.log_pos (by norm_num)

/-- The largest finite score is one of them. -/
theorem top_eq (a1 : Fin 2048 → ℝ) (a2 : Fin 256 → ℝ) : ∃ M : ℝ,
    top (fun x => (a1 x : EReal)) (fun x => (a2 x : EReal)) = (M : EReal)
      ∧ (∀ x, a1 x ≤ M) ∧ (∀ x, a2 x ≤ M) ∧ ((∃ x, a1 x = M) ∨ ∃ x, a2 x = M) := by
  obtain ⟨i, -, hi⟩ := Finset.exists_mem_eq_sup Finset.univ Finset.univ_nonempty (fun x : Fin 2048 => (a1 x : EReal))
  obtain ⟨j, -, hj⟩ := Finset.exists_mem_eq_sup Finset.univ Finset.univ_nonempty (fun x : Fin 256 => (a2 x : EReal))
  have h1 : ∀ x, a1 x ≤ a1 i := fun x => EReal.coe_le_coe_iff.1 (hi ▸ Finset.le_sup (f := fun x => (a1 x : EReal)) (Finset.mem_univ x))
  have h2 : ∀ x, a2 x ≤ a2 j := fun x => EReal.coe_le_coe_iff.1 (hj ▸ Finset.le_sup (f := fun x => (a2 x : EReal)) (Finset.mem_univ x))
  refine ⟨max (a1 i) (a2 j), ?_, fun x => (h1 x).trans (le_max_left _ _), fun x => (h2 x).trans (le_max_right _ _), ?_⟩
  · unfold top
    rw [hi, hj]
    exact (EReal.coe_strictMono.monotone.map_max).symm
  · rcases le_total (a1 i) (a2 j) with h | h
    · exact .inr ⟨j, (max_eq_right h).symm⟩
    · exact .inl ⟨i, (max_eq_left h).symm⟩

/-- The largest scaled score is the largest score, scaled. -/
theorem peak_eq (a : Fin 2304 → ℝ) (M : ℝ) (hle : ∀ j, a j ≤ M) (hex : ∃ j, a j = M) :
    peak (fun j => (a j : EReal)) = ((M * Real.log 2 : ℝ) : EReal) := by
  have hsup : peak (fun j => (a j : EReal)) = Finset.univ.sup fun j => ((a j * Real.log 2 : ℝ) : EReal) := by
    unfold peak
    rw [ofBits_bot, max_eq_right bot_le, ln2_eq]
    rfl
  rw [hsup]
  refine le_antisymm (Finset.sup_le fun j _ => EReal.coe_le_coe_iff.2 (mul_le_mul_of_nonneg_right (hle j) log2_pos.le)) ?_
  obtain ⟨j, hj⟩ := hex
  rw [← hj]
  exact Finset.le_sup (f := fun j => ((a j * Real.log 2 : ℝ) : EReal)) (Finset.mem_univ j)

theorem exp2_sub (x M : ℝ) : Ideal.exp2 ((x : EReal) - (M : EReal)) = ((Real.exp ((x - M) * Real.log 2) : ℝ) : EReal) := by
  rw [← EReal.coe_sub]
  show ((Real.rpow 2 (x - M) : ℝ) : EReal) = _
  congr 1
  show (2 : ℝ) ^ (x - M) = _
  rw [Real.rpow_def_of_pos (by norm_num), mul_comm]

theorem exp_sub (x M : ℝ) : Ideal.exp ((x : EReal) * ln2 - ((M * Real.log 2 : ℝ) : EReal))
    = ((Real.exp ((x - M) * Real.log 2) : ℝ) : EReal) := by
  rw [ln2_eq, ← EReal.coe_mul, ← EReal.coe_sub]
  show ((Real.exp (x * Real.log 2 - M * Real.log 2) : ℝ) : EReal) = _
  rw [sub_mul]

theorem coe_sum {n : ℕ} (f : Fin n → ℝ) : ((∑ i, f i : ℝ) : EReal) = ∑ i, (f i : EReal) := by
  exact map_sum (⟨⟨Real.toEReal, EReal.coe_zero⟩, EReal.coe_add⟩ : ℝ →+ EReal) f Finset.univ

/-- A sum times a positive real is the sum of the terms times it. -/
theorem sum_mul_coe {n : ℕ} (f : Fin n → EReal) (r : ℝ) (hr : 0 ≤ r) : (∑ i, f i) * (r : EReal) = ∑ i, f i * (r : EReal) := by
  induction n with
  | zero => simp
  | succ n ih =>
    rw [Fin.sum_univ_castSucc, Fin.sum_univ_castSucc, ← ih]
    exact EReal.right_distrib_of_nonneg_of_ne_top (EReal.coe_nonneg.2 hr) (EReal.coe_ne_top r) _ _

theorem div_coe (x : EReal) (r : ℝ) (hr : r ≠ 0) : Ideal.div x (r : EReal) = x * ((r⁻¹ : ℝ) : EReal) := by
  unfold Ideal.div
  rw [if_neg (by simpa using hr), EReal.coe_inv]

/-- The two ways of dividing agree where every score is finite. -/
theorem softmax_eq (s v : Fin 2304 → EReal) (hs : ∀ j, ∃ r : ℝ, s j = (r : EReal)) :
    softmax s v = attended (fun x => s ⟨x.val, by omega⟩) (fun x => s ⟨2048 + x.val, by omega⟩)
      (fun x => v ⟨x.val, by omega⟩) (fun x => v ⟨2048 + x.val, by omega⟩) := by
  choose a ha using hs
  obtain rfl : s = fun j => (a j : EReal) := funext ha
  obtain ⟨M, hM, h1, h2, hex⟩ := top_eq (fun x => a ⟨x.val, by omega⟩) (fun x => a ⟨2048 + x.val, by omega⟩)
  have hP := peak_eq a M (fun j => by
    rcases lt_or_ge j.val 2048 with h | h
    · exact h1 ⟨j.val, h⟩
    · have := h2 ⟨j.val - 2048, by omega⟩
      have e : (⟨2048 + (j.val - 2048), by omega⟩ : Fin 2304) = j := Fin.ext (by simp; omega)
      rwa [e] at this) (by
    rcases hex with ⟨x, hx⟩ | ⟨x, hx⟩
    · exact ⟨_, hx⟩
    · exact ⟨_, hx⟩)
  have split : ∀ f : Fin 2304 → EReal, ∑ j, f j = (∑ x : Fin 2048, f ⟨x.val, by omega⟩) + ∑ x : Fin 256, f ⟨2048 + x.val, by omega⟩ :=
    fun f => Fin.sum_univ_add (a := 2048) (b := 256) f
  have hsum : (∑ x, Ideal.exp ((a x : EReal) * ln2 - peak (fun j => (a j : EReal))))
      = total (fun x : Fin 2048 => (a ⟨x.val, by omega⟩ : EReal)) (fun x : Fin 256 => (a ⟨2048 + x.val, by omega⟩ : EReal)) := by
    unfold total
    rw [split, hP, hM]
    simp only [exp_sub, exp2_sub]
  have hreal : (∑ x, Ideal.exp ((a x : EReal) * ln2 - peak (fun j => (a j : EReal))))
      = ((∑ x, Real.exp ((a x - M) * Real.log 2) : ℝ) : EReal) := by
    rw [hP, coe_sum]
    simp only [exp_sub]
  have hpos : (0 : ℝ) < ∑ x, Real.exp ((a x - M) * Real.log 2) :=
    Finset.sum_pos (fun x _ => Real.exp_pos _) Finset.univ_nonempty
  unfold softmax attended
  rw [← hsum, hreal, hM, hP, div_coe _ _ hpos.ne', one_mul]
  simp only [exp_sub, exp2_sub, div_coe _ _ hpos.ne', ← mul_assoc]
  rw [← sum_mul_coe _ _ (inv_nonneg.2 hpos.le), split]

end Cert.Mla

end
-- ==== Proof.MlaPoint.lean ====
/- One head of the attention kernel read at one query and one value channel: the eight-row reductions are the maximum
   and the sum over all the keys. -/
module

public import proofs.«01_k».proof.Proof.MlaHead
public import proofs.«01_k».proof.Proof.MlaMath

@[expose] public section

set_option maxRecDepth 16384

noncomputable section

namespace Cert.KernelIdeal.Mla

open Idealize.ShloMosaic Idealize.SL.Sem Cert.KernelIdeal Cert.KernelIdeal.Gen

/-! ### Sums and maxima taken in groups of rows -/

theorem chain_at {n : Nat} (op : FVec Ideal S8x512 .f32 → FVec Ideal S8x512 .f32 → FVec Ideal S8x512 .f32) (op' : EReal → EReal → EReal)
    (hop : ∀ a b i, op a b i = op' (a i) (b i)) (f : Nat → FVec Ideal S8x512 .f32) (i : S8x512.Idx) :
    chain op f n i = chain op' (fun k => f k i) n := by
  induction n with
  | zero => rfl
  | succ n ih => exact (hop _ _ _).trans (congrArg (op' · _) ih)

theorem tree8_at (op : FVec Ideal S8x512 .f32 → FVec Ideal S8x512 .f32 → FVec Ideal S8x512 .f32) (op' : EReal → EReal → EReal)
    (hop : ∀ a b i, op a b i = op' (a i) (b i)) (p : Nat → FVec Ideal S8x512 .f32) (i : S8x512.Idx) :
    tree8 op p i = tree8 op' (fun k => p k i) := by
  unfold tree8
  simp only [hop]

theorem chain_add (f : Nat → EReal) (n : Nat) : chain (· + ·) f n = ∑ i ∈ Finset.range (n + 1), f i := by
  induction n with
  | zero => exact (Finset.sum_range_one f).symm
  | succ n ih => rw [Finset.sum_range_succ, ← ih]; rfl

theorem tree8_add (p : Nat → EReal) : tree8 (· + ·) p = ∑ g ∈ Finset.range 8, p g := by
  simp only [tree8, Finset.sum_range_succ, Finset.sum_range_zero, zero_add, add_assoc]

theorem chain_max (f : Nat → EReal) (n : Nat) (z : EReal) : chain max f n ≤ z ↔ ∀ i < n + 1, f i ≤ z := by
  induction n with
  | zero =>
    refine ⟨fun h i hi => ?_, fun h => h 0 (by omega)⟩
    obtain rfl : i = 0 := by omega
    exact h
  | succ n ih =>
    refine max_le_iff.trans ⟨fun h i hi => ?_, fun h => ⟨ih.2 fun i hi => h i (by omega), h _ (by omega)⟩⟩
    rcases Nat.lt_or_ge i (n + 1) with h' | h'
    · exact ih.1 h.1 i h'
    · obtain rfl : i = n + 1 := by omega
      exact h.2

theorem tree8_max (p : Nat → EReal) (z : EReal) : tree8 max p ≤ z ↔ ∀ g < 8, p g ≤ z := by
  simp only [tree8, max_le_iff]
  constructor
  · rintro ⟨⟨⟨h0, h1⟩, h2, h3⟩, ⟨h4, h5⟩, h6, h7⟩ g hg
    interval_cases g <;> assumption
  · intro h
    exact ⟨⟨⟨h 0 (by omega), h 1 (by omega)⟩, h 2 (by omega), h 3 (by omega)⟩, ⟨h 4 (by omega), h 5 (by omega)⟩, h 6 (by omega), h 7 (by omega)⟩

/-- A sum over `a * b` numbers, in `a` groups of `b`. -/
theorem sum_groups (F : Nat → EReal) (a b : Nat) :
    ∑ n ∈ Finset.range (a * b), F n = ∑ i ∈ Finset.range a, ∑ j ∈ Finset.range b, F (b * i + j) := by
  induction a with
  | zero => simp
  | succ a ih => rw [Nat.succ_mul, Finset.sum_range_add, ih, Finset.sum_range_succ, Nat.mul_comm a b]

/-! ### The rows of the scores -/

theorem latAt_at (s : FVec Ideal S2048x512 .f32) (n : Nat) (r : Fin 8) (c : Fin 512) :
    latAt (F := Ideal) s n (ix2 r c) = s (ix2 ⟨(8 * n + r.val) % 2048, Nat.mod_lt _ (by decide)⟩ c) := by
  have h : latAt (F := Ideal) s n (ix2 r c) = s (ix2 ⟨n % 256 * 8 + r.val, by omega⟩ c) := by
    pointwise [latAt]
  rw [h]
  congr 2
  exact Fin.ext (by show n % 256 * 8 + r.val = (8 * n + r.val) % 2048; omega)

theorem ctxAt_at (s : FVec Ideal S256x512 .f32) (n : Nat) (r : Fin 8) (c : Fin 512) :
    ctxAt (F := Ideal) s n (ix2 r c) = s (ix2 ⟨(8 * n + r.val) % 256, Nat.mod_lt _ (by decide)⟩ c) := by
  have h : ctxAt (F := Ideal) s n (ix2 r c) = s (ix2 ⟨n % 32 * 8 + r.val, by omega⟩ c) := by
    pointwise [ctxAt]
  rw [h]
  congr 2
  exact Fin.ext (by show n % 32 * 8 + r.val = (8 * n + r.val) % 256; omega)

theorem latSum_at (s : FVec Ideal S2048x512 .f32) (r : Fin 8) (c : Fin 512) :
    latReduce (F := Ideal) addf s (ix2 r c) = ∑ k ∈ Finset.range 256, s (ix2 ⟨(8 * k + r.val) % 2048, Nat.mod_lt _ (by decide)⟩ c) := by
  unfold latReduce
  rw [tree8_at addf (· + ·) (fun _ _ _ => rfl), tree8_add]
  simp only [chain_at addf (· + ·) (fun _ _ _ => rfl), chain_add, latAt_at]
  exact (sum_groups (fun k => s (ix2 ⟨(8 * k + r.val) % 2048, Nat.mod_lt _ (by decide)⟩ c)) 8 32).symm

theorem ctxSum_at (s : FVec Ideal S256x512 .f32) (r : Fin 8) (c : Fin 512) :
    ctxReduce (F := Ideal) addf s (ix2 r c) = ∑ k ∈ Finset.range 32, s (ix2 ⟨(8 * k + r.val) % 256, Nat.mod_lt _ (by decide)⟩ c) := by
  unfold ctxReduce
  rw [tree8_at addf (· + ·) (fun _ _ _ => rfl), tree8_add]
  simp only [chain_at addf (· + ·) (fun _ _ _ => rfl), chain_add, ctxAt_at]
  exact (sum_groups (fun k => s (ix2 ⟨(8 * k + r.val) % 256, Nat.mod_lt _ (by decide)⟩ c)) 8 4).symm

theorem latMax_le (s : FVec Ideal S2048x512 .f32) (r : Fin 8) (c : Fin 512) (z : EReal) :
    latReduce (F := Ideal) maximumf s (ix2 r c) ≤ z ↔ ∀ k < 256, s (ix2 ⟨(8 * k + r.val) % 2048, Nat.mod_lt _ (by decide)⟩ c) ≤ z := by
  unfold latReduce
  rw [tree8_at maximumf max (fun _ _ _ => rfl), tree8_max]
  simp only [chain_at maximumf max (fun _ _ _ => rfl), chain_max, latAt_at]
  refine ⟨fun h k hk => ?_, fun h g hg i hi => h (32 * g + i) (by omega)⟩
  have := h (k / 32) (by omega) (k % 32) (by omega)
  rwa [Nat.div_add_mod] at this

theorem ctxMax_le (s : FVec Ideal S256x512 .f32) (r : Fin 8) (c : Fin 512) (z : EReal) :
    ctxReduce (F := Ideal) maximumf s (ix2 r c) ≤ z ↔ ∀ k < 32, s (ix2 ⟨(8 * k + r.val) % 256, Nat.mod_lt _ (by decide)⟩ c) ≤ z := by
  unfold ctxReduce
  rw [tree8_at maximumf max (fun _ _ _ => rfl), tree8_max]
  simp only [chain_at maximumf max (fun _ _ _ => rfl), chain_max, ctxAt_at]
  refine ⟨fun h k hk => ?_, fun h g hg i hi => h (4 * g + i) (by omega)⟩
  have := h (k / 4) (by omega) (k % 4) (by omega)
  rwa [Nat.div_add_mod] at this

/-! ### A column's maximum and sum -/

theorem colMax_at (s1 : FVec Ideal S2048x512 .f32) (s2 : FVec Ideal S256x512 .f32) (c : Fin 512) :
    colMax (F := Ideal) s1 s2 (ix2 0 c) = Cert.Mla.top (fun j => s1 (ix2 j c)) (fun j => s2 (ix2 j c)) := by
  have h : colMax (F := Ideal) s1 s2 (ix2 0 c) = Finset.fold max (Ideal.ofBits .f32 0xFF800000#32)
      (fun x : Fin 8 => max (latReduce (F := Ideal) maximumf s1 (ix2 x c)) (ctxReduce (F := Ideal) maximumf s2 (ix2 x c))) Finset.univ := by
    pointwise [colMax]
  rw [h, Cert.Mla.ofBits_bot]
  change Finset.univ.sup (fun x : Fin 8 => max (latReduce (F := Ideal) maximumf s1 (ix2 x c)) (ctxReduce (F := Ideal) maximumf s2 (ix2 x c))) = _
  refine eq_of_forall_ge_iff fun z => ?_
  unfold Cert.Mla.top
  simp only [Finset.sup_le_iff, Finset.mem_univ, true_implies, max_le_iff, latMax_le, ctxMax_le]
  constructor
  · refine fun H => ⟨fun j => ?_, fun j => ?_⟩
    · have := (H ⟨j.val % 8, by omega⟩).1 (j.val / 8) (by omega)
      convert this using 3
      exact Fin.ext (by show j.val = (8 * (j.val / 8) + j.val % 8) % 2048; omega)
    · have := (H ⟨j.val % 8, by omega⟩).2 (j.val / 8) (by omega)
      convert this using 3
      exact Fin.ext (by show j.val = (8 * (j.val / 8) + j.val % 8) % 256; omega)
  · exact fun H x => ⟨fun k _ => H.1 _, fun k _ => H.2 _⟩

theorem sum_rows (f : Nat → EReal) (n : Nat) :
    ∑ r : Fin 8, ∑ k ∈ Finset.range n, f (8 * k + r.val) = ∑ j ∈ Finset.range (n * 8), f j := by
  rw [sum_groups, Finset.sum_comm]
  exact Finset.sum_congr rfl fun k _ => (Finset.sum_range fun r => f (8 * k + r)).symm

theorem colSum_at (s1 : FVec Ideal S2048x512 .f32) (s2 : FVec Ideal S256x512 .f32) (c : Fin 512) :
    colSum (F := Ideal) s1 s2 (ix2 0 c) = ∑ j : Fin 2048, s1 (ix2 j c) + ∑ j : Fin 256, s2 (ix2 j c) := by
  have h : colSum (F := Ideal) s1 s2 (ix2 0 c) =
      ∑ x : Fin 8, (latReduce (F := Ideal) addf s1 (ix2 x c) + ctxReduce (F := Ideal) addf s2 (ix2 x c)) := by
    pointwise [colSum]
  rw [h, Finset.sum_add_distrib]
  simp only [latSum_at, ctxSum_at]
  rw [sum_rows (fun n => s1 (ix2 ⟨n % 2048, Nat.mod_lt _ (by decide)⟩ c)) 256,
    sum_rows (fun n => s2 (ix2 ⟨n % 256, Nat.mod_lt _ (by decide)⟩ c)) 32, Finset.sum_range, Finset.sum_range]
  refine congrArg₂ (· + ·) (Finset.sum_congr rfl fun j _ => ?_) (Finset.sum_congr rfl fun j _ => ?_)
  · congr 2
    exact Fin.ext (Nat.mod_eq_of_lt j.isLt)
  · congr 2
    exact Fin.ext (Nat.mod_eq_of_lt j.isLt)

/-! ### One head -/

theorem latScores_at (q : Vec Ideal S512x256 .bf16) (k : Vec Ideal S2048x256 .bf16) (r : Fin 2048) (c : Fin 512) :
    latScores (F := Ideal) q k (ix2 r c) = (∑ x : Fin 256, k (ix2 r x) * q (ix2 c x) : EReal) := by
  pointwise [latScores]

theorem ctxScores_at (q : Vec Ideal S512x256 .bf16) (k : Vec Ideal S256x256 .bf16) (r : Fin 256) (c : Fin 512) :
    ctxScores (F := Ideal) q k (ix2 r c) = (∑ x : Fin 256, k (ix2 r x) * q (ix2 c x) : EReal) := by
  pointwise [ctxScores]

theorem latExp_at (s : FVec Ideal S2048x512 .f32) (m : FVec Ideal S1x512 .f32) (r : Fin 2048) (c : Fin 512) :
    latExp (F := Ideal) s m (ix2 r c) = Ideal.exp2 (s (ix2 r c) - m (ix2 0 c)) := by
  pointwise [latExp]
  rfl

theorem ctxExp_at (s : FVec Ideal S256x512 .f32) (m : FVec Ideal S1x512 .f32) (r : Fin 256) (c : Fin 512) :
    ctxExp (F := Ideal) s m (ix2 r c) = Ideal.exp2 (s (ix2 r c) - m (ix2 0 c)) := by
  pointwise [ctxExp]
  rfl

theorem weighted_at (e1 : FVec Ideal S2048x512 .f32) (e2 : FVec Ideal S256x512 .f32) (l : FVec Ideal S1x512 .f32)
    (v1 : Vec Ideal S128x2048 .bf16) (v2 : Vec Ideal S128x256 .bf16) (r : Fin 512) (c : Fin 128) :
    weighted (F := Ideal) e1 e2 l v1 v2 (ix2 r c)
      = (∑ x : Fin 2048, v1 (ix2 c x) * e1 (ix2 x r) + ∑ x : Fin 256, v2 (ix2 c x) * e2 (ix2 x r) : EReal) * Ideal.div 1 (l (ix2 0 r)) := by
  pointwise [weighted]

/-- One head at one query and value channel. -/
theorem head_at (q : Vec Ideal S512x256 .bf16) (k1 : Vec Ideal S2048x256 .bf16) (k2 : Vec Ideal S256x256 .bf16)
    (v1 : Vec Ideal S128x2048 .bf16) (v2 : Vec Ideal S128x256 .bf16) (r : Fin 512) (c : Fin 128) :
    head (F := Ideal) q k1 k2 v1 v2 (ix2 r c)
      = Cert.Mla.attended (fun j => (∑ x : Fin 256, k1 (ix2 j x) * q (ix2 r x) : EReal)) (fun j => (∑ x : Fin 256, k2 (ix2 j x) * q (ix2 r x) : EReal))
          (fun j => v1 (ix2 c j)) (fun j => v2 (ix2 c j)) := by
  unfold head fromScores
  refine (weighted_at _ _ _ _ _ _ _).trans ?_
  simp only [colSum_at, latExp_at, ctxExp_at, colMax_at, latScores_at, ctxScores_at]
  rfl

end Cert.KernelIdeal.Mla

end
-- ==== Proof.MlaBlock.lean ====
/- The output block of the attention kernel, read at one query and one column: column `c` belongs to head `c / 128`. -/
module

public import proofs.«01_k».proof.Proof.MlaSame
public import proofs.«01_k».proof.Proof.MlaPoint
public import Idealize.ShloMosaic.Lib.Pipeline.ValueKit.Tiles

@[expose] public section

set_option maxRecDepth 16384
set_option maxHeartbeats 1000000

noncomputable section

namespace Cert.KernelIdeal.Mla

open Idealize.ShloMosaic Idealize.SL.Sem Cert.KernelIdeal Cert.KernelIdeal.Gen

theorem attended_congr {s1 s1' v1 v1' : Fin 2048 → EReal} {s2 s2' v2 v2' : Fin 256 → EReal} (h1 : ∀ j, s1 j = s1' j) (h2 : ∀ j, s2 j = s2' j)
    (h3 : ∀ j, v1 j = v1' j) (h4 : ∀ j, v2 j = v2' j) : Cert.Mla.attended s1 s2 v1 v2 = Cert.Mla.attended s1' s2' v1' v2' := by
  rw [funext h1, funext h2, funext h3, funext h4]

/-- What the kernel stores for query `r` and column `c`, from its five blocks. -/
def block (x0 : Vec Ideal S512x2048 .bf16) (x1 : Vec Ideal S2048x2048 .bf16) (x2 : Vec Ideal S256x2048 .bf16)
    (x3 : Vec Ideal S1024x2048 .bf16) (x4 : Vec Ideal S1024x256 .bf16) (r : Fin 512) (c : Fin 1024) : EReal :=
  Cert.Mla.attended
    (fun j => (∑ x : Fin 256, x1 (ix2 j ⟨256 * (c.val / 128) + x.val, by omega⟩) * x0 (ix2 r ⟨256 * (c.val / 128) + x.val, by omega⟩) : EReal))
    (fun j => (∑ x : Fin 256, x2 (ix2 j ⟨256 * (c.val / 128) + x.val, by omega⟩) * x0 (ix2 r ⟨256 * (c.val / 128) + x.val, by omega⟩) : EReal))
    (fun j => x3 (ix2 c j)) (fun j => x4 (ix2 c j))

/-- One head's piece of the block. -/
theorem piece (x0 : Vec Ideal S512x2048 .bf16) (x1 : Vec Ideal S2048x2048 .bf16) (x2 : Vec Ideal S256x2048 .bf16)
    (x3 : Vec Ideal S1024x2048 .bf16) (x4 : Vec Ideal S1024x256 .bf16)
    (q : Vec Ideal S512x256 .bf16) (k1 : Vec Ideal S2048x256 .bf16) (k2 : Vec Ideal S256x256 .bf16)
    (v1 : Vec Ideal S128x2048 .bf16) (v2 : Vec Ideal S128x256 .bf16) (r : Fin 512) (c : Fin 1024) (d : Fin 128)
    (hq : ∀ x : Fin 256, q (ix2 r x) = x0 (ix2 r ⟨256 * (c.val / 128) + x.val, by omega⟩))
    (hk : ∀ (j : Fin 2048) (x : Fin 256), k1 (ix2 j x) = x1 (ix2 j ⟨256 * (c.val / 128) + x.val, by omega⟩))
    (hk' : ∀ (j : Fin 256) (x : Fin 256), k2 (ix2 j x) = x2 (ix2 j ⟨256 * (c.val / 128) + x.val, by omega⟩))
    (hv : ∀ j : Fin 2048, v1 (ix2 d j) = x3 (ix2 c j)) (hv' : ∀ j : Fin 256, v2 (ix2 d j) = x4 (ix2 c j)) :
    head (F := Ideal) q k1 k2 v1 v2 (ix2 r d) = block x0 x1 x2 x3 x4 r c :=
  (head_at q k1 k2 v1 v2 r d).trans (attended_congr
    (fun j => Finset.sum_congr rfl fun x _ => congrArg₂ (· * ·) (hk j x) (hq x))
    (fun j => Finset.sum_congr rfl fun x _ => congrArg₂ (· * ·) (hk' j x) (hq x)) hv hv')

theorem out_at (a : Vec Ideal S512x2048 .bf16) (b : Vec Ideal S2048x2048 .bf16) (b' : Vec Ideal S256x2048 .bf16)
    (v : Vec Ideal S1024x2048 .bf16) (v' : Vec Ideal S1024x256 .bf16) (r : Fin 512) (c : Fin 1024) :
    out0_5 (F := Ideal) a b b' v v' (ix2 r c) = block a b b' v v' r c := by
  rw [out_eq]
  canon_tiles x h
  all_goals
    idx_vars x
    obtain rfl : r = x0 := Fin.ext h0
    refine piece a b b' v v' _ _ _ _ _ r c x1 (fun x => ?_) (fun j x => ?_) (fun j x => ?_) (fun j => ?_) (fun j => ?_)
    all_goals (pointwise; congr 2; exact Fin.ext (by dsimp only; omega))

end Cert.KernelIdeal.Mla

end
-- ==== Proof.MlaArray.lean ====
/- The attention kernel's output array, entry by entry, in terms of its argument arrays. -/
module

public import proofs.«01_k».proof.Proof.MlaBlock
public import Idealize.ShloMosaic.Lib.Pipeline.ValueKit

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Mla

variable (m : (ℓ : Loc nD τ sig) → Buf (Elt Ideal) ℓ)

theorem idx : ∀ t : Fin cfg0.N, win0_0.index t = ![t.val, 0] ∧ win0_1.index t = ![t.val / 4, 0] ∧ win0_2.index t = ![128 + t.val / 4, 0]
    ∧ win0_3.index t = ![0, t.val / 4] ∧ win0_4.index t = ![0, 128 + t.val / 4] ∧ win0_5.index t = ![t.val, 0] ∧ t.val < 64 :=
  (by decide +kernel : ∀ t : Fin grid0.N, _)

theorem blk0 (c : Dev nD) (t : Fin cfg0.N) (r : Fin 512) (k : Fin 2048) (n : Fin 36864) (hn : n.val = t.val * 512 + r.val) :
    (show Vec Ideal S512x2048 .bf16 from iblk m c 0 t) (ix2 r k) = (show Vec Ideal S36864x2048 .bf16 from m ((c : Thread nD τ).loc main_arg0)) (ix2 n k) := by
  show iblk m c 0 t _ = _
  blk_ext [iblk, V, idx t]

theorem blk1 (c : Dev nD) (t : Fin cfg0.N) (j : Fin 2048) (k : Fin 2048) (n : Fin 36864) (hn : n.val = t.val / 4 * 2048 + j.val) :
    (show Vec Ideal S2048x2048 .bf16 from iblk m c 1 t) (ix2 j k) = (show Vec Ideal S36864x2048 .bf16 from m ((c : Thread nD τ).loc main_arg1)) (ix2 n k) := by
  show iblk m c 1 t _ = _
  blk_ext [iblk, V, idx t]

theorem blk2 (c : Dev nD) (t : Fin cfg0.N) (j : Fin 256) (k : Fin 2048) (n : Fin 36864) (hn : n.val = 32768 + (t.val / 4 * 256 + j.val)) :
    (show Vec Ideal S256x2048 .bf16 from iblk m c 2 t) (ix2 j k) = (show Vec Ideal S36864x2048 .bf16 from m ((c : Thread nD τ).loc main_arg1)) (ix2 n k) := by
  show iblk m c 2 t _ = _
  blk_ext [iblk, V, idx t]

theorem blk3 (c : Dev nD) (t : Fin cfg0.N) (e : Fin 1024) (j : Fin 2048) (n : Fin 36864) (hn : n.val = t.val / 4 * 2048 + j.val) :
    (show Vec Ideal S1024x2048 .bf16 from iblk m c 3 t) (ix2 e j) = (show Vec Ideal S1024x36864 .bf16 from m ((c : Thread nD τ).loc main_arg2)) (ix2 e n) := by
  show iblk m c 3 t _ = _
  blk_ext [iblk, V, idx t]

theorem blk4 (c : Dev nD) (t : Fin cfg0.N) (e : Fin 1024) (j : Fin 256) (n : Fin 36864) (hn : n.val = 32768 + (t.val / 4 * 256 + j.val)) :
    (show Vec Ideal S1024x256 .bf16 from iblk m c 4 t) (ix2 e j) = (show Vec Ideal S1024x36864 .bf16 from m ((c : Thread nD τ).loc main_arg2)) (ix2 e n) := by
  show iblk m c 4 t _ = _
  blk_ext [iblk, V, idx t]

/-- Attention of query row `n` at value column `e`: batch element `n / 2048`, head `e / 128`. -/
def result (q k : Vec Ideal S36864x2048 .bf16) (v : Vec Ideal S1024x36864 .bf16) (n : Fin 32768) (e : Fin 1024) : EReal :=
  Cert.Mla.attended
    (fun j => (∑ x : Fin 256, k (ix2 ⟨n.val / 2048 * 2048 + j.val, by omega⟩ ⟨256 * (e.val / 128) + x.val, by omega⟩)
      * q (ix2 ⟨n.val, by omega⟩ ⟨256 * (e.val / 128) + x.val, by omega⟩) : EReal))
    (fun j => (∑ x : Fin 256, k (ix2 ⟨32768 + (n.val / 2048 * 256 + j.val), by omega⟩ ⟨256 * (e.val / 128) + x.val, by omega⟩)
      * q (ix2 ⟨n.val, by omega⟩ ⟨256 * (e.val / 128) + x.val, by omega⟩) : EReal))
    (fun j => v (ix2 e ⟨n.val / 2048 * 2048 + j.val, by omega⟩))
    (fun j => v (ix2 e ⟨32768 + (n.val / 2048 * 256 + j.val), by omega⟩))

theorem final (c : Dev nD) : (dats m 0 c).arrAt 5 (cfgs 0).N
    = fun i => result (m ((c : Thread nD τ).loc main_arg0)) (m ((c : Thread nD τ).loc main_arg1)) (m ((c : Thread nD τ).loc main_arg2)) (i 0) (i 1) := by
  refine (dats m 0 c).arrAt_eq_of_covers 5 _ (by decide +kernel) fun t _ y => ?_
  blk_simp
  rw [after0_5]
  idx_vars y
  refine (out_at _ _ _ _ _ _ _).trans ?_
  have ht : t.val < 64 := (idx t).2.2.2.2.2.2
  have hr : t.val * 512 + y0.val < 32768 := by have := y0.isLt; omega
  have e0 : (((View.whole main_v0).slice (win0_5.rect t)).emb (ix2 y0 y1) 0 : Fin 32768) = ⟨t.val * 512 + y0.val, hr⟩ := by
    apply Fin.ext; blk_simp [idx t]
  have e1 : (((View.whole main_v0).slice (win0_5.rect t)).emb (ix2 y0 y1) 1 : Fin 1024) = y1 := by
    apply Fin.ext; blk_simp [idx t]
  refine Eq.trans ?_ (congrArg₂ (result (m ((c : Thread nD τ).loc main_arg0)) (m ((c : Thread nD τ).loc main_arg1)) (m ((c : Thread nD τ).loc main_arg2))) e0 e1).symm
  have hb : (t.val * 512 + y0.val) / 2048 = t.val / 4 := by omega
  have hl : ∀ j : Fin 2048, (t.val * 512 + y0.val) / 2048 * 2048 + j.val = t.val / 4 * 2048 + j.val := fun j => by rw [hb]
  have hc : ∀ j : Fin 256, 32768 + ((t.val * 512 + y0.val) / 2048 * 256 + j.val) = 32768 + (t.val / 4 * 256 + j.val) := fun j => by rw [hb]
  exact attended_congr
    (fun j => Finset.sum_congr rfl fun x _ => congrArg₂ (· * ·) (blk1 m c t j _ _ (hl j)) (blk0 m c t y0 _ _ rfl))
    (fun j => Finset.sum_congr rfl fun x _ => congrArg₂ (· * ·) (blk2 m c t j _ _ (hc j)) (blk0 m c t y0 _ _ rfl))
    (fun j => blk3 m c t y1 j _ (hl j)) (fun j => blk4 m c t y1 j _ (hc j))

end Cert.KernelIdeal.Point

end
-- ==== Proof.MlaReference.lean ====
/- The attention reference, read at one query and one value channel of one head. -/
module

public import proofs.«01_k».proof.Proof.Gen.ReferenceIdeal.Read
public import proofs.«01_k».proof.Proof.MlaMath

@[expose] public section

set_option maxRecDepth 16384

noncomputable section

namespace Cert.ReferenceIdeal.Point

open Idealize.ShloMosaic Idealize.SL.Sem Cert.ReferenceIdeal Cert.ReferenceIdeal.Gen Cert.ReferenceIdeal.Read

variable (q k : (⟨S36864x2048, .bf16⟩ : BufTy).Contents (Elt Ideal)) (v : (⟨S1024x36864, .bf16⟩ : BufTy).Contents (Elt Ideal))

theorem k_lat (b : Fin 16) (h : Fin 8) (x : Fin 2048) (d : Fin 256) :
    val_main_v10 (F := Ideal) k (ix4 b ⟨x.val, by omega⟩ h d) = k (ix2 ⟨b.val * 2048 + x.val, by omega⟩ ⟨h.val * 256 + d.val, by omega⟩) := by
  pointwise [val_main_v10, val_main_v9, val_main_v8, val_main_v7, val_main_v6, val_main_v0]

theorem k_ctx (b : Fin 16) (h : Fin 8) (x : Fin 256) (d : Fin 256) :
    val_main_v10 (F := Ideal) k (ix4 b ⟨2048 + x.val, by omega⟩ h d) = k (ix2 ⟨32768 + (b.val * 256 + x.val), by omega⟩ ⟨h.val * 256 + d.val, by omega⟩) := by
  pointwise [val_main_v10, val_main_v9, val_main_v8, val_main_v7, val_main_v6, val_main_v0]

theorem v_lat (b : Fin 16) (h : Fin 8) (x : Fin 2048) (d : Fin 128) :
    val_main_v15 (F := Ideal) v (ix4 b ⟨x.val, by omega⟩ h d) = v (ix2 ⟨h.val * 128 + d.val, by omega⟩ ⟨b.val * 2048 + x.val, by omega⟩) := by
  pointwise [val_main_v15, val_main_v14, val_main_v13, val_main_v12, val_main_v11, val_main_v2, val_main_v1]

theorem v_ctx (b : Fin 16) (h : Fin 8) (x : Fin 256) (d : Fin 128) :
    val_main_v15 (F := Ideal) v (ix4 b ⟨2048 + x.val, by omega⟩ h d) = v (ix2 ⟨h.val * 128 + d.val, by omega⟩ ⟨32768 + (b.val * 256 + x.val), by omega⟩) := by
  pointwise [val_main_v15, val_main_v14, val_main_v13, val_main_v12, val_main_v11, val_main_v2, val_main_v1]

/-- The unscaled score of query `i` with key `j`. -/
def score (b : Fin 16) (h : Fin 8) (i : Fin 2048) (j : Fin 2304) : EReal :=
  (∑ x : Fin 256, q (ix2 ⟨b.val * 2048 + i.val, by omega⟩ ⟨h.val * 256 + x.val, by omega⟩) * val_main_v10 (F := Ideal) k (ix4 b j h x) : EReal)

theorem s_at (b : Fin 16) (h : Fin 8) (i : Fin 2048) (j : Fin 2304) :
    val_main_v19 (F := Ideal) q k (ix4 b h i j) = score q k b h i j * Cert.Mla.ln2 := by
  pointwise [val_main_v19, val_main_v18, val_main_v17, val_main_v16, val_main_cst, val_main_v5, val_main_v4, val_main_v3]
  rfl

/-- The largest along the last axis of an array of the scores' shape. -/
theorem max_last (x : FVec Ideal S16x8x2048x2304 .f32) (c : FVec Ideal S_ .f32) (b : Fin 16) (h : Fin 8) (i : Fin 2048)
    (f : Fin 2304 → EReal) (z : EReal) (hx : ∀ j, x (ix4 b h i j) = f j) (hc : c (Shape.Idx.first h_S_) = z) :
    Host.reduce FloatOps.maximumf x c reducesTo_S16x8x2048x2304_S16x8x2048_d3 h_S_ (ix3 b h i) = Finset.univ.fold max z f := by
  have e : f = fun j => x (ix4 b h i j) := funext fun j => (hx j).symm
  rw [e, ← hc]
  simp only [pointwise]

theorem start_at : val_main_cst_0 (F := Ideal) (Shape.Idx.first h_S_) = Ideal.ofBits .f32 0xFF800000#32 := by
  pointwise [val_main_cst_0]

/-- The largest scaled score of a query. -/
def largest (s : Fin 2304 → EReal) : EReal :=
  Finset.univ.fold max (Ideal.ofBits .f32 0xFF800000#32) fun j => s j * Cert.Mla.ln2

theorem reduce_at (b : Fin 16) (h : Fin 8) (i : Fin 2048) :
    Host.reduce FloatOps.maximumf (show FVec Ideal S16x8x2048x2304 .f32 from val_main_v19 (F := Ideal) q k)
        (show FVec Ideal S_ .f32 from val_main_cst_0 (F := Ideal)) reducesTo_S16x8x2048x2304_S16x8x2048_d3 h_S_ (ix3 b h i)
      = largest (score q k b h i) :=
  max_last _ _ b h i _ _ (fun j => s_at q k b h i j) start_at

theorem v20_at (b : Fin 16) (h : Fin 8) (i : Fin 2048) :
    (show FVec Ideal S16x8x2048 .f32 from val_main_v20 (F := Ideal) q k) (ix3 b h i) = largest (score q k b h i) :=
  (show _ = Host.reduce FloatOps.maximumf (show FVec Ideal S16x8x2048x2304 .f32 from val_main_v19 (F := Ideal) q k)
    (show FVec Ideal S_ .f32 from val_main_cst_0 (F := Ideal)) reducesTo_S16x8x2048x2304_S16x8x2048_d3 h_S_ (ix3 b h i) from rfl).trans
    (reduce_at q k b h i)

theorem max_largest (s : Fin 2304 → EReal) : max (Ideal.ofBits .f32 0xFF800000#32) (largest s) = Cert.Mla.peak s := rfl

theorem max_at (x : FVec Ideal S16x8x2048 .f32) (b : Fin 16) (h : Fin 8) (i : Fin 2048) (z : EReal) (hx : x (ix3 b h i) = z) :
    maximumf (val_main_v21 (F := Ideal)) x (ix3 b h i) = (max (Ideal.ofBits .f32 0xFF800000#32) z : EReal) := by
  rw [← hx]
  pointwise [val_main_v21, val_main_cst_1]

theorem m_at (b : Fin 16) (h : Fin 8) (i : Fin 2048) :
    val_main_v22 (F := Ideal) q k (ix3 b h i) = Cert.Mla.peak (score q k b h i) :=
  (show _ = maximumf (val_main_v21 (F := Ideal)) (show FVec Ideal S16x8x2048 .f32 from val_main_v20 (F := Ideal) q k) (ix3 b h i) from rfl).trans
    ((max_at _ b h i _ (v20_at q k b h i)).trans (max_largest _))

theorem p_at (b : Fin 16) (h : Fin 8) (i : Fin 2048) (j : Fin 2304) :
    val_main_v30 (F := Ideal) q k (ix4 b h i j)
      = Ideal.div (Ideal.exp (val_main_v19 (F := Ideal) q k (ix4 b h i j) - val_main_v22 (F := Ideal) q k (ix3 b h i)))
          (∑ x : Fin 2304, Ideal.exp (val_main_v19 (F := Ideal) q k (ix4 b h i x) - val_main_v22 (F := Ideal) q k (ix3 b h i))) := by
  pointwise [val_main_v30, val_main_v29, val_main_v28, val_main_v27, val_main_v26, val_main_v25, val_main_v24, val_main_v23, val_main_cst_2]

theorem out_at (b : Fin 16) (i : Fin 2048) (h : Fin 8) (d : Fin 128) :
    val_main_v34 (F := Ideal) q k v (ix2 ⟨2048 * b.val + i.val, by omega⟩ ⟨128 * h.val + d.val, by omega⟩)
      = (∑ x : Fin 2304, val_main_v15 (F := Ideal) v (ix4 b x h d) * val_main_v30 (F := Ideal) q k (ix4 b h i x) : EReal) := by
  pointwise [val_main_v34, val_main_v33, val_main_v32, val_main_v31]

/-- The reference at one query and one value channel of one head. -/
theorem softmax_at (b : Fin 16) (i : Fin 2048) (h : Fin 8) (d : Fin 128) :
    val_main_v34 (F := Ideal) q k v (ix2 ⟨2048 * b.val + i.val, by omega⟩ ⟨128 * h.val + d.val, by omega⟩)
      = Cert.Mla.softmax (score q k b h i) (fun x => val_main_v15 (F := Ideal) v (ix4 b x h d)) := by
  refine (out_at q k v b i h d).trans ?_
  simp only [p_at, s_at, m_at]
  rfl

end Cert.ReferenceIdeal.Point

end
-- ==== Proof.MlaEquation.lean ====
/- The attention kernel and its reference end with the same array where the queries and keys are finite. -/
module

public import proofs.«01_k».proof.Defs
public import proofs.«01_k».proof.Proof.MlaArray
public import proofs.«01_k».proof.Proof.MlaReference
public import proofs.«01_k».proof.Proof.Gen.ReferenceIdeal.Run
public import proofs.«01_k».proof.Proof.Gen.Pre_finite
public import Idealize.ShloMosaic.Lib.Claim

@[expose] public section

set_option maxRecDepth 16384

noncomputable section

namespace Cert.Mla

open Idealize.ShloMosaic Idealize.SL.Sem

/-- A number whose absolute value is below infinity is real. -/
theorem real_of_abs_lt (x : EReal) (h : max x (-x) < ⊤) : ∃ r : ℝ, x = (r : EReal) := by
  induction x with
  | bot => simp at h
  | coe r => exact ⟨r, rfl⟩
  | top => simp at h

theorem ofBits_top : Ideal.ofBits .f32 0x7F800000#32 = ⊤ := by
  simp [Ideal.ofBits, Ideal.ieee]

/-- Two one-bit truths whose conjunction is true. -/
theorem and_of_bits (p p' : Prop) [Decidable p] [Decidable p']
    (h : IntOp.andi (BitVec.ofBool (decide p)) (BitVec.ofBool (decide p')) = 1#1) : p ∧ p' := by
  by_cases hp : p <;> by_cases hp' : p' <;> first | exact ⟨hp, hp'⟩ | (simp [hp, hp'] at h; exact absurd h (by decide))

/-- The precondition says that every query and key is real. -/
theorem real_of_finite (q k : FVec Ideal Cert.Pre_finite.S36864x2048 .bf16) (v : FVec Ideal Cert.Pre_finite.S1024x36864 .bf16)
    (h : Cert.Pre_finite.fn (F := Ideal) q k v = fun _ => 1#1) (a : Fin 36864) (b : Fin 2048) :
    (∃ r : ℝ, q (ix2 a b) = (r : EReal)) ∧ ∃ r : ℝ, k (ix2 a b) = (r : EReal) := by
  have e := congrFun h (ix2 a b)
  revert e
  pointwise [Cert.Pre_finite.fn]
  intro e
  obtain ⟨hq, hk⟩ := and_of_bits _ _ e
  rw [ofBits_top] at hq hk
  exact ⟨real_of_abs_lt _ hq, real_of_abs_lt _ hk⟩

/-- A sum of products of reals is real. -/
theorem real_sum {n : ℕ} (f g : Fin n → EReal) (hf : ∀ i, ∃ r : ℝ, f i = (r : EReal)) (hg : ∀ i, ∃ r : ℝ, g i = (r : EReal)) :
    ∃ r : ℝ, (∑ i, f i * g i) = (r : EReal) := by
  choose a ha using hf
  choose b hb using hg
  exact ⟨∑ i, a i * b i, by rw [coe_sum]; exact Finset.sum_congr rfl fun i _ => by rw [ha, hb, EReal.coe_mul]⟩

open Cert.ReferenceIdeal.Read Cert.ReferenceIdeal.Point in
/-- Every score is real. -/
theorem score_real (q k : FVec Ideal Cert.Pre_finite.S36864x2048 .bf16)
    (hq : ∀ a b, ∃ r : ℝ, q (ix2 a b) = (r : EReal)) (hk : ∀ a b, ∃ r : ℝ, k (ix2 a b) = (r : EReal))
    (b : Fin 16) (h : Fin 8) (i : Fin 2048) (j : Fin 2304) : ∃ r : ℝ, score q k b h i j = (r : EReal) := by
  refine real_sum _ _ (fun x => hq _ _) fun x => ?_
  rcases lt_or_ge j.val 2048 with hj | hj
  · exact (k_lat k b h ⟨j.val, hj⟩ x).symm ▸ hk _ _
  · have e : j = ⟨2048 + (⟨j.val - 2048, by omega⟩ : Fin 256).val, by omega⟩ := Fin.ext (by dsimp only; omega)
    rw [e]
    exact (k_ctx k b h ⟨j.val - 2048, by omega⟩ x).symm ▸ hk _ _

open Cert.ReferenceIdeal.Read Cert.ReferenceIdeal.Point in
/-- The reference's result is the kernel's. -/
theorem result_eq (q k : FVec Ideal Cert.Pre_finite.S36864x2048 .bf16) (v : FVec Ideal Cert.Pre_finite.S1024x36864 .bf16)
    (h : Cert.Pre_finite.fn (F := Ideal) q k v = fun _ => 1#1) :
    val_main_v34 (F := Ideal) q k v = fun i => Cert.KernelIdeal.Point.result q k v (i 0) (i 1) := by
  have hq : ∀ a b, ∃ r : ℝ, q (ix2 a b) = (r : EReal) := fun a b => (real_of_finite q k v h a b).1
  have hk : ∀ a b, ∃ r : ℝ, k (ix2 a b) = (r : EReal) := fun a b => (real_of_finite q k v h a b).2
  funext y
  idx_vars y
  show val_main_v34 (F := Ideal) q k v (ix2 y0 y1) = Cert.KernelIdeal.Point.result q k v y0 y1
  have e : (ix2 y0 y1 : Shape.Idx Cert.ReferenceIdeal.S32768x1024)
      = ix2 ⟨2048 * (⟨y0.val / 2048, by omega⟩ : Fin 16).val + (⟨y0.val % 2048, by omega⟩ : Fin 2048).val, by dsimp only; omega⟩
          ⟨128 * (⟨y1.val / 128, by omega⟩ : Fin 8).val + (⟨y1.val % 128, by omega⟩ : Fin 128).val, by dsimp only; omega⟩ := by
    refine congrArg₂ ix2 (Fin.ext ?_) (Fin.ext ?_) <;> dsimp only <;> omega
  rw [e, softmax_at, softmax_eq _ _ (score_real q k hq hk _ _ _)]
  refine Cert.KernelIdeal.Mla.attended_congr (fun j => ?_) (fun j => ?_) (fun j => ?_) (fun j => ?_)
  · refine Finset.sum_congr rfl fun x _ => (mul_comm _ _).trans (congrArg₂ (· * ·) ((k_lat k _ _ j x).trans ?_) ?_)
    all_goals refine congrArg _ (congrArg₂ ix2 (Fin.ext ?_) (Fin.ext ?_)) <;> dsimp only <;> omega
  · refine Finset.sum_congr rfl fun x _ => (mul_comm _ _).trans (congrArg₂ (· * ·) ((k_ctx k _ _ j x).trans ?_) ?_)
    all_goals refine congrArg _ (congrArg₂ ix2 (Fin.ext ?_) (Fin.ext ?_)) <;> dsimp only <;> omega
  · refine (v_lat v _ _ j _).trans ?_
    refine congrArg _ (congrArg₂ ix2 (Fin.ext ?_) (Fin.ext ?_)) <;> dsimp only <;> omega
  · refine (v_ctx v _ _ j _).trans ?_
    refine congrArg _ (congrArg₂ ix2 (Fin.ext ?_) (Fin.ext ?_)) <;> dsimp only <;> omega

/-- The reference leaves its arguments as they were. -/
theorem reference_frame :
    Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- From the same finite queries and keys and the same values both programs end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    obtain ⟨h0, h1, h2⟩ := hagree c
    refine (Cert.ReferenceIdeal.Read.val_main_v34_eq m' c).trans ?_
    rw [h0, h1, h2]
    exact (result_eq _ _ _ (hpre c)).trans (Cert.KernelIdeal.Point.final m c).symm

end Cert.Mla

end
-- ==== Proof.ProjMath.lean ====
/- The projections before the mixers, written on rows of numbers: the rotary turn of a head's 64 numbers, on the 128 lanes
   that the kernels turn at once, and the rows of the stream that enter the mixers. -/
module

public import proofs.«01_k».proof.Proof.FfnHalf

@[expose] public section

set_option maxRecDepth 16384

noncomputable section

namespace Cert.Proj

open Idealize.ShloMosaic

/-- The rotary turn of 64 numbers: in each half of 32, the first 16 are turned against the last 16. -/
def roped (p cos sin : Fin 64 → EReal) (d : Fin 64) : EReal :=
  p d * cos d + (if h : d.val % 32 < 16 then -p ⟨d.val + 16, by omega⟩ else p ⟨d.val - 16, by omega⟩) * sin d

/-- The turn as the kernels compute it: two heads side by side on 128 lanes, their lanes moved by 16 either way. -/
def laned (v c s t : Fin 128 → EReal) (l : Fin 128) : EReal :=
  v l * c l + v ⟨(l.val + 128 - 112) % 128, Nat.mod_lt _ (by decide)⟩ * s l + v ⟨(l.val + 128 - 16) % 128, Nat.mod_lt _ (by decide)⟩ * t l

theorem laned_congr {v v' c c' s s' t t' : Fin 128 → EReal} {l l' : Fin 128} (hv : ∀ l, v l = v' l) (hc : ∀ l, c l = c' l) (hs : ∀ l, s l = s' l)
    (ht : ∀ l, t l = t' l) (hl : l = l') : laned v c s t l = laned v' c' s' t' l' := by
  rw [funext hv, funext hc, funext hs, funext ht, hl]

theorem laned_roped (v c s t : Fin 128 → EReal) (cos sin : Fin 64 → EReal) (l : Fin 128)
    (hc : c l = cos ⟨l.val % 64, by omega⟩) (hs : s l = if l.val % 32 < 16 then -sin ⟨l.val % 64, by omega⟩ else 0)
    (ht : t l = if l.val % 32 < 16 then 0 else sin ⟨l.val % 64, by omega⟩) :
    laned v c s t l = roped (fun d => v ⟨l.val / 64 * 64 + d.val, by omega⟩) cos sin ⟨l.val % 64, by omega⟩ := by
  unfold laned roped
  rw [hc, hs, ht]
  have e : (⟨l.val / 64 * 64 + l.val % 64, by omega⟩ : Fin 128) = l := Fin.ext (by dsimp only; omega)
  by_cases h : l.val % 32 < 16
  · have e' : (⟨l.val / 64 * 64 + (l.val % 64 + 16), by omega⟩ : Fin 128) = ⟨(l.val + 128 - 112) % 128, Nat.mod_lt _ (by decide)⟩ := Fin.ext (by dsimp only; omega)
    rw [if_pos h, if_pos h, dif_pos (by dsimp only; omega)]
    dsimp only
    rw [e, e', mul_zero, add_zero, neg_mul, mul_neg]
  · have e' : (⟨l.val / 64 * 64 + (l.val % 64 - 16), by omega⟩ : Fin 128) = ⟨(l.val + 128 - 16) % 128, Nat.mod_lt _ (by decide)⟩ := Fin.ext (by dsimp only; omega)
    rw [if_neg h, if_neg h, dif_neg (by dsimp only; omega)]
    dsimp only
    rw [e, e', mul_zero, add_zero]

theorem laned_same (v c s t : Fin 128 → EReal) (l : Fin 128) (hc : c l = 1) (hs : s l = 0) (ht : t l = 0) : laned v c s t l = v l := by
  unfold laned
  rw [hc, hs, ht, mul_one, mul_zero, mul_zero, add_zero, add_zero]

/-- A head's 64 numbers in row `n` of the stream: turned in a latent row, by its position in its sequence, and left alone in a
    context row. -/
def turned (p : Fin 64 → EReal) (C S : FVec Ideal ⟨2, ![2048, 64]⟩ .f32) (n : Fin 36864) (d : Fin 64) : EReal :=
  if n.val < 32768 then roped p (fun d => C (ix2 ⟨n.val % 2048, by omega⟩ d)) (fun d => S (ix2 ⟨n.val % 2048, by omega⟩ d)) d else p d

/-- The modulation-free table row that turns as the kernels read it: 128 lanes each of cosines, of sines for the lanes that take
    from above, with their sign, and of sines for the lanes that take from below. -/
def table (C S : FVec Ideal ⟨2, ![2048, 64]⟩ .f32) (n : Fin 36864) (c : Fin 384) : EReal :=
  if n.val < 32768 then
    if c.val < 128 then C (ix2 ⟨n.val % 2048, by omega⟩ ⟨c.val % 64, by omega⟩)
    else if c.val < 256 then if c.val % 32 < 16 then -S (ix2 ⟨n.val % 2048, by omega⟩ ⟨c.val % 64, by omega⟩) else 0
    else if c.val % 32 < 16 then 0 else S (ix2 ⟨n.val % 2048, by omega⟩ ⟨c.val % 64, by omega⟩)
  else if c.val < 128 then 1 else 0

theorem laned_table (v : Fin 128 → EReal) (C S : FVec Ideal ⟨2, ![2048, 64]⟩ .f32) (n : Fin 36864) (l : Fin 128) :
    laned v (fun l => table C S n ⟨l.val, by omega⟩) (fun l => table C S n ⟨128 + l.val, by omega⟩) (fun l => table C S n ⟨256 + l.val, by omega⟩) l
      = turned (fun d => v ⟨l.val / 64 * 64 + d.val, by omega⟩) C S n ⟨l.val % 64, by omega⟩ := by
  unfold turned
  have a : (128 + l.val) % 64 = l.val % 64 := by omega
  have a' : (256 + l.val) % 64 = l.val % 64 := by omega
  have b : (128 + l.val) % 32 = l.val % 32 := by omega
  have b' : (256 + l.val) % 32 = l.val % 32 := by omega
  by_cases h : n.val < 32768
  · rw [if_pos h]
    refine laned_roped v _ _ _ _ _ l ?_ ?_ ?_
    · simp only [table, if_pos h]
      rw [if_pos (by omega)]
    · simp only [table, if_pos h]
      rw [if_neg (by omega), if_pos (by omega)]
      simp only [a, b]
    · simp only [table, if_pos h]
      rw [if_neg (by omega), if_neg (by omega)]
      simp only [a', b']
  · rw [if_neg h]
    have e : (⟨l.val / 64 * 64 + l.val % 64, by omega⟩ : Fin 128) = l := Fin.ext (by dsimp only; omega)
    dsimp only
    rw [e]
    refine laned_same v _ _ _ l ?_ ?_ ?_
    · simp only [table, if_neg h]
      rw [if_pos (by omega)]
    · simp only [table, if_neg h]
      rw [if_neg (by omega)]
    · simp only [table, if_neg h]
      rw [if_neg (by omega)]

/-- The host's test that a lane stands in the first half of its 32, on the lane's number. -/
def maskWord (b : BitVec 32) : BitVec 1 :=
  let q : BitVec 32 := Scalar.select (IntOp.cmpi CmpIPredicate.eq 32#32 0#32) 1#32 32#32
  let r : BitVec 32 := IntOp.remsi ArithUnit.host b q
  IntOp.cmpi CmpIPredicate.slt
    (Scalar.select (IntOp.andi (IntOp.cmpi CmpIPredicate.ne (IntOp.cmpi CmpIPredicate.slt r 0#32) (IntOp.cmpi CmpIPredicate.slt q 0#32))
      (IntOp.cmpi CmpIPredicate.ne r 0#32)) (IntOp.addi r q) r) 16#32

theorem maskWord_at : ∀ x : Fin 64, maskWord (BitVec.ofNat 32 x.val) = if x.val % 32 < 16 then 1#1 else 0#1 := by decide +kernel

theorem select_mask (x : Fin 64) (a b : EReal) : Scalar.select (maskWord (BitVec.ofNat 32 x.val)) a b = if x.val % 32 < 16 then a else b := by
  rw [maskWord_at]
  by_cases h : x.val % 32 < 16
  · rw [if_pos h, if_pos h]; rfl
  · rw [if_neg h, if_neg h]; rfl

/-- What enters the mixers in row `n` of the stream `X`: the row normalised and modulated. -/
def entering (X : FVec Ideal ⟨2, ![36864, 1024]⟩ .f32) (M : FVec Ideal ⟨3, ![17, 9, 1024]⟩ .f32) (G : FVec Ideal ⟨2, ![3, 1024]⟩ .f32)
    (n : Fin 36864) : Fin 1024 → EReal :=
  Ffn.normed (fun k => X (ix2 n k)) (fun k => G (ix2 1 k)) (fun k => M (ix3 (Ffn.modRow n) 4 k)) (fun k => M (ix3 (Ffn.modRow n) 3 k))

theorem normed_congr {x x' g g' sc sc' sh sh' : Fin 1024 → EReal} (hx : x = x') (hg : g = g') (hsc : sc = sc') (hsh : sh = sh') :
    Ffn.normed x g sc sh = Ffn.normed x' g' sc' sh' := by
  subst hx hg hsc hsh; rfl

/-- The first layer's weights as its kernel takes them: the key heads, the key heads swapped, the value heads, the value heads
    swapped; column `j` of theirs is this column of the model's. -/
def column (j : Fin 2048) : Fin 1792 :=
  if h : j.val < 512 then ⟨j.val, by omega⟩
  else if h' : j.val < 1024 then ⟨512 + (j.val - 512) / 256 * 128 + 64 * ((j.val / 64 + j.val / 128) % 2) + j.val % 64, by omega⟩
  else ⟨j.val - 256, by omega⟩

section Results

variable (X : FVec Ideal ⟨2, ![36864, 1024]⟩ .f32) (M : FVec Ideal ⟨3, ![17, 9, 1024]⟩ .f32) (G : FVec Ideal ⟨2, ![3, 1024]⟩ .f32)
  (W : FVec Ideal ⟨2, ![1024, 1792]⟩ .f32) (C S : FVec Ideal ⟨2, ![2048, 64]⟩ .f32)

/-- Row `n`'s product with column `j` of the first layer's weights. -/
def product (n : Fin 36864) (j : Fin 1792) : EReal := ∑ k, entering X M G n k * W (ix2 k j)

/-- The first layer's queries: eight heads, turned and scaled. -/
def query (n : Fin 36864) (c : Fin 512) : EReal :=
  turned (fun d => product X M G W n ⟨c.val / 64 * 64 + d.val, by omega⟩) C S n ⟨c.val % 64, by omega⟩ * Ideal.ofBits .f32 0x3E38AA3B#32

/-- Its keys, turned, and values: each pair of heads in order, then swapped. -/
def keyValue (n : Fin 36864) (c : Fin 512) : EReal :=
  if c.val < 256 then turned (fun d => product X M G W n ⟨512 + 64 * ((c.val / 64 + c.val / 128) % 2) + d.val, by omega⟩) C S n ⟨c.val % 64, by omega⟩
  else product X M G W n ⟨640 + 64 * ((c.val / 64 + c.val / 128) % 2) + c.val % 64, by omega⟩

/-- What enters its convolution: one half of the columns times the sigmoid of the other. -/
def gated (n : Fin 36864) (c : Fin 512) : EReal :=
  product X M G W n ⟨768 + c.val, by omega⟩ * Ideal.logistic (product X M G W n ⟨1280 + c.val, by omega⟩)

end Results

end Cert.Proj

end
-- ==== Proof.Proj0Point.lean ====
/- What the projection before the first layer's mixers stores for one row of its tile. -/
module

public import proofs.«01_k».proof.Proof.ProjMath
public import proofs.«01_k».proof.Proof.Gen.Kernel6Ideal.Frame
public import Idealize.ShloMosaic.Lib.Pipeline.ValueKit.Tiles
public import Idealize.ShloMosaic.Lib.Claim

@[expose] public section

set_option maxRecDepth 16384
set_option maxHeartbeats 4000000

noncomputable section

namespace Cert.Kernel6Ideal.Point

open Idealize.ShloMosaic Idealize.ShloMosaic.TcCoe Idealize.SL.Sem
open Cert.Kernel6Ideal Cert.Kernel6Ideal.Gen

variable (x0 : FVec Ideal S512x1024 .f32) (x1 : FVec Ideal S1x9x1024 .f32) (x2 : FVec Ideal S3x1024 .f32)
  (x3 : FVec Ideal S1024x2048 .bf16) (x4 : FVec Ideal S512x384 .f32)

/-- What enters the mixers, from the blocks. -/
abbrev E (r : Fin 512) : Fin 1024 → EReal :=
  Ffn.normed (fun k => x0 (ix2 r k)) (fun k => x2 (ix2 1 k)) (fun k => x1 (ix3 0 4 k)) (fun k => x1 (ix3 0 3 k))

/-- Its product with column `j` of the weights. -/
abbrev Q (r : Fin 512) (j : Fin 2048) : EReal := ∑ k, E x0 x1 x2 r k * x3 (ix2 k j)

/-- The turn of 128 lanes. -/
abbrev L (r : Fin 512) (v : Fin 128 → EReal) : Fin 128 → EReal :=
  Proj.laned v (fun l => x4 (ix2 r ⟨l.val, by omega⟩)) (fun l => x4 (ix2 r ⟨128 + l.val, by omega⟩)) (fun l => x4 (ix2 r ⟨256 + l.val, by omega⟩))

theorem e_at (y : FVec Ideal S1x1024 .f32) (r : Fin 512) (c : Fin 1024) : k0_pay1 (F := Ideal) x1 x0 y (ix2 r c)
    = Ffn.normed (fun k => x0 (ix2 r k)) (fun k => y (ix2 0 k)) (fun k => x1 (ix3 0 4 k)) (fun k => x1 (ix3 0 3 k)) c := by
  pointwise [k0_pay1, Ffn.normed, Ffn.rinv]

theorem p_at (y : FVec Ideal S1x1024 .f32) (w : FVec Ideal S1024x768 .bf16) (r : Fin 512) (j : Fin 768) : k0_pay2 (F := Ideal) x1 x0 y w (ix2 r j)
    = ∑ k, Ffn.normed (fun k => x0 (ix2 r k)) (fun k => y (ix2 0 k)) (fun k => x1 (ix3 0 4 k)) (fun k => x1 (ix3 0 3 k)) k * w (ix2 k j) := by
  pointwise [k0_pay2]
  exact Finset.sum_congr rfl fun k _ => congrArg (· * _) (e_at x0 x1 y r k)

theorem g_at (y : FVec Ideal S1x1024 .f32) (w : FVec Ideal S1024x1024 .bf16) (r : Fin 512) (j : Fin 1024) : k0_pay3 (F := Ideal) x1 x0 y w (ix2 r j)
    = ∑ k, Ffn.normed (fun k => x0 (ix2 r k)) (fun k => y (ix2 0 k)) (fun k => x1 (ix3 0 4 k)) (fun k => x1 (ix3 0 3 k)) k * w (ix2 k j) := by
  pointwise [k0_pay3]
  exact Finset.sum_congr rfl fun k _ => congrArg (· * _) (e_at x0 x1 y r k)

theorem v_at (y : FVec Ideal S1x1024 .f32) (w : FVec Ideal S1024x256 .bf16) (r : Fin 512) (j : Fin 256) : k0_pay16 (F := Ideal) (k0_pay1 x1 x0 y) w (ix2 r j)
    = ∑ k, Ffn.normed (fun k => x0 (ix2 r k)) (fun k => y (ix2 0 k)) (fun k => x1 (ix3 0 4 k)) (fun k => x1 (ix3 0 3 k)) k * w (ix2 k j) := by
  pointwise [k0_pay16]
  exact Finset.sum_congr rfl fun k _ => congrArg (· * _) (e_at x0 x1 y r k)

section Lanes
variable (p : FVec Ideal S512x768 .f32) (a b d : FVec Ideal S512x128 .f32) (r : Fin 512) (l : Fin 128)

theorem q0_at : k0_pay7 (F := Ideal) p a b d (ix2 r l) = Proj.laned (fun l => p (ix2 r ⟨l.val, by omega⟩)) (fun l => a (ix2 r l)) (fun l => b (ix2 r l)) (fun l => d (ix2 r l)) l * Ideal.ofBits .f32 0x3E38AA3B#32 := by
  pointwise [k0_pay7, Proj.laned]

theorem q1_at : k0_pay8 (F := Ideal) p a b d (ix2 r l) = Proj.laned (fun l => p (ix2 r ⟨128 + l.val, by omega⟩)) (fun l => a (ix2 r l)) (fun l => b (ix2 r l)) (fun l => d (ix2 r l)) l * Ideal.ofBits .f32 0x3E38AA3B#32 := by
  pointwise [k0_pay8, Proj.laned]

theorem q2_at : k0_pay9 (F := Ideal) p a b d (ix2 r l) = Proj.laned (fun l => p (ix2 r ⟨256 + l.val, by omega⟩)) (fun l => a (ix2 r l)) (fun l => b (ix2 r l)) (fun l => d (ix2 r l)) l * Ideal.ofBits .f32 0x3E38AA3B#32 := by
  pointwise [k0_pay9, Proj.laned]

theorem q3_at : k0_pay12 (F := Ideal) d (k0_pay10 p) (k0_pay11 p a b) (ix2 r l) = Proj.laned (fun l => p (ix2 r ⟨384 + l.val, by omega⟩)) (fun l => a (ix2 r l)) (fun l => b (ix2 r l)) (fun l => d (ix2 r l)) l * Ideal.ofBits .f32 0x3E38AA3B#32 := by
  pointwise [k0_pay12, k0_pay10, k0_pay11, Proj.laned]

theorem k0_at : k0_pay13 (F := Ideal) p a b d (ix2 r l) = Proj.laned (fun l => p (ix2 r ⟨512 + l.val, by omega⟩)) (fun l => a (ix2 r l)) (fun l => b (ix2 r l)) (fun l => d (ix2 r l)) l := by
  pointwise [k0_pay13, Proj.laned]

theorem k1_at : k0_pay14 (F := Ideal) p a b d (ix2 r l) = Proj.laned (fun l => p (ix2 r ⟨640 + l.val, by omega⟩)) (fun l => a (ix2 r l)) (fun l => b (ix2 r l)) (fun l => d (ix2 r l)) l := by
  pointwise [k0_pay14, Proj.laned]

end Lanes

theorem y_at (p : FVec Ideal S512x1024 .f32) (r : Fin 512) (j : Fin 512) : k0_pay15 (F := Ideal) p (ix2 r j)
    = p (ix2 r ⟨j.val, by omega⟩) * Ideal.logistic (p (ix2 r ⟨512 + j.val, by omega⟩)) := by
  pointwise [k0_pay15]

variable (m : (ℓ : Loc nD τ sig) → Buf (Elt Ideal) ℓ) (c : Dev nD) (t : Fin cfg0.N)

theorem sum_congr' {e e' w w' : Fin 1024 → EReal} (h : e = e') (h' : ∀ k, w k = w' k) : (∑ k, e k * w k) = ∑ k, e' k * w' k := by
  rw [h, funext h']

theorem out5_at (r : Fin 512) (j : Fin 512) : (outsAt0 m c t).1 (ix2 r j)
    = L (iblk m c 4 t) r (fun l => Q (iblk m c 0 t) (iblk m c 1 t) (iblk m c 2 t) (iblk m c 3 t) r ⟨j.val / 128 * 128 + l.val, by omega⟩) ⟨j.val % 128, by omega⟩
      * Ideal.ofBits .f32 0x3E38AA3B#32 := by
  unfold outsAt0
  frame_out
  canon_tiles x h
  · idx_vars x
    obtain rfl : r = x0 := Fin.ext h0
    refine (q3_at _ _ _ _ r x1).trans (congrArg (· * _) (Proj.laned_congr (fun l => (p_at _ _ _ _ r _).trans (sum_congr' (Proj.normed_congr rfl (funext fun k => ?_) rfl rfl) fun k => ?_)) (fun l => ?_) (fun l => ?_) (fun l => ?_) (Fin.ext (by dsimp only; omega))))
    all_goals pointwise [k0_pay4, k0_pay5, k0_pay6]
    all_goals (congr 2; exact Fin.ext (by dsimp only; omega))
  · idx_vars x
    obtain rfl : r = x0 := Fin.ext h0
    refine (q2_at _ _ _ _ r x1).trans (congrArg (· * _) (Proj.laned_congr (fun l => (p_at _ _ _ _ r _).trans (sum_congr' (Proj.normed_congr rfl (funext fun k => ?_) rfl rfl) fun k => ?_)) (fun l => ?_) (fun l => ?_) (fun l => ?_) (Fin.ext (by dsimp only; omega))))
    all_goals pointwise [k0_pay4, k0_pay5, k0_pay6]
    all_goals (congr 2; exact Fin.ext (by dsimp only; omega))
  · idx_vars x
    obtain rfl : r = x0 := Fin.ext h0
    refine (q1_at _ _ _ _ r x1).trans (congrArg (· * _) (Proj.laned_congr (fun l => (p_at _ _ _ _ r _).trans (sum_congr' (Proj.normed_congr rfl (funext fun k => ?_) rfl rfl) fun k => ?_)) (fun l => ?_) (fun l => ?_) (fun l => ?_) (Fin.ext (by dsimp only; omega))))
    all_goals pointwise [k0_pay4, k0_pay5, k0_pay6]
    all_goals (congr 2; exact Fin.ext (by dsimp only; omega))
  · idx_vars x
    obtain rfl : r = x0 := Fin.ext h0
    refine (q0_at _ _ _ _ r x1).trans (congrArg (· * _) (Proj.laned_congr (fun l => (p_at _ _ _ _ r _).trans (sum_congr' (Proj.normed_congr rfl (funext fun k => ?_) rfl rfl) fun k => ?_)) (fun l => ?_) (fun l => ?_) (fun l => ?_) (Fin.ext (by dsimp only; omega))))
    all_goals pointwise [k0_pay4, k0_pay5, k0_pay6]
    all_goals (congr 2; exact Fin.ext (by dsimp only; omega))

theorem out6_at (r : Fin 512) (j : Fin 512) : (outsAt0 m c t).2.1 (ix2 r j)
    = if j.val < 256 then L (iblk m c 4 t) r (fun l => Q (iblk m c 0 t) (iblk m c 1 t) (iblk m c 2 t) (iblk m c 3 t) r ⟨512 + j.val / 128 * 128 + l.val, by omega⟩) ⟨j.val % 128, by omega⟩
      else Q (iblk m c 0 t) (iblk m c 1 t) (iblk m c 2 t) (iblk m c 3 t) r ⟨512 + j.val, by omega⟩ := by
  unfold outsAt0
  frame_out
  canon_tiles x h using View.cover_of_tiledBy _ ![512, 128] (by sl_kernel_rfl) _
  · idx_vars x
    obtain rfl : r = x0 := Fin.ext h0
    rw [if_neg (by omega)]
    refine (v_at _ _ _ _ r x1).trans (sum_congr' (Proj.normed_congr rfl (funext fun k => ?_) rfl rfl) fun k => ?_)
    all_goals pointwise
    all_goals (congr 2; exact Fin.ext (by dsimp only; omega))
  · idx_vars x
    obtain rfl : r = x0 := Fin.ext h0
    rw [if_pos (by omega)]
    refine (k1_at _ _ _ _ r x1).trans (Proj.laned_congr (fun l => (p_at _ _ _ _ r _).trans (sum_congr' (Proj.normed_congr rfl (funext fun k => ?_) rfl rfl) fun k => ?_)) (fun l => ?_) (fun l => ?_) (fun l => ?_) (Fin.ext (by dsimp only; omega)))
    all_goals pointwise [k0_pay4, k0_pay5, k0_pay6]
    all_goals (congr 2; exact Fin.ext (by dsimp only; omega))
  · idx_vars x
    obtain rfl : r = x0 := Fin.ext h0
    rw [if_pos (by omega)]
    refine (k0_at _ _ _ _ r x1).trans (Proj.laned_congr (fun l => (p_at _ _ _ _ r _).trans (sum_congr' (Proj.normed_congr rfl (funext fun k => ?_) rfl rfl) fun k => ?_)) (fun l => ?_) (fun l => ?_) (fun l => ?_) (Fin.ext (by dsimp only; omega)))
    all_goals pointwise [k0_pay4, k0_pay5, k0_pay6]
    all_goals (congr 2; exact Fin.ext (by dsimp only; omega))

theorem out7_at (r : Fin 512) (j : Fin 512) : (outsAt0 m c t).2.2 (ix2 r j)
    = Q (iblk m c 0 t) (iblk m c 1 t) (iblk m c 2 t) (iblk m c 3 t) r ⟨1024 + j.val, by omega⟩
      * Ideal.logistic (Q (iblk m c 0 t) (iblk m c 1 t) (iblk m c 2 t) (iblk m c 3 t) r ⟨1536 + j.val, by omega⟩) := by
  unfold outsAt0
  frame_out
  refine (y_at _ r j).trans (congrArg₂ (fun a b => a * Ideal.logistic b) ?_ ?_)
  all_goals
    refine (g_at _ _ _ _ r _).trans (sum_congr' (Proj.normed_congr rfl (funext fun k => ?_) rfl rfl) fun k => ?_)
    all_goals pointwise
    all_goals (congr 2; exact Fin.ext (by dsimp only; omega))

end Cert.Kernel6Ideal.Point

end
-- ==== Proof.Proj0Tables.lean ====
/- What the host computes before the projection of the first layer: the weights with the key and value heads also swapped, and the
   table of the rotary turn. -/
module

public import proofs.«01_k».proof.Proof.ProjMath
public import proofs.«01_k».proof.Proof.Gen.Kernel6Ideal.Frame
public import Idealize.ShloMosaic.Lib.StableHlo.ReadAt

@[expose] public section

set_option maxRecDepth 16384
set_option maxHeartbeats 400000

noncomputable section

namespace Cert.Kernel6Ideal.Tables

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

theorem zero_at : (constant S_ .f32 0#32 : FVec Ideal S_ .f32) ix0 = 0 := by pointwise

/-- The table of the turn: a latent row's is its position's, a context row's leaves the lanes alone. -/
theorem table_at (r : Fin 2560) (j : Fin 384) (n : Fin 36864) (e : n.val < 32768 ∧ r.val = n.val % 2048 ∨ ¬ n.val < 32768 ∧ 2048 ≤ r.val) :
    (show FVec Ideal S2560x384 .f32 from V m c main_v32) (ix2 r j)
      = Proj.table (m ((c : Thread nD τ).loc main_arg4)) (m ((c : Thread nD τ).loc main_arg5)) n j := by
  show V m c main_v32 _ = _
  unfold V Proj.table
  after_reads_at
  obtain ⟨hn, hr⟩ | ⟨hn, hr⟩ := e
  · rw [if_pos hn, dif_pos (by omega)]
    have er : (⟨r.val, by omega⟩ : Fin 2048) = ⟨n.val % 2048, by omega⟩ := Fin.ext hr
    by_cases h1 : j.val < 128
    · rw [if_pos h1, dif_pos h1]
      after_reads_at
      rw [er]
    rw [if_neg h1, dif_neg h1]
    by_cases h2 : j.val < 256
    · rw [if_pos h2, dif_pos (by omega)]
      after_reads_at
      refine (Proj.select_mask ⟨(j.val - 128) % 64, by omega⟩ _ _).trans ?_
      have e : (j.val - 128) % 64 = j.val % 64 := by omega
      have e' : j.val % 64 % 32 = j.val % 32 := by omega
      simp only [e, e', er, id_eq, zero_at]
    · rw [if_neg h2, dif_neg (by omega)]
      after_reads_at
      refine (Proj.select_mask ⟨(j.val - 128 - 128) % 64, by omega⟩ _ _).trans ?_
      have e : (j.val - 128 - 128) % 64 = j.val % 64 := by omega
      have e' : j.val % 64 % 32 = j.val % 32 := by omega
      simp only [e, e', er, id_eq, zero_at]
  · rw [if_neg hn, dif_neg (by omega)]
    by_cases h1 : j.val < 128
    · rw [if_pos h1, dif_pos h1]
      after_reads_at
    · rw [if_neg h1, dif_neg h1]
      after_reads_at

/-- The weights as the kernel takes them. -/
theorem w_at (r : Fin 1024) (j : Fin 2048) :
    (show FVec Ideal S1024x2048 .bf16 from V m c main_v11) (ix2 r j) = m ((c : Thread nD τ).loc main_arg3) (ix2 r (Proj.column j)) := by
  show V m c main_v11 _ = _
  unfold V Proj.column
  after_reads_at
  by_cases h1 : j.val < 512
  · rw [dif_pos h1, dif_pos h1]
    after_reads_at
  rw [dif_neg h1, dif_neg h1]
  by_cases h2 : j.val < 640
  · rw [dif_pos (by omega), dif_pos (by omega)]
    after_reads_at
    congr 2
    exact Fin.ext (by dsimp only; omega)
  rw [dif_neg (by omega)]
  by_cases h3 : j.val < 768
  · rw [dif_pos (by omega), dif_pos (by omega)]
    after_reads_at
    by_cases h : j.val - 512 - 128 < 64
    · rw [dif_pos h]
      congr 2
      exact Fin.ext (by dsimp only; omega)
    · rw [dif_neg h]
      congr 2
      exact Fin.ext (by dsimp only; omega)
  rw [dif_neg (by omega)]
  by_cases h4 : j.val < 896
  · rw [dif_pos (by omega), dif_pos (by omega)]
    after_reads_at
    congr 2
    exact Fin.ext (by dsimp only; omega)
  rw [dif_neg (by omega)]
  by_cases h5 : j.val < 1024
  · rw [dif_pos (by omega), dif_pos (by omega)]
    after_reads_at
    by_cases h : j.val - 512 - 128 - 128 - 128 < 64
    · rw [dif_pos h]
      congr 2
      exact Fin.ext (by dsimp only; omega)
    · rw [dif_neg h]
      congr 2
      exact Fin.ext (by dsimp only; omega)
  · rw [dif_neg (by omega), dif_neg (by omega)]
    after_reads_at
    congr 2
    exact Fin.ext (by dsimp only; omega)

end Cert.Kernel6Ideal.Tables

end
-- ==== Proof.Proj0Array.lean ====
/- The arrays that the projection before the first layer's mixers leaves. -/
module

public import proofs.«01_k».proof.Proof.Proj0Point
public import proofs.«01_k».proof.Proof.Proj0Tables
public import Idealize.ShloMosaic.Lib.Pipeline.ValueKit.Tiles
public import Idealize.ShloMosaic.Lib.Pipeline.ValueKit

@[expose] public section

set_option maxRecDepth 16384

noncomputable section

namespace Cert.Kernel6Ideal.Point

open Idealize.ShloMosaic Idealize.ShloMosaic.TcCoe Idealize.SL.Sem
open Cert.Kernel6Ideal Cert.Kernel6Ideal.Gen

variable (m : (ℓ : Loc nD τ sig) → Buf (Elt Ideal) ℓ)

theorem idx : ∀ t : Fin cfg0.N, win0_0.index t = ![t.val, 0] ∧ win0_1.index t = ![min (t.val / 4) 16, 0, 0] ∧ win0_2.index t = ![0, 0]
    ∧ win0_3.index t = ![0, 0] ∧ win0_4.index t = ![if t.val < 64 then t.val % 4 else 4, 0] ∧ win0_5.index t = ![t.val, 0]
    ∧ win0_6.index t = ![t.val, 0] ∧ win0_7.index t = ![t.val, 0] ∧ t.val < 72 :=
  (by decide +kernel : ∀ t : Fin grid0.N, _)

theorem blk0 (c : Dev nD) (t : Fin cfg0.N) (r : Fin 512) (k : Fin 1024) (n : Fin 36864) (hn : n.val = t.val * 512 + r.val) :
    (show FVec Ideal S512x1024 .f32 from iblk m c 0 t) (ix2 r k) = (show FVec Ideal S36864x1024 .f32 from m ((c : Thread nD τ).loc main_arg0)) (ix2 n k) := by
  rw [← V_main_arg0 m c]
  show iblk m c 0 t _ = _
  blk_ext [iblk, idx t]

theorem blk1 (c : Dev nD) (t : Fin cfg0.N) (a : Fin 9) (k : Fin 1024) (b : Fin 17) (hb : b.val = min (t.val / 4) 16) :
    (show FVec Ideal S1x9x1024 .f32 from iblk m c 1 t) (ix3 0 a k) = (show FVec Ideal S17x9x1024 .f32 from m ((c : Thread nD τ).loc main_arg1)) (ix3 b a k) := by
  rw [← V_main_arg1 m c]
  show iblk m c 1 t _ = _
  blk_ext [iblk, idx t]

theorem blk2 (c : Dev nD) (t : Fin cfg0.N) (a : Fin 3) (k : Fin 1024) :
    (show FVec Ideal S3x1024 .f32 from iblk m c 2 t) (ix2 a k) = (show FVec Ideal S3x1024 .f32 from m ((c : Thread nD τ).loc main_arg2)) (ix2 a k) := by
  rw [← V_main_arg2 m c]
  show iblk m c 2 t _ = _
  blk_ext [iblk, idx t]

theorem blk3 (c : Dev nD) (t : Fin cfg0.N) (k : Fin 1024) (j : Fin 2048) :
    (show FVec Ideal S1024x2048 .bf16 from iblk m c 3 t) (ix2 k j) = m ((c : Thread nD τ).loc main_arg3) (ix2 k (Proj.column j)) := by
  refine Eq.trans ?_ (Tables.w_at m c k j)
  show iblk m c 3 t _ = V m c main_v11 _
  blk_ext [iblk, idx t]

theorem blk4 (c : Dev nD) (t : Fin cfg0.N) (r : Fin 512) (j : Fin 384) (n : Fin 36864) (hn : n.val = t.val * 512 + r.val) :
    (show FVec Ideal S512x384 .f32 from iblk m c 4 t) (ix2 r j)
      = Proj.table (m ((c : Thread nD τ).loc main_arg4)) (m ((c : Thread nD τ).loc main_arg5)) n j := by
  have ht : t.val < 72 := (idx t).2.2.2.2.2.2.2.2
  by_cases h : t.val < 64
  · refine Eq.trans ?_ (Tables.table_at m c ⟨t.val % 4 * 512 + r.val, by omega⟩ j n (Or.inl ⟨by omega, by dsimp only; omega⟩))
    have e : win0_4.index t = ![t.val % 4, 0] := by rw [(idx t).2.2.2.2.1, if_pos h]
    show iblk m c 4 t _ = V m c main_v32 _
    blk_ext [iblk, e]
  · refine Eq.trans ?_ (Tables.table_at m c ⟨4 * 512 + r.val, by omega⟩ j n (Or.inr ⟨by omega, by dsimp only; omega⟩))
    have e : win0_4.index t = ![4, 0] := by rw [(idx t).2.2.2.2.1, if_neg h]
    show iblk m c 4 t _ = V m c main_v32 _
    blk_ext [iblk, e]

theorem product_blk (c : Dev nD) (t : Fin cfg0.N) (r : Fin 512) (j : Fin 2048) (n : Fin 36864) (hn : n.val = t.val * 512 + r.val) (j' : Fin 1792) (hj : Proj.column j = j') :
    Q (iblk m c 0 t) (iblk m c 1 t) (iblk m c 2 t) (iblk m c 3 t) r j
      = Proj.product (m ((c : Thread nD τ).loc main_arg0)) (m ((c : Thread nD τ).loc main_arg1)) (m ((c : Thread nD τ).loc main_arg2)) (m ((c : Thread nD τ).loc main_arg3)) n j' := by
  subst hj
  have ht : t.val < 72 := (idx t).2.2.2.2.2.2.2.2
  have hb : (Ffn.modRow n).val = min (t.val / 4) 16 := by dsimp only [Ffn.modRow]; omega
  exact sum_congr' (Proj.normed_congr (funext fun k => blk0 m c t r k n hn) (funext fun k => blk2 m c t 1 k) (funext fun k => blk1 m c t 4 k _ hb)
    (funext fun k => blk1 m c t 3 k _ hb)) fun k => blk3 m c t k j

theorem lanes_blk (c : Dev nD) (t : Fin cfg0.N) (r : Fin 512) (v : Fin 128 → EReal) (l : Fin 128) (n : Fin 36864) (hn : n.val = t.val * 512 + r.val) :
    L (iblk m c 4 t) r v l = Proj.turned (fun d => v ⟨l.val / 64 * 64 + d.val, by omega⟩) (m ((c : Thread nD τ).loc main_arg4)) (m ((c : Thread nD τ).loc main_arg5)) n ⟨l.val % 64, by omega⟩ :=
  (Proj.laned_congr (fun _ => rfl) (fun l => blk4 m c t r _ n hn) (fun l => blk4 m c t r _ n hn) (fun l => blk4 m c t r _ n hn) rfl).trans
    (Proj.laned_table v _ _ n l)

theorem turned_congr {p p' : Fin 64 → EReal} {C S : FVec Ideal ⟨2, ![2048, 64]⟩ .f32} {n : Fin 36864} {d d' : Fin 64} (h : ∀ d, p d = p' d) (hd : d = d') :
    Proj.turned p C S n d = Proj.turned p' C S n d' := by
  rw [funext h, hd]

theorem column_low (j : Fin 2048) (h : j.val < 512) : Proj.column j = ⟨j.val, by omega⟩ := by
  unfold Proj.column; rw [dif_pos h]

theorem column_high (j : Fin 2048) (h : 1024 ≤ j.val) : Proj.column j = ⟨j.val - 256, by omega⟩ := by
  unfold Proj.column; rw [dif_neg (by omega), dif_neg (by omega)]

theorem column_mid (j : Fin 2048) (h : 512 ≤ j.val) (h' : j.val < 1024) :
    Proj.column j = ⟨512 + (j.val - 512) / 256 * 128 + 64 * ((j.val / 64 + j.val / 128) % 2) + j.val % 64, by omega⟩ := by
  unfold Proj.column; rw [dif_neg (by omega), dif_pos h']

theorem final5 (c : Dev nD) : (dats m 0 c).arrAt 5 (cfgs 0).N
    = fun i => Proj.query (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 5 _ (by decide +kernel) fun t _ y => ?_
  blk_simp
  rw [after0_5]
  idx_vars y
  refine (out5_at m c t y0 y1).trans ?_
  have ht : t.val < 72 := (idx t).2.2.2.2.2.2.2.2
  have hr : t.val * 512 + y0.val < 36864 := by have := y0.isLt; omega
  have e0 : (((View.whole main_v33_0).slice (win0_5.rect t)).emb (ix2 y0 y1) 0 : Fin 36864) = ⟨t.val * 512 + y0.val, hr⟩ := by
    apply Fin.ext; blk_simp [idx t]
  have e1 : (((View.whole main_v33_0).slice (win0_5.rect t)).emb (ix2 y0 y1) 1 : Fin 512) = y1 := by
    apply Fin.ext; blk_simp [idx t]
  refine Eq.trans ?_ (congrArg₂ (Proj.query (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) e0 e1).symm
  refine congrArg (· * _) ((lanes_blk m c t y0 _ _ ⟨_, hr⟩ rfl).trans (turned_congr (fun d => product_blk m c t y0 _ ⟨_, hr⟩ rfl _ ?_) (Fin.ext (by dsimp only; omega))))
  rw [column_low _ (by dsimp only; omega)]
  exact Fin.ext (by dsimp only; omega)

theorem final6 (c : Dev nD) : (dats m 0 c).arrAt 6 (cfgs 0).N
    = fun i => Proj.keyValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t _ y => ?_
  blk_simp
  rw [after0_6]
  idx_vars y
  refine (out6_at m c t y0 y1).trans ?_
  have ht : t.val < 72 := (idx t).2.2.2.2.2.2.2.2
  have hr : t.val * 512 + y0.val < 36864 := by have := y0.isLt; omega
  have e0 : (((View.whole main_v33_1).slice (win0_6.rect t)).emb (ix2 y0 y1) 0 : Fin 36864) = ⟨t.val * 512 + y0.val, hr⟩ := by
    apply Fin.ext; blk_simp [idx t]
  have e1 : (((View.whole main_v33_1).slice (win0_6.rect t)).emb (ix2 y0 y1) 1 : Fin 512) = y1 := by
    apply Fin.ext; blk_simp [idx t]
  refine Eq.trans ?_ (congrArg₂ (Proj.keyValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) e0 e1).symm
  unfold Proj.keyValue
  by_cases h : y1.val < 256
  · rw [if_pos h, if_pos h]
    refine (lanes_blk m c t y0 _ _ ⟨_, hr⟩ rfl).trans (turned_congr (fun d => product_blk m c t y0 _ ⟨_, hr⟩ rfl _ ?_) (Fin.ext (by dsimp only; omega)))
    rw [column_mid _ (by dsimp only; omega) (by dsimp only; omega)]
    exact Fin.ext (by dsimp only; omega)
  · rw [if_neg h, if_neg h]
    refine product_blk m c t y0 _ ⟨_, hr⟩ rfl _ ?_
    rw [column_mid _ (by dsimp only; omega) (by dsimp only; omega)]
    exact Fin.ext (by dsimp only; omega)

theorem final7 (c : Dev nD) : (dats m 0 c).arrAt 7 (cfgs 0).N
    = fun i => Proj.gated (m ((c : Thread nD τ).loc main_arg0)) (m ((c : Thread nD τ).loc main_arg1)) (m ((c : Thread nD τ).loc main_arg2))
        (m ((c : Thread nD τ).loc main_arg3)) (i 0) (i 1) := by
  refine (dats m 0 c).arrAt_eq_of_covers 7 _ (by decide +kernel) fun t _ y => ?_
  blk_simp
  rw [after0_7]
  idx_vars y
  refine (out7_at m c t y0 y1).trans ?_
  have ht : t.val < 72 := (idx t).2.2.2.2.2.2.2.2
  have hr : t.val * 512 + y0.val < 36864 := by have := y0.isLt; omega
  have e0 : (((View.whole main_v33_2).slice (win0_7.rect t)).emb (ix2 y0 y1) 0 : Fin 36864) = ⟨t.val * 512 + y0.val, hr⟩ := by
    apply Fin.ext; blk_simp [idx t]
  have e1 : (((View.whole main_v33_2).slice (win0_7.rect t)).emb (ix2 y0 y1) 1 : Fin 512) = y1 := by
    apply Fin.ext; blk_simp [idx t]
  refine Eq.trans ?_ (congrArg₂ (Proj.gated (m ((c : Thread nD τ).loc main_arg0)) (m ((c : Thread nD τ).loc main_arg1)) (m ((c : Thread nD τ).loc main_arg2))
        (m ((c : Thread nD τ).loc main_arg3))) e0 e1).symm
  refine congrArg₂ (fun a b => a * Ideal.logistic b) (product_blk m c t y0 _ ⟨_, hr⟩ rfl _ ?_) (product_blk m c t y0 _ ⟨_, hr⟩ rfl _ ?_)
  all_goals
    rw [column_high _ (by dsimp only; omega)]
    exact Fin.ext (by dsimp only; omega)

end Cert.Kernel6Ideal.Point

end
-- ==== Proof.Proj0Reference.lean ====
/- What the reference of the projection before the first layer's mixers returns. -/
module

public import proofs.«01_k».proof.Proof.Gen.Reference6Ideal.Read
public import proofs.«01_k».proof.Proof.ProjMath
public import Idealize.ShloMosaic.Lib.Pointwise

@[expose] public section

set_option maxRecDepth 16384
set_option maxHeartbeats 1000000

noncomputable section

namespace Cert.Reference6Ideal.Point

open Idealize.ShloMosaic Idealize.ShloMosaic.TcCoe Idealize.SL.Sem
open Cert.Reference6Ideal Cert.Reference6Ideal.Read

variable (x0 : FVec Ideal S36864x1024 .f32) (x1 : FVec Ideal S17x9x1024 .f32) (x2 : FVec Ideal S3x1024 .f32) (x3 : FVec Ideal S1024x1792 .f32)
  (x4 x5 : FVec Ideal S2048x64 .f32)

theorem x_lat (b : Fin 16) (s : Fin 2048) (c : Fin 1024) (n : Fin 36864) (h : n.val = b.val * 2048 + s.val) :
    val_main_v5 (F := Ideal) x0 (ix3 b s c) = x0 (ix2 n c) := by
  obtain rfl : n = ⟨b.val * 2048 + s.val, by clear h; omega⟩ := Fin.ext h
  pointwise [val_main_v5, val_main_v4]

theorem x_ctx (b : Fin 16) (s : Fin 256) (c : Fin 1024) (n : Fin 36864) (h : n.val = 32768 + (b.val * 256 + s.val)) :
    val_main_v3 (F := Ideal) x0 (ix3 b s c) = x0 (ix2 n c) := by
  obtain rfl : n = ⟨32768 + (b.val * 256 + s.val), by clear h; omega⟩ := Fin.ext h
  pointwise [val_main_v3, val_main_v2]

theorem e_lat (b : Fin 16) (s : Fin 2048) (c : Fin 1024) (n : Fin 36864) (h : n.val = b.val * 2048 + s.val) :
    val_main_v30 (F := Ideal) x0 x1 x2 (ix3 b s c) = Proj.entering x0 x1 x2 n c := by
  have e : Ffn.modRow n = ⟨b.val, by omega⟩ := Ffn.modRow_lat _ _ _ h
  unfold Proj.entering
  rw [e]
  pointwise [val_main_v0, val_main_v1, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, Ffn.normed, Ffn.rinv]
  simp only [x_lat x0 b s _ n h]
  rw [mul_assoc _ (x2 (ix2 1 c))]

theorem e_ctx (b : Fin 16) (s : Fin 256) (c : Fin 1024) (n : Fin 36864) (h : n.val = 32768 + (b.val * 256 + s.val)) :
    val_main_v55 (F := Ideal) x0 x1 x2 (ix3 b s c) = Proj.entering x0 x1 x2 n c := by
  have e : Ffn.modRow n = 16 := Ffn.modRow_ctx _ (by omega)
  unfold Proj.entering
  rw [e]
  pointwise [val_main_v0, val_main_v1, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_3, val_main_cst_4, val_main_cst_5, val_main_cst_6, Ffn.normed, Ffn.rinv]
  simp only [x_ctx x0 b s _ n h]
  rw [mul_assoc _ (x2 (ix2 1 c))]

theorem p_lat (b : Fin 16) (s : Fin 2048) (j : Fin 1792) (n : Fin 36864) (h : n.val = b.val * 2048 + s.val) :
    val_main_v56 (F := Ideal) x0 x1 x2 x3 (ix3 b s j) = Proj.product x0 x1 x2 x3 n j := by
  pointwise [val_main_v56, Proj.product]
  exact Finset.sum_congr rfl fun k _ => congrArg (· * _) (e_lat x0 x1 x2 b s k n h)

theorem p_ctx (b : Fin 16) (s : Fin 256) (j : Fin 1792) (n : Fin 36864) (h : n.val = 32768 + (b.val * 256 + s.val)) :
    val_main_v57 (F := Ideal) x0 x1 x2 x3 (ix3 b s j) = Proj.product x0 x1 x2 x3 n j := by
  pointwise [val_main_v57, Proj.product]
  exact Finset.sum_congr rfl fun k _ => congrArg (· * _) (e_ctx x0 x1 x2 b s k n h)

theorem turnq (b : Fin 16) (s : Fin 2048) (a : Fin 8) (d : Fin 64) (n : Fin 36864) (h : n.val = b.val * 2048 + s.val) :
    val_main_v69 (F := Ideal) x0 x1 x2 x3 (ix4 b s a d) = if h : d.val % 32 < 16 then -Proj.product x0 x1 x2 x3 n ⟨(a.val * 64 + (d.val + 16)), by omega⟩
      else Proj.product x0 x1 x2 x3 n ⟨(a.val * 64 + (d.val - 16)), by omega⟩ := by
  pointwise [val_main_v69, val_main_v68, val_main_v67, val_main_v66, val_main_v65, val_main_v64, val_main_v63, val_main_v62, val_main_v61, val_main_v60, val_main_v59, val_main_v58]
  by_cases hd : d.val % 32 < 16
  · rw [dif_pos hd, dif_pos (by omega)]
    refine congrArg (fun z : EReal => -z) ((p_lat x0 x1 x2 x3 b s _ n h).trans (congrArg _ (Fin.ext ?_)))
    dsimp only
    omega
  · rw [dif_neg hd, dif_neg (by omega)]
    refine (p_lat x0 x1 x2 x3 b s _ n h).trans (congrArg _ (Fin.ext ?_))
    dsimp only
    omega

theorem turnk (b : Fin 16) (s : Fin 2048) (a : Fin 2) (d : Fin 64) (n : Fin 36864) (h : n.val = b.val * 2048 + s.val) :
    val_main_v90 (F := Ideal) x0 x1 x2 x3 (ix4 b s a d) = if h : d.val % 32 < 16 then -Proj.product x0 x1 x2 x3 n ⟨512 + (a.val * 64 + (d.val + 16)), by omega⟩
      else Proj.product x0 x1 x2 x3 n ⟨512 + (a.val * 64 + (d.val - 16)), by omega⟩ := by
  pointwise [val_main_v90, val_main_v89, val_main_v88, val_main_v87, val_main_v86, val_main_v85, val_main_v84, val_main_v83, val_main_v82, val_main_v81, val_main_v80, val_main_v79]
  by_cases hd : d.val % 32 < 16
  · rw [dif_pos hd, dif_pos (by omega)]
    refine congrArg (fun z : EReal => -z) ((p_lat x0 x1 x2 x3 b s _ n h).trans (congrArg _ (Fin.ext ?_)))
    dsimp only
    omega
  · rw [dif_neg hd, dif_neg (by omega)]
    refine (p_lat x0 x1 x2 x3 b s _ n h).trans (congrArg _ (Fin.ext ?_))
    dsimp only
    omega

theorem ropeq (b : Fin 16) (s : Fin 2048) (a : Fin 8) (d : Fin 64) (n : Fin 36864) (h : n.val = b.val * 2048 + s.val) :
    val_main_v78 (F := Ideal) x0 x1 x2 x3 x4 x5 (ix4 b s a d) = Proj.turned (fun d => Proj.product x0 x1 x2 x3 n ⟨a.val * 64 + d.val, by omega⟩) x4 x5 n d := by
  unfold Proj.turned Proj.roped
  have e : (⟨n.val % 2048, by omega⟩ : Fin 2048) = s := Fin.ext (by dsimp only; omega)
  rw [if_pos (by omega), e]
  pointwise [val_main_v70, val_main_v71, val_main_v72, val_main_v73, val_main_v74, val_main_v75, val_main_v76, val_main_v77, val_main_v78, val_main_v59, val_main_v58]
  rw [turnq x0 x1 x2 x3 b s a d n h, p_lat x0 x1 x2 x3 b s _ n h]

theorem ropek (b : Fin 16) (s : Fin 2048) (a : Fin 2) (d : Fin 64) (n : Fin 36864) (h : n.val = b.val * 2048 + s.val) :
    val_main_v99 (F := Ideal) x0 x1 x2 x3 x4 x5 (ix4 b s a d) = Proj.turned (fun d => Proj.product x0 x1 x2 x3 n ⟨512 + (a.val * 64 + d.val), by omega⟩) x4 x5 n d := by
  unfold Proj.turned Proj.roped
  have e : (⟨n.val % 2048, by omega⟩ : Fin 2048) = s := Fin.ext (by dsimp only; omega)
  rw [if_pos (by omega), e]
  pointwise [val_main_v91, val_main_v92, val_main_v93, val_main_v94, val_main_v95, val_main_v96, val_main_v97, val_main_v98, val_main_v99, val_main_v80, val_main_v79]
  rw [turnk x0 x1 x2 x3 b s a d n h, p_lat x0 x1 x2 x3 b s _ n h]

theorem turned_ctx (p : Fin 64 → EReal) (C S : FVec Ideal S2048x64 .f32) (n : Fin 36864) (d : Fin 64) (h : 32768 ≤ n.val) :
    Proj.turned p C S n d = p d := by
  unfold Proj.turned
  rw [if_neg (by omega)]

theorem q_lat (n : Fin 36864) (c : Fin 512) (b : Fin 16) (s : Fin 2048) (h : n.val = b.val * 2048 + s.val) : val_main_v103 (F := Ideal) x0 x1 x2 x3 x4 x5 (ix2 n c)
    = Proj.turned (fun d => Proj.product x0 x1 x2 x3 n ⟨c.val / 64 * 64 + d.val, by omega⟩) x4 x5 n ⟨c.val % 64, by omega⟩ := by
  pointwise [val_main_v103]
  have e : (⟨n.val, by omega⟩ : Fin 32768) = ⟨b.val * 2048 + s.val, by omega⟩ := Fin.ext h
  rw [dif_pos (by omega), e]
  pointwise [val_main_v101]
  exact ropeq x0 x1 x2 x3 x4 x5 b s _ _ n h

theorem q_ctx (n : Fin 36864) (c : Fin 512) (b : Fin 16) (s : Fin 256) (h : n.val = 32768 + (b.val * 256 + s.val)) : val_main_v103 (F := Ideal) x0 x1 x2 x3 x4 x5 (ix2 n c)
    = Proj.turned (fun d => Proj.product x0 x1 x2 x3 n ⟨c.val / 64 * 64 + d.val, by omega⟩) x4 x5 n ⟨c.val % 64, by omega⟩ := by
  rw [turned_ctx _ _ _ _ _ (by omega)]
  pointwise [val_main_v103]
  have e : (⟨n.val - 32768, by omega⟩ : Fin 4096) = ⟨b.val * 256 + s.val, by omega⟩ := Fin.ext (by dsimp only; omega)
  rw [dif_neg (by omega), e]
  pointwise [val_main_v102, val_main_v100]
  refine (p_ctx x0 x1 x2 x3 b s _ n h).trans (congrArg _ (Fin.ext ?_))
  dsimp only
  omega

theorem k_lat (n : Fin 36864) (c : Fin 128) (b : Fin 16) (s : Fin 2048) (h : n.val = b.val * 2048 + s.val) : val_main_v109 (F := Ideal) x0 x1 x2 x3 x4 x5 (ix2 n c)
    = Proj.turned (fun d => Proj.product x0 x1 x2 x3 n ⟨512 + (c.val / 64 * 64 + d.val), by omega⟩) x4 x5 n ⟨c.val % 64, by omega⟩ := by
  pointwise [val_main_v109]
  have e : (⟨n.val, by omega⟩ : Fin 32768) = ⟨b.val * 2048 + s.val, by omega⟩ := Fin.ext h
  rw [dif_pos (by omega), e]
  pointwise [val_main_v107]
  exact ropek x0 x1 x2 x3 x4 x5 b s _ _ n h

theorem k_ctx (n : Fin 36864) (c : Fin 128) (b : Fin 16) (s : Fin 256) (h : n.val = 32768 + (b.val * 256 + s.val)) : val_main_v109 (F := Ideal) x0 x1 x2 x3 x4 x5 (ix2 n c)
    = Proj.turned (fun d => Proj.product x0 x1 x2 x3 n ⟨512 + (c.val / 64 * 64 + d.val), by omega⟩) x4 x5 n ⟨c.val % 64, by omega⟩ := by
  rw [turned_ctx _ _ _ _ _ (by omega)]
  pointwise [val_main_v109]
  have e : (⟨n.val - 32768, by omega⟩ : Fin 4096) = ⟨b.val * 256 + s.val, by omega⟩ := Fin.ext (by dsimp only; omega)
  rw [dif_neg (by omega), e]
  pointwise [val_main_v108, val_main_v106]
  refine (p_ctx x0 x1 x2 x3 b s _ n h).trans (congrArg _ (Fin.ext ?_))
  dsimp only
  omega

theorem v_lat (n : Fin 36864) (c : Fin 128) (b : Fin 16) (s : Fin 2048) (h : n.val = b.val * 2048 + s.val) : val_main_v114 (F := Ideal) x0 x1 x2 x3 (ix2 n c)
    = Proj.product x0 x1 x2 x3 n ⟨640 + c.val, by omega⟩ := by
  pointwise [val_main_v114]
  have e : (⟨n.val, by omega⟩ : Fin 32768) = ⟨b.val * 2048 + s.val, by omega⟩ := Fin.ext h
  rw [dif_pos (by omega), e]
  pointwise [val_main_v112, val_main_v110]
  exact p_lat x0 x1 x2 x3 b s _ n h

theorem v_ctx (n : Fin 36864) (c : Fin 128) (b : Fin 16) (s : Fin 256) (h : n.val = 32768 + (b.val * 256 + s.val)) : val_main_v114 (F := Ideal) x0 x1 x2 x3 (ix2 n c)
    = Proj.product x0 x1 x2 x3 n ⟨640 + c.val, by omega⟩ := by
  pointwise [val_main_v114]
  have e : (⟨n.val - 32768, by omega⟩ : Fin 4096) = ⟨b.val * 256 + s.val, by omega⟩ := Fin.ext (by dsimp only; omega)
  rw [dif_neg (by omega), e]
  pointwise [val_main_v113, val_main_v111]
  exact p_ctx x0 x1 x2 x3 b s _ n h

theorem u_lat (n : Fin 36864) (c : Fin 1024) (b : Fin 16) (s : Fin 2048) (h : n.val = b.val * 2048 + s.val) : val_main_v119 (F := Ideal) x0 x1 x2 x3 (ix2 n c)
    = Proj.product x0 x1 x2 x3 n ⟨768 + c.val, by omega⟩ := by
  pointwise [val_main_v119]
  have e : (⟨n.val, by omega⟩ : Fin 32768) = ⟨b.val * 2048 + s.val, by omega⟩ := Fin.ext h
  rw [dif_pos (by omega), e]
  pointwise [val_main_v117, val_main_v115]
  exact p_lat x0 x1 x2 x3 b s _ n h

theorem u_ctx (n : Fin 36864) (c : Fin 1024) (b : Fin 16) (s : Fin 256) (h : n.val = 32768 + (b.val * 256 + s.val)) : val_main_v119 (F := Ideal) x0 x1 x2 x3 (ix2 n c)
    = Proj.product x0 x1 x2 x3 n ⟨768 + c.val, by omega⟩ := by
  pointwise [val_main_v119]
  have e : (⟨n.val - 32768, by omega⟩ : Fin 4096) = ⟨b.val * 256 + s.val, by omega⟩ := Fin.ext (by dsimp only; omega)
  rw [dif_neg (by omega), e]
  pointwise [val_main_v118, val_main_v116]
  exact p_ctx x0 x1 x2 x3 b s _ n h

/-- A row of the stream is a latent row or a context row. -/
theorem rows (n : Fin 36864) : (∃ (b : Fin 16) (s : Fin 2048), n.val = b.val * 2048 + s.val)
    ∨ ∃ (b : Fin 16) (s : Fin 256), n.val = 32768 + (b.val * 256 + s.val) := by
  rcases lt_or_ge n.val 32768 with h | h
  · exact .inl ⟨⟨n.val / 2048, by omega⟩, ⟨n.val % 2048, by omega⟩, by dsimp only; omega⟩
  · exact .inr ⟨⟨(n.val - 32768) / 256, by omega⟩, ⟨(n.val - 32768) % 256, by omega⟩, by dsimp only; omega⟩

theorem q_at (n : Fin 36864) (c : Fin 512) : val_main_v103 (F := Ideal) x0 x1 x2 x3 x4 x5 (ix2 n c)
    = Proj.turned (fun d => Proj.product x0 x1 x2 x3 n ⟨c.val / 64 * 64 + d.val, by omega⟩) x4 x5 n ⟨c.val % 64, by omega⟩ := by
  rcases rows n with ⟨b, s, h⟩ | ⟨b, s, h⟩
  · exact q_lat x0 x1 x2 x3 x4 x5 n c b s h
  · exact q_ctx x0 x1 x2 x3 x4 x5 n c b s h

theorem k_at (n : Fin 36864) (c : Fin 128) : val_main_v109 (F := Ideal) x0 x1 x2 x3 x4 x5 (ix2 n c)
    = Proj.turned (fun d => Proj.product x0 x1 x2 x3 n ⟨512 + (c.val / 64 * 64 + d.val), by omega⟩) x4 x5 n ⟨c.val % 64, by omega⟩ := by
  rcases rows n with ⟨b, s, h⟩ | ⟨b, s, h⟩
  · exact k_lat x0 x1 x2 x3 x4 x5 n c b s h
  · exact k_ctx x0 x1 x2 x3 x4 x5 n c b s h

theorem v_at (n : Fin 36864) (c : Fin 128) : val_main_v114 (F := Ideal) x0 x1 x2 x3 (ix2 n c) = Proj.product x0 x1 x2 x3 n ⟨640 + c.val, by omega⟩ := by
  rcases rows n with ⟨b, s, h⟩ | ⟨b, s, h⟩
  · exact v_lat x0 x1 x2 x3 n c b s h
  · exact v_ctx x0 x1 x2 x3 n c b s h

theorem u_at (n : Fin 36864) (c : Fin 1024) : val_main_v119 (F := Ideal) x0 x1 x2 x3 (ix2 n c) = Proj.product x0 x1 x2 x3 n ⟨768 + c.val, by omega⟩ := by
  rcases rows n with ⟨b, s, h⟩ | ⟨b, s, h⟩
  · exact u_lat x0 x1 x2 x3 n c b s h
  · exact u_ctx x0 x1 x2 x3 n c b s h

theorem query_eq : val_main_v127 (F := Ideal) x0 x1 x2 x3 x4 x5 = fun i => Proj.query x0 x1 x2 x3 x4 x5 (i 0) (i 1) := by
  funext i
  idx_vars i
  pointwise [val_main_v127, val_main_v105, val_main_v104, val_main_cst_7, Proj.query]
  exact congrArg (· * _) (q_at x0 x1 x2 x3 x4 x5 i0 i1)

theorem turned_congr {p p' : Fin 64 → EReal} {C S : FVec Ideal S2048x64 .f32} {n : Fin 36864} {d d' : Fin 64} (h : ∀ d, p d = p' d) (hd : d = d') :
    Proj.turned p C S n d = Proj.turned p' C S n d' := by
  rw [funext h, hd]

theorem keyValue_eq : val_main_v128 (F := Ideal) x0 x1 x2 x3 x4 x5 = fun i => Proj.keyValue x0 x1 x2 x3 x4 x5 (i 0) (i 1) := by
  funext i
  idx_vars i
  unfold Proj.keyValue
  pointwise [val_main_v128, val_main_v124, val_main_v120, val_main_v121, val_main_v122, val_main_v123]
  by_cases h : i1.val < 256
  · rw [if_pos h]
    by_cases h1 : i1.val < 128
    · rw [dif_pos h1]
      refine (k_at x0 x1 x2 x3 x4 x5 i0 _).trans (turned_congr (fun d => congrArg _ (Fin.ext ?_)) (Fin.ext ?_)) <;> dsimp only <;> omega
    rw [dif_neg h1]
    by_cases h2 : i1.val < 192
    · rw [dif_pos (by omega)]
      refine (k_at x0 x1 x2 x3 x4 x5 i0 _).trans (turned_congr (fun d => congrArg _ (Fin.ext ?_)) (Fin.ext ?_)) <;> dsimp only <;> omega
    · rw [dif_neg (by omega), dif_pos (by omega)]
      refine (k_at x0 x1 x2 x3 x4 x5 i0 _).trans (turned_congr (fun d => congrArg _ (Fin.ext ?_)) (Fin.ext ?_)) <;> dsimp only <;> omega
  · rw [if_neg h, dif_neg (by omega), dif_neg (by omega), dif_neg (by omega)]
    by_cases h1 : i1.val < 384
    · rw [dif_pos (by omega)]
      exact (v_at x0 x1 x2 x3 i0 _).trans (congrArg _ (Fin.ext (by dsimp only; omega)))
    rw [dif_neg (by omega)]
    by_cases h2 : i1.val < 448
    · rw [dif_pos (by omega)]
      exact (v_at x0 x1 x2 x3 i0 _).trans (congrArg _ (Fin.ext (by dsimp only; omega)))
    · rw [dif_neg (by omega)]
      exact (v_at x0 x1 x2 x3 i0 _).trans (congrArg _ (Fin.ext (by dsimp only; omega)))

theorem gated_eq : val_main_v135 (F := Ideal) x0 x1 x2 x3 = fun i => Proj.gated x0 x1 x2 x3 (i 0) (i 1) := by
  funext i
  idx_vars i
  pointwise [val_main_v135, val_main_v134, val_main_v133, val_main_v132, val_main_v131, val_main_v130, val_main_v129, val_main_v126, val_main_v125, val_main_cst_8, val_main_cst_9, Proj.gated]
  rw [u_at, u_at]
  exact congrArg (fun z => Proj.product x0 x1 x2 x3 i0 _ * Ideal.logistic (Proj.product x0 x1 x2 x3 i0 z)) (Fin.ext (by dsimp only; omega))

end Cert.Reference6Ideal.Point

end
-- ==== Proof.Proj0Equation.lean ====
/- The claims about the projection before the mixers of the first layer. -/
module

public import proofs.«01_k».proof.Defs
public import proofs.«01_k».proof.Proof.Proj0Array
public import proofs.«01_k».proof.Proof.Proj0Reference
public import proofs.«01_k».proof.Proof.Gen.Reference6Ideal.Run
public import Idealize.ShloMosaic.Lib.Claim

@[expose] public section

set_option maxRecDepth 16384

noncomputable section

namespace Cert.Proj0

open Idealize.ShloMosaic Idealize.SL.Sem

/-- The reference leaves its arguments as they were. -/
theorem reference_frame :
    Cert.quiescent_Reference6Ideal (hReference6Ideal := Cert.Reference6Ideal.Gen.facts) := by
  intro m g _
  exact (θ_run _ _ _).mono (fun r h => ⟨fun c => (h c).2.2.2, sem_eq_zero_of_no_sems (by decide) r.2⟩)
    (Cert.Reference6Ideal.Value.run m g)

open Cert.Kernel6Ideal Cert.Kernel6Ideal.Gen in
/-- The kernel ends with the three arrays and its arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v33_0) = (dats m 0 c).arrAt 5 (cfgs 0).N
      ∧ r.2.mem ((c.tc : Thread nD τ).loc main_v33_1) = (dats m 0 c).arrAt 6 (cfgs 0).N
      ∧ r.2.mem ((c.tc : Thread nD τ).loc main_v33_2) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m g) (unchanged m g)) fun _ h c => ⟨(h.1 c).1 5, (h.1 c).1 6, (h.1 c).1 7, h.2 c⟩

/-- From the same arguments both programs end with the same result. -/
theorem algebraic : Cert.algebraic_Kernel6Ideal_Reference6Ideal (hKernel6Ideal := Cert.Kernel6Ideal.Gen.facts) (hReference6Ideal := Cert.Reference6Ideal.Gen.facts) := by
  intro m g m' g' _ hagree
  refine ⟨_, _, _, kernel_run m g, ?_⟩
  refine θ_run_mono (Cert.Reference6Ideal.Value.run m' g') fun r h c => ?_
  obtain ⟨r0, r1, r2, hr⟩ := h c
  obtain ⟨h0, h1, h2, h3, h4, h5⟩ := hagree c
  refine ⟨r0.trans ?_, r1.trans ?_, r2.trans ?_, hr⟩
  · refine (Cert.Reference6Ideal.Read.val_main_v127_eq m' c).trans ?_
    rw [h0, h1, h2, h3, h4, h5]
    exact (Cert.Reference6Ideal.Point.query_eq _ _ _ _ _ _).trans (Cert.Kernel6Ideal.Point.final5 m c).symm
  · refine (Cert.Reference6Ideal.Read.val_main_v128_eq m' c).trans ?_
    rw [h0, h1, h2, h3, h4, h5]
    exact (Cert.Reference6Ideal.Point.keyValue_eq _ _ _ _ _ _).trans (Cert.Kernel6Ideal.Point.final6 m c).symm
  · refine (Cert.Reference6Ideal.Read.val_main_v135_eq m' c).trans ?_
    rw [h0, h1, h2, h3]
    exact (Cert.Reference6Ideal.Point.gated_eq _ _ _ _).trans (Cert.Kernel6Ideal.Point.final7 m c).symm

end Cert.Proj0

end
-- ==== Proof.Proj1Math.lean ====
/- The projection before the latent attention, written on rows of numbers: the two low-rank normalised rows, and what the
   attention takes from them: 256-wide queries and keys of eight heads, and values stored transposed. -/
module

public import proofs.«01_k».proof.Proof.ProjMath

@[expose] public section

set_option maxRecDepth 16384

noncomputable section

namespace Cert.Proj

open Idealize.ShloMosaic

/-- A row of 256 normalised and scaled by `g`. -/
def low (v g : Fin 256 → EReal) (k : Fin 256) : EReal :=
  v k * Ideal.rsqrt (Ideal.div (∑ k, v k * v k) (Ideal.ofBits .f32 0x43800000#32) + Ideal.ofBits .f32 0x358637BD#32) * g k

/-- The queries' scale times log₂ e. -/
def latentScale : EReal := Ideal.ofBits .f32 0x3DD53B95#32

theorem latentScale_nonneg : 0 ≤ latentScale := by
  unfold latentScale
  simp [Ideal.ofBits, Ideal.ieee, -EReal.coe_mul]

theorem latentScale_ne_top : latentScale ≠ ⊤ := by
  unfold latentScale
  simp [Ideal.ofBits, Ideal.ieee, -EReal.coe_mul]

/-- The scale goes through a sum. -/
theorem sum_scale (f : Fin 256 → EReal) : (∑ k, f k) * latentScale = ∑ k, f k * latentScale := by
  have h : ∀ s : Finset (Fin 256), (∑ k ∈ s, f k) * latentScale = ∑ k ∈ s, f k * latentScale := by
    intro s
    induction s using Finset.induction with
    | empty => rw [Finset.sum_empty, Finset.sum_empty, zero_mul]
    | insert a s ha ih =>
      rw [Finset.sum_insert ha, Finset.sum_insert ha, EReal.right_distrib_of_nonneg_of_ne_top latentScale_nonneg latentScale_ne_top, ih]
  exact h _

/-- The kernel scales the queries' norm weights, which scales the queries. -/
theorem low_scale (v g w : Fin 256 → EReal) : (∑ k, low v (fun k => g k * latentScale) k * w k) = (∑ k, low v g k * w k) * latentScale := by
  rw [sum_scale]
  refine Finset.sum_congr rfl fun k _ => ?_
  unfold low
  rw [← mul_assoc, mul_assoc _ latentScale, mul_comm latentScale, ← mul_assoc]

theorem turned_scale (p : Fin 64 → EReal) (C S : FVec Ideal ⟨2, ![2048, 64]⟩ .f32) (n : Fin 36864) (d : Fin 64) :
    turned (fun d => p d * latentScale) C S n d = turned p C S n d * latentScale := by
  unfold turned roped
  by_cases h : n.val < 32768
  · rw [if_pos h, if_pos h, EReal.right_distrib_of_nonneg_of_ne_top latentScale_nonneg latentScale_ne_top]
    by_cases h' : d.val % 32 < 16
    · rw [dif_pos h', dif_pos h', ← neg_mul, mul_assoc, mul_comm latentScale, ← mul_assoc, mul_assoc _ latentScale, mul_comm latentScale, ← mul_assoc]
    · rw [dif_neg h', dif_neg h', mul_assoc, mul_comm latentScale, ← mul_assoc, mul_assoc _ latentScale, mul_comm latentScale, ← mul_assoc]
  · rw [if_neg h, if_neg h]

/-- The turn of zeros is zero. -/
theorem turned_zero (C S : FVec Ideal ⟨2, ![2048, 64]⟩ .f32) (n : Fin 36864) (d : Fin 64) : turned (fun _ => 0) C S n d = 0 := by
  unfold turned roped
  by_cases h : n.val < 32768
  · rw [if_pos h, zero_mul, zero_add]
    by_cases h' : d.val % 32 < 16
    · rw [dif_pos h', neg_zero, zero_mul]
    · rw [dif_neg h', zero_mul]
  · rw [if_neg h]

/-- A turn by its parts. -/
theorem turned_same {p p' : Fin 64 → EReal} {C S : FVec Ideal ⟨2, ![2048, 64]⟩ .f32} {n : Fin 36864} {d d' : Fin 64} (h : ∀ d, p d = p' d) (hd : d = d') :
    turned p C S n d = turned p' C S n d' := by
  rw [funext h, hd]

section Latent

variable (X : FVec Ideal ⟨2, ![36864, 1024]⟩ .f32) (M : FVec Ideal ⟨3, ![17, 9, 1024]⟩ .f32) (G : FVec Ideal ⟨2, ![3, 1024]⟩ .f32)
  (Dq : FVec Ideal ⟨2, ![1024, 256]⟩ .f32) (gq : FVec Ideal ⟨1, ![256]⟩ .f32) (Uq : FVec Ideal ⟨2, ![256, 1536]⟩ .f32)
  (Dkv : FVec Ideal ⟨2, ![1024, 320]⟩ .f32) (gkv : FVec Ideal ⟨1, ![256]⟩ .f32) (Uk Uv : FVec Ideal ⟨2, ![256, 1024]⟩ .f32)
  (C S : FVec Ideal ⟨2, ![2048, 64]⟩ .f32)

/-- The queries' low-rank row. -/
def downQuery (n : Fin 36864) (k : Fin 256) : EReal := ∑ i, entering X M G n i * Dq (ix2 i k)

/-- The keys' and values' low-rank row, and the key that all heads share. -/
def downKey (n : Fin 36864) (j : Fin 320) : EReal := ∑ i, entering X M G n i * Dkv (ix2 i j)

def upQuery (n : Fin 36864) (j : Fin 1536) : EReal := ∑ k, low (downQuery X M G Dq n) (fun k => gq (ix1 k)) k * Uq (ix2 k j)

/-- A product of the keys' and values' normalised row. -/
def upKey (W : FVec Ideal ⟨2, ![256, 1024]⟩ .f32) (n : Fin 36864) (j : Fin 1024) : EReal :=
  ∑ k, low (fun k => downKey X M G Dkv n ⟨k.val, by omega⟩) (fun k => gkv (ix1 k)) k * W (ix2 k j)

/-- Column `c` of the queries: in each head 128 plain numbers, 64 turned ones and 64 zeros. -/
def latentQuery (n : Fin 36864) (c : Fin 2048) : EReal :=
  if h : c.val % 256 < 128 then upQuery X M G Dq gq Uq n ⟨c.val / 256 * 192 + c.val % 256, by omega⟩ * latentScale
  else if h' : c.val % 256 < 192 then turned (fun d => upQuery X M G Dq gq Uq n ⟨c.val / 256 * 192 + 128 + d.val, by omega⟩) C S n ⟨c.val % 256 - 128, by omega⟩ * latentScale
  else 0

/-- Column `c` of the keys. -/
def latentKey (n : Fin 36864) (c : Fin 2048) : EReal :=
  if h : c.val % 256 < 128 then upKey X M G Dkv gkv Uk n ⟨c.val / 256 * 128 + c.val % 256, by omega⟩
  else if h' : c.val % 256 < 192 then turned (fun d => downKey X M G Dkv n ⟨256 + d.val, by omega⟩) C S n ⟨c.val % 256 - 128, by omega⟩
  else 0

/-- A number of each of the products with the kernel's padded weights. -/
def paddedQuery (n : Fin 36864) (j : Fin 2048) : EReal :=
  if h : j.val % 256 < 192 then upQuery X M G Dq gq Uq n ⟨j.val / 256 * 192 + j.val % 256, by omega⟩ * latentScale else 0

def paddedKey (n : Fin 36864) (l : Fin 128) : EReal := if h : l.val < 64 then downKey X M G Dkv n ⟨256 + l.val, by omega⟩ else 0

theorem query_plain (n : Fin 36864) (c : Fin 2048) (h : c.val / 128 % 2 = 0) : paddedQuery X M G Dq gq Uq n c = latentQuery X M G Dq gq Uq C S n c := by
  unfold paddedQuery latentQuery
  rw [dif_pos (by omega), dif_pos (by omega)]

theorem query_turned (n : Fin 36864) (c : Fin 2048) (h : c.val / 128 % 2 = 1) :
    turned (fun d => paddedQuery X M G Dq gq Uq n ⟨c.val / 64 * 64 + d.val, by omega⟩) C S n ⟨c.val % 64, by omega⟩ = latentQuery X M G Dq gq Uq C S n c := by
  unfold latentQuery
  rw [dif_neg (by omega)]
  by_cases h' : c.val % 256 < 192
  · rw [dif_pos h', ← turned_scale]
    refine turned_same (fun d => ?_) (Fin.ext (by dsimp only; omega))
    unfold paddedQuery
    rw [dif_pos (by dsimp only; omega)]
    refine congrArg (fun z => upQuery X M G Dq gq Uq n z * latentScale) (Fin.ext ?_)
    dsimp only
    omega
  · rw [dif_neg h']
    refine (turned_same (fun d => ?_) rfl).trans (turned_zero C S n _)
    unfold paddedQuery
    rw [dif_neg (by dsimp only; omega)]

theorem key_plain (n : Fin 36864) (c : Fin 2048) (h : c.val / 128 % 2 = 0) (j : Fin 1024) (hj : j.val = c.val / 256 * 128 + c.val % 128) :
    upKey X M G Dkv gkv Uk n j = latentKey X M G Dkv gkv Uk C S n c := by
  unfold latentKey
  rw [dif_pos (by omega)]
  exact congrArg _ (Fin.ext (by dsimp only; omega))

theorem key_turned (n : Fin 36864) (c : Fin 2048) (h : c.val / 128 % 2 = 1) :
    turned (fun d => paddedKey X M G Dkv n ⟨c.val % 128 / 64 * 64 + d.val, by omega⟩) C S n ⟨c.val % 64, by omega⟩ = latentKey X M G Dkv gkv Uk C S n c := by
  unfold latentKey
  rw [dif_neg (by omega)]
  by_cases h' : c.val % 256 < 192
  · rw [dif_pos h']
    refine turned_same (fun d => ?_) (Fin.ext (by dsimp only; omega))
    unfold paddedKey
    rw [dif_pos (by dsimp only; omega)]
    exact congrArg _ (Fin.ext (by dsimp only; omega))
  · rw [dif_neg h']
    refine (turned_same (fun d => ?_) rfl).trans (turned_zero C S n _)
    unfold paddedKey
    rw [dif_neg (by dsimp only; omega)]

end Latent

end Cert.Proj

end
-- ==== Proof.Proj1Point.lean ====
/- What the projection before the latent attention stores for one row of its tile. -/
module

public import proofs.«01_k».proof.Proof.Proj1Math
public import proofs.«01_k».proof.Proof.Gen.Kernel7Ideal.Frame
public import Idealize.ShloMosaic.Lib.Pipeline.ValueKit.Tiles
public import Idealize.ShloMosaic.Lib.Claim

@[expose] public section

set_option maxRecDepth 16384
set_option maxHeartbeats 1000000

noncomputable section

namespace Cert.Kernel7Ideal.Point

open Idealize.ShloMosaic Idealize.ShloMosaic.TcCoe Idealize.SL.Sem
open Cert.Kernel7Ideal Cert.Kernel7Ideal.Gen

variable (x0 : FVec Ideal S512x1024 .f32) (x1 : FVec Ideal S1x9x1024 .f32) (x2 : FVec Ideal S3x1024 .f32)
  (x3 : FVec Ideal S1024x640 .bf16) (x4 x5 : FVec Ideal S1x256 .f32) (x6 : FVec Ideal S256x2048 .bf16) (x7 : FVec Ideal S256x1024 .bf16)
  (x8 : FVec Ideal S1024x256 .bf16) (x9 : FVec Ideal S512x384 .f32)

/-- What enters the mixers, from the blocks. -/
abbrev E (r : Fin 512) : Fin 1024 → EReal :=
  Ffn.normed (fun k => x0 (ix2 r k)) (fun k => x2 (ix2 1 k)) (fun k => x1 (ix3 0 4 k)) (fun k => x1 (ix3 0 3 k))

/-- Its product with column `j` of the joined weights. -/
abbrev D (r : Fin 512) (j : Fin 640) : EReal := ∑ k, E x0 x1 x2 r k * x3 (ix2 k j)

/-- The queries before the turn. -/
abbrev Q (r : Fin 512) (j : Fin 2048) : EReal :=
  ∑ k, Proj.low (fun k => D x0 x1 x2 x3 r ⟨k.val, by omega⟩) (fun k => x4 (ix2 0 k) * Proj.latentScale) k * x6 (ix2 k j)

/-- The normalised row of keys and values. -/
abbrev N (r : Fin 512) : Fin 256 → EReal := Proj.low (fun k => D x0 x1 x2 x3 r ⟨256 + k.val, by omega⟩) (fun k => x5 (ix2 0 k))

/-- The turn of 128 lanes. -/
abbrev L (r : Fin 512) (v : Fin 128 → EReal) : Fin 128 → EReal :=
  Proj.laned v (fun l => x9 (ix2 r ⟨l.val, by omega⟩)) (fun l => x9 (ix2 r ⟨128 + l.val, by omega⟩)) (fun l => x9 (ix2 r ⟨256 + l.val, by omega⟩))

theorem d_at (r : Fin 512) (j : Fin 640) : k0_pay37 (F := Ideal) x0 x1 x2 x3 x4 x5 x6 x7 x8 x9 (ix2 r j) = D x0 x1 x2 x3 r j := by
  unfold k0_pay37
  pointwise [k0_pay3, D, E, Ffn.normed, Ffn.rinv]

theorem n_at (r : Fin 512) (k : Fin 256) : k0_pay41 (F := Ideal) x0 x1 x2 x3 x4 x5 x6 x7 x8 x9 (ix2 r k) = N x0 x1 x2 x3 x5 r k := by
  unfold k0_pay41
  generalize hp : k0_pay37 (F := Ideal) x0 x1 x2 x3 x4 x5 x6 x7 x8 x9 = p
  have h : ∀ j, p (ix2 r j) = D x0 x1 x2 x3 r j := fun j => by rw [← hp]; exact d_at x0 x1 x2 x3 x4 x5 x6 x7 x8 x9 r j
  refine Eq.trans (b := Proj.low (fun k => p (ix2 r ⟨256 + k.val, by omega⟩)) (fun k => x5 (ix2 0 k)) k) ?_ ?_
  · pointwise [k0_pay9, Proj.low]
  · unfold N
    congr 1
    funext k
    exact h _

theorem low_congr {v v' g g' : Fin 256 → EReal} (h : ∀ k, v k = v' k) (h' : ∀ k, g k = g' k) : Proj.low v g = Proj.low v' g' := by
  rw [funext h, funext h']

theorem q_at (r : Fin 512) (j : Fin 2048) : k0_pay43 (F := Ideal) x0 x1 x2 x3 x4 x5 x6 x7 x8 x9 (ix2 r j) = Q x0 x1 x2 x3 x4 x6 r j := by
  have h : ∀ k, k0_pay7 (F := Ideal) (View.ld x1 r0_0) (View.ld x0 r0_1) (View.ld x2 r0_2) (View.ld x3 r0_3) (ix2 r k) = D x0 x1 x2 x3 r ⟨k.val, by omega⟩ := by
    intro k
    pointwise [k0_pay7, k0_pay3, D, E, Ffn.normed, Ffn.rinv]
  unfold k0_pay43
  generalize k0_pay7 (F := Ideal) (View.ld x1 r0_0) (View.ld x0 r0_1) (View.ld x2 r0_2) (View.ld x3 r0_3) = p at h
  refine Eq.trans (b := ∑ k, Proj.low (fun k => p (ix2 r k)) (fun k => x4 (ix2 0 k) * Proj.latentScale) k * x6 (ix2 k j)) ?_ ?_
  · pointwise [k0_pay11, k0_pay8, Proj.low, Proj.latentScale]
  · rw [low_congr h fun _ => rfl]

theorem u_at (r : Fin 512) (j : Fin 1024) : k0_pay45 (F := Ideal) x0 x1 x2 x3 x4 x5 x6 x7 x8 x9 (ix2 r j) = ∑ k, N x0 x1 x2 x3 x5 r k * x7 (ix2 k j) := by
  unfold k0_pay45
  refine Eq.trans (b := ∑ k, k0_pay41 (F := Ideal) x0 x1 x2 x3 x4 x5 x6 x7 x8 x9 (ix2 r k) * x7 (ix2 k j)) ?_ ?_
  · generalize k0_pay41 (F := Ideal) x0 x1 x2 x3 x4 x5 x6 x7 x8 x9 = p
    pointwise [k0_pay13, k0_pay44, k0_pay12]
  · exact Finset.sum_congr rfl fun k _ => congrArg (· * _) (n_at x0 x1 x2 x3 x4 x5 x6 x7 x8 x9 r k)

theorem c_at (r : Fin 512) (l : Fin 128) : k0_pay38 (F := Ideal) x0 x1 x2 x3 x4 x5 x6 x7 x8 x9 (ix2 r l) = x9 (ix2 r ⟨l.val, by omega⟩) := by
  unfold k0_pay38
  pointwise [k0_pay4]

theorem s_at (r : Fin 512) (l : Fin 128) : k0_pay39 (F := Ideal) x0 x1 x2 x3 x4 x5 x6 x7 x8 x9 (ix2 r l) = x9 (ix2 r ⟨128 + l.val, by omega⟩) := by
  unfold k0_pay39
  pointwise [k0_pay5]

theorem t_at (r : Fin 512) (l : Fin 128) : k0_pay40 (F := Ideal) x0 x1 x2 x3 x4 x5 x6 x7 x8 x9 (ix2 r l) = x9 (ix2 r ⟨256 + l.val, by omega⟩) := by
  unfold k0_pay40
  pointwise [k0_pay6]

theorem k_at (r : Fin 512) (l : Fin 128) : k0_pay42 (F := Ideal) x0 x1 x2 x3 x4 x5 x6 x7 x8 x9 (ix2 r l)
    = L x9 r (fun l => D x0 x1 x2 x3 r ⟨512 + l.val, by omega⟩) l := by
  have hd := d_at x0 x1 x2 x3 x4 x5 x6 x7 x8 x9 r
  have hc := c_at x0 x1 x2 x3 x4 x5 x6 x7 x8 x9 r
  have hs := s_at x0 x1 x2 x3 x4 x5 x6 x7 x8 x9 r
  have ht := t_at x0 x1 x2 x3 x4 x5 x6 x7 x8 x9 r
  unfold k0_pay42
  generalize k0_pay37 (F := Ideal) x0 x1 x2 x3 x4 x5 x6 x7 x8 x9 = p at hd
  generalize k0_pay38 (F := Ideal) x0 x1 x2 x3 x4 x5 x6 x7 x8 x9 = a at hc
  generalize k0_pay39 (F := Ideal) x0 x1 x2 x3 x4 x5 x6 x7 x8 x9 = b at hs
  generalize k0_pay40 (F := Ideal) x0 x1 x2 x3 x4 x5 x6 x7 x8 x9 = d at ht
  refine Eq.trans (b := Proj.laned (fun l => p (ix2 r ⟨512 + l.val, by omega⟩)) (fun l => a (ix2 r l)) (fun l => b (ix2 r l)) (fun l => d (ix2 r l)) l) ?_ ?_
  · pointwise [k0_pay10, Proj.laned]
  · exact Proj.laned_congr (fun l => hd _) hc hs ht rfl

/-- A row of the queries' block. -/
def queryRow (r : Fin 512) (c : Fin 2048) : EReal :=
  if c.val / 128 % 2 = 0 then Q x0 x1 x2 x3 x4 x6 r c
  else L x9 r (fun l => Q x0 x1 x2 x3 x4 x6 r ⟨c.val / 128 * 128 + l.val, by omega⟩) ⟨c.val % 128, by omega⟩

/-- A row of the keys' block. -/
def keyRow (r : Fin 512) (c : Fin 2048) : EReal :=
  if c.val / 128 % 2 = 0 then ∑ k, N x0 x1 x2 x3 x5 r k * x7 (ix2 k ⟨c.val / 256 * 128 + c.val % 128, by omega⟩)
  else L x9 r (fun l => D x0 x1 x2 x3 r ⟨512 + l.val, by omega⟩) ⟨c.val % 128, by omega⟩

theorem query_even (r : Fin 512) (c : Fin 2048) (h : c.val / 128 % 2 = 0) : queryRow x0 x1 x2 x3 x4 x6 x9 r c = Q x0 x1 x2 x3 x4 x6 r c := if_pos h

theorem query_odd (r : Fin 512) (c : Fin 2048) (h : c.val / 128 % 2 = 1) (p : FVec Ideal S512x2048 .f32) (a b d : FVec Ideal S512x128 .f32) (l : Fin 128)
    (f : Fin 128 → Fin 2048) (hf : ∀ l, (f l).val = c.val / 128 * 128 + l.val) (hl : l.val = c.val % 128)
    (hp : ∀ j, p (ix2 r j) = Q x0 x1 x2 x3 x4 x6 r j) (hc : ∀ l, a (ix2 r l) = x9 (ix2 r ⟨l.val, by omega⟩))
    (hs : ∀ l, b (ix2 r l) = x9 (ix2 r ⟨128 + l.val, by omega⟩)) (ht : ∀ l, d (ix2 r l) = x9 (ix2 r ⟨256 + l.val, by omega⟩)) :
    Proj.laned (fun l => p (ix2 r (f l))) (fun l => a (ix2 r l)) (fun l => b (ix2 r l)) (fun l => d (ix2 r l)) l = queryRow x0 x1 x2 x3 x4 x6 x9 r c := by
  unfold queryRow
  rw [if_neg (by omega)]
  refine Proj.laned_congr (fun l => ?_) hc hs ht (Fin.ext hl)
  rw [hp]
  exact congrArg _ (Fin.ext (hf l))

theorem out10_at (r : Fin 512) (c : Fin 2048) : out0_10 (F := Ideal) x0 x1 x2 x3 x4 x5 x6 x7 x8 x9 (ix2 r c) = queryRow x0 x1 x2 x3 x4 x6 x9 r c := by
  have hq := q_at x0 x1 x2 x3 x4 x5 x6 x7 x8 x9 r
  have hc := c_at x0 x1 x2 x3 x4 x5 x6 x7 x8 x9 r
  have hs := s_at x0 x1 x2 x3 x4 x5 x6 x7 x8 x9 r
  have ht := t_at x0 x1 x2 x3 x4 x5 x6 x7 x8 x9 r
  unfold out0_10
  generalize k0_pay43 (F := Ideal) x0 x1 x2 x3 x4 x5 x6 x7 x8 x9 = p at hq ⊢
  generalize k0_pay38 (F := Ideal) x0 x1 x2 x3 x4 x5 x6 x7 x8 x9 = a at hc ⊢
  generalize k0_pay39 (F := Ideal) x0 x1 x2 x3 x4 x5 x6 x7 x8 x9 = b at hs ⊢
  generalize k0_pay40 (F := Ideal) x0 x1 x2 x3 x4 x5 x6 x7 x8 x9 = d at ht ⊢
  canon_tiles y h
  · idx_vars y
    obtain rfl : r = y0 := Fin.ext h0
    refine Eq.trans ?_ (query_odd x0 x1 x2 x3 x4 x6 x9 r c (by omega) p a b d y1 (fun l => ⟨1920 + l.val, by omega⟩) (fun l => by dsimp only; omega) (by omega) hq hc hs ht)
    pointwise [k0_pay36, Proj.laned]
  · idx_vars y
    obtain rfl : r = y0 := Fin.ext h0
    refine Eq.trans (b := p (ix2 r ⟨1792 + y1.val, by omega⟩)) ?_ ?_
    · pointwise [k0_pay35]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨1664 + l.val, by omega⟩) (fun l => by dsimp only; omega) (by omega) hq hc hs ht)
    pointwise [k0_pay33, Proj.laned]
  · idx_vars y
    obtain rfl : r = y0 := Fin.ext h0
    refine Eq.trans (b := p (ix2 r ⟨1536 + y1.val, by omega⟩)) ?_ ?_
    · pointwise [k0_pay32]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨1408 + l.val, by omega⟩) (fun l => by dsimp only; omega) (by omega) hq hc hs ht)
    pointwise [k0_pay30, Proj.laned]
  · idx_vars y
    obtain rfl : r = y0 := Fin.ext h0
    refine Eq.trans (b := p (ix2 r ⟨1280 + y1.val, by omega⟩)) ?_ ?_
    · pointwise [k0_pay29]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨1152 + l.val, by omega⟩) (fun l => by dsimp only; omega) (by omega) hq hc hs ht)
    pointwise [k0_pay27, Proj.laned]
  · idx_vars y
    obtain rfl : r = y0 := Fin.ext h0
    refine Eq.trans (b := p (ix2 r ⟨1024 + y1.val, by omega⟩)) ?_ ?_
    · pointwise [k0_pay26]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨896 + l.val, by omega⟩) (fun l => by dsimp only; omega) (by omega) hq hc hs ht)
    pointwise [k0_pay24, Proj.laned]
  · idx_vars y
    obtain rfl : r = y0 := Fin.ext h0
    refine Eq.trans (b := p (ix2 r ⟨768 + y1.val, by omega⟩)) ?_ ?_
    · pointwise [k0_pay23]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨640 + l.val, by omega⟩) (fun l => by dsimp only; omega) (by omega) hq hc hs ht)
    pointwise [k0_pay21, Proj.laned]
  · idx_vars y
    obtain rfl : r = y0 := Fin.ext h0
    refine Eq.trans (b := p (ix2 r ⟨512 + y1.val, by omega⟩)) ?_ ?_
    · pointwise [k0_pay20]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨384 + l.val, by omega⟩) (fun l => by dsimp only; omega) (by omega) hq hc hs ht)
    pointwise [k0_pay18, Proj.laned]
  · idx_vars y
    obtain rfl : r = y0 := Fin.ext h0
    refine Eq.trans (b := p (ix2 r ⟨256 + y1.val, by omega⟩)) ?_ ?_
    · pointwise [k0_pay17]
    · rw [hq, query_even _ _ _ _ _ _ _ _ _ (by omega)]
      exact congrArg _ (Fin.ext h1.symm)
  · idx_vars y
    obtain rfl : r = y0 := Fin.ext h0
    refine Eq.trans ?_ (query_odd x0 x1 x2 x3 x4 x6 x9 r c (by omega) p a b d y1 (fun l => ⟨128 + l.val, by omega⟩) (fun l => by dsimp only; omega) (by omega) hq hc hs ht)
    pointwise [k0_pay15, Proj.laned]
  · idx_vars y
    obtain rfl : r = y0 := Fin.ext h0
    refine Eq.trans (b := p (ix2 r ⟨y1.val, by omega⟩)) ?_ ?_
    · pointwise [k0_pay14]
    · rw [hq, query_even _ _ _ _ _ _ _ _ _ (by omega)]
      exact congrArg _ (Fin.ext h1.symm)

theorem key_even (r : Fin 512) (c : Fin 2048) (h : c.val / 128 % 2 = 0) (j : Fin 1024) (hj : j.val = c.val / 256 * 128 + c.val % 128) :
    (∑ k, N x0 x1 x2 x3 x5 r k * x7 (ix2 k j)) = keyRow x0 x1 x2 x3 x5 x7 x9 r c := by
  unfold keyRow
  rw [if_pos h]
  exact Finset.sum_congr rfl fun k _ => congrArg (fun j => _ * x7 (ix2 k j)) (Fin.ext hj)

theorem key_odd (r : Fin 512) (c : Fin 2048) (h : c.val / 128 % 2 = 1) (l : Fin 128) (hl : l.val = c.val % 128) :
    L x9 r (fun l => D x0 x1 x2 x3 r ⟨512 + l.val, by omega⟩) l = keyRow x0 x1 x2 x3 x5 x7 x9 r c := by
  unfold keyRow
  rw [if_neg (by omega)]
  exact congrArg _ (Fin.ext hl)

theorem out11_at (r : Fin 512) (c : Fin 2048) : out0_11 (F := Ideal) x0 x1 x2 x3 x4 x5 x6 x7 x8 x9 (ix2 r c) = keyRow x0 x1 x2 x3 x5 x7 x9 r c := by
  have hu := u_at x0 x1 x2 x3 x4 x5 x6 x7 x8 x9 r
  have hk := k_at x0 x1 x2 x3 x4 x5 x6 x7 x8 x9 r
  have hn := n_at x0 x1 x2 x3 x4 x5 x6 x7 x8 x9 r
  unfold out0_11
  generalize k0_pay45 (F := Ideal) x0 x1 x2 x3 x4 x5 x6 x7 x8 x9 = p at hu ⊢
  generalize k0_pay42 (F := Ideal) x0 x1 x2 x3 x4 x5 x6 x7 x8 x9 = q at hk ⊢
  generalize k0_pay41 (F := Ideal) x0 x1 x2 x3 x4 x5 x6 x7 x8 x9 = e at hn ⊢
  canon_tiles y h
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := p (ix2 r ⟨896 + y1.val, by omega⟩)) ?_ ((hu _).trans (key_even x0 x1 x2 x3 x5 x7 x9 r c (by omega) _ (by dsimp only; omega)))
    pointwise [k0_pay1]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := p (ix2 r ⟨768 + y1.val, by omega⟩)) ?_ ((hu _).trans (key_even x0 x1 x2 x3 x5 x7 x9 r c (by omega) _ (by dsimp only; omega)))
    pointwise [k0_pay34]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := p (ix2 r ⟨640 + y1.val, by omega⟩)) ?_ ((hu _).trans (key_even x0 x1 x2 x3 x5 x7 x9 r c (by omega) _ (by dsimp only; omega)))
    pointwise [k0_pay31]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := p (ix2 r ⟨512 + y1.val, by omega⟩)) ?_ ((hu _).trans (key_even x0 x1 x2 x3 x5 x7 x9 r c (by omega) _ (by dsimp only; omega)))
    pointwise [k0_pay28]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := p (ix2 r ⟨384 + y1.val, by omega⟩)) ?_ ((hu _).trans (key_even x0 x1 x2 x3 x5 x7 x9 r c (by omega) _ (by dsimp only; omega)))
    pointwise [k0_pay25]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := p (ix2 r ⟨256 + y1.val, by omega⟩)) ?_ ((hu _).trans (key_even x0 x1 x2 x3 x5 x7 x9 r c (by omega) _ (by dsimp only; omega)))
    pointwise [k0_pay22]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := ∑ k, e (ix2 r k) * x7 (ix2 k ⟨128 + y1.val, by omega⟩)) ?_ (Eq.trans (Finset.sum_congr rfl fun k _ => congrArg (· * _) (hn k)) (key_even x0 x1 x2 x3 x5 x7 x9 r c (by omega) _ (by dsimp only; omega)))
    pointwise [k0_pay19, k0_pay13, k0_pay44, k0_pay12]
  · idx_vars y
    obtain rfl : r = y0 := Fin.ext h0
    exact (hk y1).trans (key_odd x0 x1 x2 x3 x5 x7 x9 r c (by omega) y1 (by omega))
  · idx_vars y
    obtain rfl : r = y0 := Fin.ext h0
    refine Eq.trans (b := ∑ k, e (ix2 r k) * x7 (ix2 k ⟨y1.val, by omega⟩)) ?_ (Eq.trans (Finset.sum_congr rfl fun k _ => congrArg (· * _) (hn k)) (key_even x0 x1 x2 x3 x5 x7 x9 r c (by omega) _ (by dsimp only; omega)))
    pointwise [k0_pay16, k0_pay13, k0_pay44, k0_pay12]

theorem out12_at (j : Fin 1024) (r : Fin 512) : out0_12 (F := Ideal) x0 x1 x2 x3 x4 x5 x6 x7 x8 x9 (ix2 j r) = ∑ k, N x0 x1 x2 x3 x5 r k * x8 (ix2 j k) := by
  have hn := n_at x0 x1 x2 x3 x4 x5 x6 x7 x8 x9 r
  unfold out0_12
  generalize k0_pay41 (F := Ideal) x0 x1 x2 x3 x4 x5 x6 x7 x8 x9 = e at hn ⊢
  canon_tiles y h
  idx_vars y
  obtain rfl : j = y0 := Fin.ext h0
  obtain rfl : r = y1 := Fin.ext h1
  refine Eq.trans (b := ∑ k, x8 (ix2 j k) * e (ix2 r k)) ?_ (Finset.sum_congr rfl fun k _ => (congrArg (_ * ·) (hn k)).trans (mul_comm _ _))
  pointwise [k0_pay2]

end Cert.Kernel7Ideal.Point

end
-- ==== Proof.Proj1Tables.lean ====
/- What the host computes before the projection of the latent attention: the joined and the padded weights, and the table of the
   rotary turn. -/
module

public import proofs.«01_k».proof.Proof.ProjMath
public import proofs.«01_k».proof.Proof.Gen.Kernel7Ideal.Frame
public import Idealize.ShloMosaic.Lib.StableHlo.ReadAt

@[expose] public section

set_option maxRecDepth 16384
set_option maxHeartbeats 400000

noncomputable section

namespace Cert.Kernel7Ideal.Tables

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

theorem zero_at : (constant S_ .f32 0#32 : FVec Ideal S_ .f32) ix0 = 0 := by pointwise

/-- The table of the turn: a latent row's is its position's, a context row's leaves the lanes alone. -/
theorem table_at (r : Fin 2560) (j : Fin 384) (n : Fin 36864) (e : n.val < 32768 ∧ r.val = n.val % 2048 ∨ ¬ n.val < 32768 ∧ 2048 ≤ r.val) :
    (show FVec Ideal S2560x384 .f32 from V m c main_v32) (ix2 r j)
      = Proj.table (m ((c : Thread nD τ).loc main_arg10)) (m ((c : Thread nD τ).loc main_arg11)) n j := by
  show V m c main_v32 _ = _
  unfold V Proj.table
  after_reads_at
  obtain ⟨hn, hr⟩ | ⟨hn, hr⟩ := e
  · rw [if_pos hn, dif_pos (by omega)]
    have er : (⟨r.val, by omega⟩ : Fin 2048) = ⟨n.val % 2048, by omega⟩ := Fin.ext hr
    by_cases h1 : j.val < 128
    · rw [if_pos h1, dif_pos h1]
      after_reads_at
      rw [er]
    rw [if_neg h1, dif_neg h1]
    by_cases h2 : j.val < 256
    · rw [if_pos h2, dif_pos (by omega)]
      after_reads_at
      refine (Proj.select_mask ⟨(j.val - 128) % 64, by omega⟩ _ _).trans ?_
      have e : (j.val - 128) % 64 = j.val % 64 := by omega
      have e' : j.val % 64 % 32 = j.val % 32 := by omega
      simp only [e, e', er, id_eq, zero_at]
    · rw [if_neg h2, dif_neg (by omega)]
      after_reads_at
      refine (Proj.select_mask ⟨(j.val - 128 - 128) % 64, by omega⟩ _ _).trans ?_
      have e : (j.val - 128 - 128) % 64 = j.val % 64 := by omega
      have e' : j.val % 64 % 32 = j.val % 32 := by omega
      simp only [e, e', er, id_eq, zero_at]
  · rw [if_neg hn, dif_neg (by omega)]
    by_cases h1 : j.val < 128
    · rw [if_pos h1, dif_pos h1]
      after_reads_at
    · rw [if_neg h1, dif_neg h1]
      after_reads_at

theorem joined_query (k : Fin 1024) (j : Fin 640) (h : j.val < 256) :
    (show FVec Ideal S1024x640 .bf16 from V m c main_v2) (ix2 k j) = m ((c : Thread nD τ).loc main_arg3) (ix2 k ⟨j.val, h⟩) := by
  show V m c main_v2 _ = _
  unfold V
  after_reads_at
  rw [dif_pos h]
  after_reads_at

theorem joined_key (k : Fin 1024) (j : Fin 640) (h : 256 ≤ j.val) (h' : j.val < 576) :
    (show FVec Ideal S1024x640 .bf16 from V m c main_v2) (ix2 k j) = m ((c : Thread nD τ).loc main_arg6) (ix2 k ⟨j.val - 256, by omega⟩) := by
  show V m c main_v2 _ = _
  unfold V
  after_reads_at
  rw [dif_neg (by omega), dif_pos (by omega)]
  after_reads_at

theorem joined_zero (k : Fin 1024) (j : Fin 640) (h : 576 ≤ j.val) :
    (show FVec Ideal S1024x640 .bf16 from V m c main_v2) (ix2 k j) = (0 : EReal) := by
  show V m c main_v2 _ = _
  unfold V
  after_reads_at
  rw [dif_neg (by omega), dif_neg (by omega)]
  after_reads_at

theorem gq_at (k : Fin 256) : (show FVec Ideal S1x256 .f32 from V m c main_v6) (ix2 0 k) = m ((c : Thread nD τ).loc main_arg4) (ix1 k) := by
  show V m c main_v6 _ = _
  unfold V
  after_reads_at

theorem gkv_at (k : Fin 256) : (show FVec Ideal S1x256 .f32 from V m c main_v7) (ix2 0 k) = m ((c : Thread nD τ).loc main_arg7) (ix1 k) := by
  show V m c main_v7 _ = _
  unfold V
  after_reads_at

theorem wk_at (k : Fin 256) (j : Fin 1024) : (show FVec Ideal S256x1024 .bf16 from V m c main_v9) (ix2 k j) = m ((c : Thread nD τ).loc main_arg8) (ix2 k j) := by
  show V m c main_v9 _ = _
  unfold V
  after_reads_at

theorem wv_at (j : Fin 1024) (k : Fin 256) : (show FVec Ideal S1024x256 .bf16 from V m c main_v11) (ix2 j k) = m ((c : Thread nD τ).loc main_arg9) (ix2 k j) := by
  show V m c main_v11 _ = _
  unfold V
  after_reads_at

end Cert.Kernel7Ideal.Tables

end
-- ==== Proof.Proj1Weights.lean ====
/- The queries' weights as the kernel takes them: padded in each head. -/
module

public import proofs.«01_k».proof.Proof.ProjMath
public import proofs.«01_k».proof.Proof.Gen.Kernel7Ideal.Frame
public import Idealize.ShloMosaic.Lib.StableHlo.ReadAt

@[expose] public section

set_option maxRecDepth 16384
set_option maxHeartbeats 400000

noncomputable section

namespace Cert.Kernel7Ideal.Tables

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

theorem wq_at (k : Fin 256) (j : Fin 2048) (h : j.val % 256 < 192) : (show FVec Ideal S256x2048 .bf16 from V m c main_v8) (ix2 k j)
    = m ((c : Thread nD τ).loc main_arg5) (ix2 k ⟨j.val / 256 * 192 + j.val % 256, by omega⟩) := by
  show V m c main_v8 _ = _
  unfold V
  after_reads_at
  exact dif_pos ⟨by omega, h⟩

theorem wq_zero (k : Fin 256) (j : Fin 2048) (h : ¬ j.val % 256 < 192) : (show FVec Ideal S256x2048 .bf16 from V m c main_v8) (ix2 k j) = (0 : EReal) := by
  show V m c main_v8 _ = _
  unfold V
  after_reads_at
  refine (dif_neg fun e => h e.2).trans ?_
  show (((0#32).toInt : ℝ) : EReal) = 0
  simp

end Cert.Kernel7Ideal.Tables

end
-- ==== Proof.Proj1Array.lean ====
/- The arrays that the projection before the latent attention leaves. -/
module

public import proofs.«01_k».proof.Proof.Proj1Point
public import proofs.«01_k».proof.Proof.Proj1Tables
public import proofs.«01_k».proof.Proof.Proj1Weights
public import Idealize.ShloMosaic.Lib.Pipeline.ValueKit.Tiles
public import Idealize.ShloMosaic.Lib.Pipeline.ValueKit

@[expose] public section

set_option maxRecDepth 16384
set_option maxHeartbeats 1000000

noncomputable section

namespace Cert.Kernel7Ideal.Point

open Idealize.ShloMosaic Idealize.ShloMosaic.TcCoe Idealize.SL.Sem
open Cert.Kernel7Ideal Cert.Kernel7Ideal.Gen

variable (m : (ℓ : Loc nD τ sig) → Buf (Elt Ideal) ℓ)

theorem idx : ∀ t : Fin cfg0.N, win0_0.index t = ![t.val, 0] ∧ win0_1.index t = ![min (t.val / 4) 16, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![if t.val < 64 then t.val % 4 else 4, 0] ∧ win0_10.index t = ![t.val, 0]
    ∧ win0_11.index t = ![t.val, 0] ∧ win0_12.index t = ![0, t.val] ∧ t.val < 72 :=
  (by decide +kernel : ∀ t : Fin grid0.N, _)

theorem steps (t : Fin cfg0.N) : t.val < 72 := (idx t).2.2.2.2.2.2.2.2.2.2.2.2.2

theorem blk0 (c : Dev nD) (t : Fin cfg0.N) (r : Fin 512) (k : Fin 1024) (n : Fin 36864) (hn : n.val = t.val * 512 + r.val) :
    (show FVec Ideal S512x1024 .f32 from iblk m c 0 t) (ix2 r k) = (show FVec Ideal S36864x1024 .f32 from m ((c : Thread nD τ).loc main_arg0)) (ix2 n k) := by
  rw [← V_main_arg0 m c]
  show iblk m c 0 t _ = _
  blk_ext [iblk, idx t]

theorem blk1 (c : Dev nD) (t : Fin cfg0.N) (a : Fin 9) (k : Fin 1024) (b : Fin 17) (hb : b.val = min (t.val / 4) 16) :
    (show FVec Ideal S1x9x1024 .f32 from iblk m c 1 t) (ix3 0 a k) = (show FVec Ideal S17x9x1024 .f32 from m ((c : Thread nD τ).loc main_arg1)) (ix3 b a k) := by
  rw [← V_main_arg1 m c]
  show iblk m c 1 t _ = _
  blk_ext [iblk, idx t]

theorem blk2 (c : Dev nD) (t : Fin cfg0.N) (a : Fin 3) (k : Fin 1024) :
    (show FVec Ideal S3x1024 .f32 from iblk m c 2 t) (ix2 a k) = (show FVec Ideal S3x1024 .f32 from m ((c : Thread nD τ).loc main_arg2)) (ix2 a k) := by
  rw [← V_main_arg2 m c]
  show iblk m c 2 t _ = _
  blk_ext [iblk, idx t]

theorem blk3 (c : Dev nD) (t : Fin cfg0.N) (k : Fin 1024) (j : Fin 640) :
    (show FVec Ideal S1024x640 .bf16 from iblk m c 3 t) (ix2 k j) = (show FVec Ideal S1024x640 .bf16 from V m c main_v2) (ix2 k j) := by
  show iblk m c 3 t _ = V m c main_v2 _
  blk_ext [iblk, idx t]

theorem blk4 (c : Dev nD) (t : Fin cfg0.N) (k : Fin 256)  :
    (show FVec Ideal S1x256 .f32 from iblk m c 4 t) (ix2 0 k) = (show FVec Ideal S1x256 .f32 from V m c main_v6) (ix2 0 k) := by
  show iblk m c 4 t _ = V m c main_v6 _
  blk_ext [iblk, idx t]

theorem blk5 (c : Dev nD) (t : Fin cfg0.N) (k : Fin 256)  :
    (show FVec Ideal S1x256 .f32 from iblk m c 5 t) (ix2 0 k) = (show FVec Ideal S1x256 .f32 from V m c main_v7) (ix2 0 k) := by
  show iblk m c 5 t _ = V m c main_v7 _
  blk_ext [iblk, idx t]

theorem blk6 (c : Dev nD) (t : Fin cfg0.N) (k : Fin 256) (j : Fin 2048) :
    (show FVec Ideal S256x2048 .bf16 from iblk m c 6 t) (ix2 k j) = (show FVec Ideal S256x2048 .bf16 from V m c main_v8) (ix2 k j) := by
  show iblk m c 6 t _ = V m c main_v8 _
  blk_ext [iblk, idx t]

theorem blk7 (c : Dev nD) (t : Fin cfg0.N) (k : Fin 256) (j : Fin 1024) :
    (show FVec Ideal S256x1024 .bf16 from iblk m c 7 t) (ix2 k j) = (show FVec Ideal S256x1024 .bf16 from V m c main_v9) (ix2 k j) := by
  show iblk m c 7 t _ = V m c main_v9 _
  blk_ext [iblk, idx t]

theorem blk8 (c : Dev nD) (t : Fin cfg0.N) (j : Fin 1024) (k : Fin 256) :
    (show FVec Ideal S1024x256 .bf16 from iblk m c 8 t) (ix2 j k) = (show FVec Ideal S1024x256 .bf16 from V m c main_v11) (ix2 j k) := by
  show iblk m c 8 t _ = V m c main_v11 _
  blk_ext [iblk, idx t]

theorem blk9 (c : Dev nD) (t : Fin cfg0.N) (r : Fin 512) (j : Fin 384) (n : Fin 36864) (hn : n.val = t.val * 512 + r.val) :
    (show FVec Ideal S512x384 .f32 from iblk m c 9 t) (ix2 r j) = Proj.table (m ((c : Thread nD τ).loc main_arg10)) (m ((c : Thread nD τ).loc main_arg11)) n j := by
  have ht : t.val < 72 := steps t
  have e9 := (idx t).2.2.2.2.2.2.2.2.2.1
  by_cases h : t.val < 64
  · refine Eq.trans ?_ (Tables.table_at m c ⟨t.val % 4 * 512 + r.val, by omega⟩ j n (Or.inl ⟨by omega, by dsimp only; omega⟩))
    have e : win0_9.index t = ![t.val % 4, 0] := by rw [e9, if_pos h]
    show iblk m c 9 t _ = V m c main_v32 _
    blk_ext [iblk, e]
  · refine Eq.trans ?_ (Tables.table_at m c ⟨4 * 512 + r.val, by omega⟩ j n (Or.inr ⟨by omega, by dsimp only; omega⟩))
    have e : win0_9.index t = ![4, 0] := by rw [e9, if_neg h]
    show iblk m c 9 t _ = V m c main_v32 _
    blk_ext [iblk, e]

theorem entering_blk (c : Dev nD) (t : Fin cfg0.N) (r : Fin 512) (n : Fin 36864) (hn : n.val = t.val * 512 + r.val) (k : Fin 1024) :
    E (iblk m c 0 t) (iblk m c 1 t) (iblk m c 2 t) r k = Proj.entering (m ((c : Thread nD τ).loc main_arg0)) (m ((c : Thread nD τ).loc main_arg1)) (m ((c : Thread nD τ).loc main_arg2)) n k := by
  have ht : t.val < 72 := steps t
  have hb : (Ffn.modRow n).val = min (t.val / 4) 16 := by dsimp only [Ffn.modRow]; omega
  exact congrFun (Proj.normed_congr (funext fun k => blk0 m c t r k n hn) (funext fun k => blk2 m c t 1 k) (funext fun k => blk1 m c t 4 k _ hb)
    (funext fun k => blk1 m c t 3 k _ hb)) k

theorem down_query (c : Dev nD) (t : Fin cfg0.N) (r : Fin 512) (n : Fin 36864) (hn : n.val = t.val * 512 + r.val) (j : Fin 640) (k : Fin 256) (h : j.val = k.val) :
    D (iblk m c 0 t) (iblk m c 1 t) (iblk m c 2 t) (iblk m c 3 t) r j = Proj.downQuery (m ((c : Thread nD τ).loc main_arg0)) (m ((c : Thread nD τ).loc main_arg1)) (m ((c : Thread nD τ).loc main_arg2)) (m ((c : Thread nD τ).loc main_arg3)) n k := by
  obtain rfl : j = ⟨k.val, by clear h; omega⟩ := Fin.ext h
  exact Finset.sum_congr rfl fun i _ => congrArg₂ (· * ·) (entering_blk m c t r n hn i) ((blk3 m c t i _).trans (Tables.joined_query m c i _ k.isLt))

theorem down_key (c : Dev nD) (t : Fin cfg0.N) (r : Fin 512) (n : Fin 36864) (hn : n.val = t.val * 512 + r.val) (j : Fin 640) (k : Fin 320) (h : j.val = 256 + k.val) :
    D (iblk m c 0 t) (iblk m c 1 t) (iblk m c 2 t) (iblk m c 3 t) r j = Proj.downKey (m ((c : Thread nD τ).loc main_arg0)) (m ((c : Thread nD τ).loc main_arg1)) (m ((c : Thread nD τ).loc main_arg2)) (m ((c : Thread nD τ).loc main_arg6)) n k := by
  exact Finset.sum_congr rfl fun i _ => congrArg₂ (· * ·) (entering_blk m c t r n hn i) ((blk3 m c t i j).trans ((Tables.joined_key m c i j (by omega) (by omega)).trans
    (congrArg (fun k => (show FVec Ideal S1024x320 .f32 from m ((c : Thread nD τ).loc main_arg6)) (ix2 i k)) (Fin.ext (by dsimp only; omega)))))

theorem down_zero (c : Dev nD) (t : Fin cfg0.N) (r : Fin 512) (j : Fin 640) (h : 576 ≤ j.val) :
    D (iblk m c 0 t) (iblk m c 1 t) (iblk m c 2 t) (iblk m c 3 t) r j = 0 :=
  Finset.sum_eq_zero fun i _ => (congrArg (_ * ·) ((blk3 m c t i j).trans (Tables.joined_zero m c i j h))).trans (mul_zero _)

theorem padded_key (c : Dev nD) (t : Fin cfg0.N) (r : Fin 512) (n : Fin 36864) (hn : n.val = t.val * 512 + r.val) (l : Fin 128) :
    D (iblk m c 0 t) (iblk m c 1 t) (iblk m c 2 t) (iblk m c 3 t) r ⟨512 + l.val, by omega⟩ = Proj.paddedKey (m ((c : Thread nD τ).loc main_arg0)) (m ((c : Thread nD τ).loc main_arg1)) (m ((c : Thread nD τ).loc main_arg2)) (m ((c : Thread nD τ).loc main_arg6)) n l := by
  unfold Proj.paddedKey
  by_cases h : l.val < 64
  · rw [dif_pos h]
    exact down_key m c t r n hn _ _ (by dsimp only; omega)
  · rw [dif_neg h]
    exact down_zero m c t r _ (by dsimp only; omega)

theorem padded_query (c : Dev nD) (t : Fin cfg0.N) (r : Fin 512) (n : Fin 36864) (hn : n.val = t.val * 512 + r.val) (j : Fin 2048) :
    Q (iblk m c 0 t) (iblk m c 1 t) (iblk m c 2 t) (iblk m c 3 t) (iblk m c 4 t) (iblk m c 6 t) r j
      = Proj.paddedQuery (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n j := by
  unfold Proj.paddedQuery Q
  have e : Proj.low (fun k => D (iblk m c 0 t) (iblk m c 1 t) (iblk m c 2 t) (iblk m c 3 t) r ⟨k.val, by omega⟩)
        (fun k => (show FVec Ideal S1x256 .f32 from iblk m c 4 t) (ix2 0 k) * Proj.latentScale)
      = Proj.low (Proj.downQuery (m ((c : Thread nD τ).loc main_arg0)) (m ((c : Thread nD τ).loc main_arg1)) (m ((c : Thread nD τ).loc main_arg2)) (m ((c : Thread nD τ).loc main_arg3)) n)
        (fun k => (show FVec Ideal S256 .f32 from m ((c : Thread nD τ).loc main_arg4)) (ix1 k) * Proj.latentScale) :=
    low_congr (fun k => down_query m c t r n hn _ _ rfl) fun k => congrArg (· * _) ((blk4 m c t k).trans (Tables.gq_at m c k))
  by_cases h : j.val % 256 < 192
  · rw [dif_pos h]
    unfold Proj.upQuery
    rw [← Proj.low_scale]
    exact Finset.sum_congr rfl fun k _ => congrArg₂ (· * ·) (congrFun e k) ((blk6 m c t k j).trans (Tables.wq_at m c k j h))
  · rw [dif_neg h]
    exact Finset.sum_eq_zero fun k _ => (congrArg (_ * ·) ((blk6 m c t k j).trans (Tables.wq_zero m c k j h))).trans (mul_zero _)

theorem normed_key (c : Dev nD) (t : Fin cfg0.N) (r : Fin 512) (n : Fin 36864) (hn : n.val = t.val * 512 + r.val) (k : Fin 256) :
    N (iblk m c 0 t) (iblk m c 1 t) (iblk m c 2 t) (iblk m c 3 t) (iblk m c 5 t) r k
      = Proj.low (fun k => Proj.downKey (m ((c : Thread nD τ).loc main_arg0)) (m ((c : Thread nD τ).loc main_arg1)) (m ((c : Thread nD τ).loc main_arg2)) (m ((c : Thread nD τ).loc main_arg6)) n ⟨k.val, by omega⟩)
        (fun k => (show FVec Ideal S256 .f32 from m ((c : Thread nD τ).loc main_arg7)) (ix1 k)) k :=
  congrFun (low_congr (fun k => down_key m c t r n hn _ _ rfl) fun k => (blk5 m c t k).trans (Tables.gkv_at m c k)) k

theorem lanes_blk (c : Dev nD) (t : Fin cfg0.N) (r : Fin 512) (v : Fin 128 → EReal) (l : Fin 128) (n : Fin 36864) (hn : n.val = t.val * 512 + r.val) :
    L (iblk m c 9 t) r v l = Proj.turned (fun d => v ⟨l.val / 64 * 64 + d.val, by omega⟩) (m ((c : Thread nD τ).loc main_arg10)) (m ((c : Thread nD τ).loc main_arg11)) n ⟨l.val % 64, by omega⟩ :=
  (Proj.laned_congr (fun _ => rfl) (fun l => blk9 m c t r _ n hn) (fun l => blk9 m c t r _ n hn) (fun l => blk9 m c t r _ n hn) rfl).trans
    (Proj.laned_table v _ _ n l)

theorem query_blk (c : Dev nD) (t : Fin cfg0.N) (r : Fin 512) (j : Fin 2048) (n : Fin 36864) (hn : n.val = t.val * 512 + r.val) :
    queryRow (iblk m c 0 t) (iblk m c 1 t) (iblk m c 2 t) (iblk m c 3 t) (iblk m c 4 t) (iblk m c 6 t) (iblk m c 9 t) r j
      = Proj.latentQuery (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) n j := by
  unfold queryRow
  by_cases h : j.val / 128 % 2 = 0
  · rw [if_pos h, ← Proj.query_plain _ _ _ _ _ _ _ _ n j h]
    exact padded_query m c t r n hn j
  · rw [if_neg h, ← Proj.query_turned _ _ _ _ _ _ _ _ n j (by omega)]
    refine (lanes_blk m c t r _ _ n hn).trans (Proj.turned_same (fun d => (padded_query m c t r n hn _).trans (congrArg _ (Fin.ext ?_))) (Fin.ext ?_)) <;> dsimp only <;> omega

theorem up_key (c : Dev nD) (t : Fin cfg0.N) (r : Fin 512) (j : Fin 1024) (n : Fin 36864) (hn : n.val = t.val * 512 + r.val)
    (w : Fin 256 → EReal) (W : FVec Ideal S256x1024 .f32) (hw : ∀ k, w k = W (ix2 k j)) :
    (∑ k, N (iblk m c 0 t) (iblk m c 1 t) (iblk m c 2 t) (iblk m c 3 t) (iblk m c 5 t) r k * w k) = Proj.upKey (m ((c : Thread nD τ).loc main_arg0)) (m ((c : Thread nD τ).loc main_arg1)) (m ((c : Thread nD τ).loc main_arg2)) (m ((c : Thread nD τ).loc main_arg6)) (m ((c : Thread nD τ).loc main_arg7)) W n j :=
  Finset.sum_congr rfl fun k _ => congrArg₂ (· * ·) (normed_key m c t r n hn k) (hw k)

theorem key_blk (c : Dev nD) (t : Fin cfg0.N) (r : Fin 512) (j : Fin 2048) (n : Fin 36864) (hn : n.val = t.val * 512 + r.val) :
    keyRow (iblk m c 0 t) (iblk m c 1 t) (iblk m c 2 t) (iblk m c 3 t) (iblk m c 5 t) (iblk m c 7 t) (iblk m c 9 t) r j
      = Proj.latentKey (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11)) n j := by
  unfold keyRow
  by_cases h : j.val / 128 % 2 = 0
  · rw [if_pos h]
    refine (up_key m c t r _ n hn _ _ fun k => (blk7 m c t k _).trans (Tables.wk_at m c k _)).trans (Proj.key_plain _ _ _ _ _ _ _ _ n j h _ rfl)
  · rw [if_neg h, ← Proj.key_turned _ _ _ _ _ _ _ _ n j (by omega)]
    refine (lanes_blk m c t r _ _ n hn).trans (Proj.turned_same (fun d => (padded_key m c t r n hn _).trans (congrArg _ (Fin.ext ?_))) (Fin.ext ?_)) <;> dsimp only <;> omega

theorem final10 (c : Dev nD) : (dats m 0 c).arrAt 10 (cfgs 0).N
    = fun i => Proj.latentQuery (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (i 0) (i 1) := by
  refine (dats m 0 c).arrAt_eq_of_covers 10 _ (by decide +kernel) fun t _ y => ?_
  blk_simp
  rw [after0_10]
  idx_vars y
  have ht : t.val < 72 := steps t
  refine (out10_at _ _ _ _ _ _ _ _ _ _ y0 y1).trans ?_
  have hr : t.val * 512 + y0.val < 36864 := by have := y0.isLt; omega
  have e0 : (((View.whole main_v33_0).slice (win0_10.rect t)).emb (ix2 y0 y1) 0 : Fin 36864) = ⟨t.val * 512 + y0.val, hr⟩ := by
    apply Fin.ext; blk_simp [idx t]
  have e1 : (((View.whole main_v33_0).slice (win0_10.rect t)).emb (ix2 y0 y1) 1 : Fin 2048) = y1 := by
    apply Fin.ext; blk_simp [idx t]
  refine Eq.trans ?_ (congrArg₂ (Proj.latentQuery (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))) e0 e1).symm
  exact query_blk m c t y0 y1 ⟨_, hr⟩ rfl

theorem final11 (c : Dev nD) : (dats m 0 c).arrAt 11 (cfgs 0).N
    = fun i => Proj.latentKey (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11)) (i 0) (i 1) := by
  refine (dats m 0 c).arrAt_eq_of_covers 11 _ (by decide +kernel) fun t _ y => ?_
  blk_simp
  rw [after0_11]
  idx_vars y
  have ht : t.val < 72 := steps t
  refine (out11_at _ _ _ _ _ _ _ _ _ _ y0 y1).trans ?_
  have hr : t.val * 512 + y0.val < 36864 := by have := y0.isLt; omega
  have e0 : (((View.whole main_v33_1).slice (win0_11.rect t)).emb (ix2 y0 y1) 0 : Fin 36864) = ⟨t.val * 512 + y0.val, hr⟩ := by
    apply Fin.ext; blk_simp [idx t]
  have e1 : (((View.whole main_v33_1).slice (win0_11.rect t)).emb (ix2 y0 y1) 1 : Fin 2048) = y1 := by
    apply Fin.ext; blk_simp [idx t]
  refine Eq.trans ?_ (congrArg₂ (Proj.latentKey (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg10)) (m ((c : Thread nD τ).loc main_arg11))) e0 e1).symm
  exact key_blk m c t y0 y1 ⟨_, hr⟩ rfl

theorem final12 (c : Dev nD) : (dats m 0 c).arrAt 12 (cfgs 0).N
    = fun i => Proj.upKey (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg9)) (i 1) (i 0) := by
  refine (dats m 0 c).arrAt_eq_of_covers 12 _ (by decide +kernel) fun t _ y => ?_
  blk_simp
  rw [after0_12]
  idx_vars y
  have ht : t.val < 72 := steps t
  refine (out12_at _ _ _ _ _ _ _ _ _ _ y0 y1).trans ?_
  have hr : t.val * 512 + y1.val < 36864 := by have := y1.isLt; omega
  have e0 : (((View.whole main_v33_2).slice (win0_12.rect t)).emb (ix2 y0 y1) 0 : Fin 1024) = y0 := by
    apply Fin.ext; blk_simp [idx t]
  have e1 : (((View.whole main_v33_2).slice (win0_12.rect t)).emb (ix2 y0 y1) 1 : Fin 36864) = ⟨t.val * 512 + y1.val, hr⟩ := by
    apply Fin.ext; blk_simp [idx t]
  refine Eq.trans ?_ (congrArg₂ (Proj.upKey (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg9))) e1 e0).symm
  exact up_key m c t y1 y0 ⟨_, hr⟩ rfl _ _ fun k => (blk8 m c t y0 k).trans (Tables.wv_at m c y0 k)

end Cert.Kernel7Ideal.Point

end
-- ==== Proof.Proj1Reference.lean ====
/- What the reference of the projection before the latent attention returns. -/
module

public import proofs.«01_k».proof.Proof.Gen.Reference7Ideal.Read
public import proofs.«01_k».proof.Proof.Proj1Math
public import Idealize.ShloMosaic.Lib.Pointwise

@[expose] public section

set_option maxRecDepth 16384
set_option maxHeartbeats 1000000

noncomputable section

namespace Cert.Reference7Ideal.Point

open Idealize.ShloMosaic Idealize.ShloMosaic.TcCoe Idealize.SL.Sem
open Cert.Reference7Ideal Cert.Reference7Ideal.Read

variable (x0 : FVec Ideal S36864x1024 .f32) (x1 : FVec Ideal S17x9x1024 .f32) (x2 : FVec Ideal S3x1024 .f32) (x3 : FVec Ideal S1024x256 .f32)
  (x4 : FVec Ideal S256 .f32) (x5 : FVec Ideal S256x1536 .f32) (x6 : FVec Ideal S1024x320 .f32) (x7 : FVec Ideal S256 .f32)
  (x8 x9 : FVec Ideal S256x1024 .f32) (x10 x11 : FVec Ideal S2048x64 .f32)

theorem x_lat (b : Fin 16) (s : Fin 2048) (c : Fin 1024) (n : Fin 36864) (h : n.val = b.val * 2048 + s.val) :
    val_main_v5 (F := Ideal) x0 (ix3 b s c) = x0 (ix2 n c) := by
  obtain rfl : n = ⟨b.val * 2048 + s.val, by clear h; omega⟩ := Fin.ext h
  pointwise [val_main_v5, val_main_v4]

theorem x_ctx (b : Fin 16) (s : Fin 256) (c : Fin 1024) (n : Fin 36864) (h : n.val = 32768 + (b.val * 256 + s.val)) :
    val_main_v3 (F := Ideal) x0 (ix3 b s c) = x0 (ix2 n c) := by
  obtain rfl : n = ⟨32768 + (b.val * 256 + s.val), by clear h; omega⟩ := Fin.ext h
  pointwise [val_main_v3, val_main_v2]

theorem e_lat (b : Fin 16) (s : Fin 2048) (c : Fin 1024) (n : Fin 36864) (h : n.val = b.val * 2048 + s.val) :
    val_main_v30 (F := Ideal) x0 x1 x2 (ix3 b s c) = Proj.entering x0 x1 x2 n c := by
  have e : Ffn.modRow n = ⟨b.val, by omega⟩ := Ffn.modRow_lat _ _ _ h
  unfold Proj.entering
  rw [e]
  pointwise [val_main_v0, val_main_v1, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2, Ffn.normed, Ffn.rinv]
  simp only [x_lat x0 b s _ n h]
  rw [mul_assoc _ (x2 (ix2 1 c))]

theorem e_ctx (b : Fin 16) (s : Fin 256) (c : Fin 1024) (n : Fin 36864) (h : n.val = 32768 + (b.val * 256 + s.val)) :
    val_main_v55 (F := Ideal) x0 x1 x2 (ix3 b s c) = Proj.entering x0 x1 x2 n c := by
  have e : Ffn.modRow n = 16 := Ffn.modRow_ctx _ (by omega)
  unfold Proj.entering
  rw [e]
  pointwise [val_main_v0, val_main_v1, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_3, val_main_cst_4, val_main_cst_5, val_main_cst_6, Ffn.normed, Ffn.rinv]
  simp only [x_ctx x0 b s _ n h]
  rw [mul_assoc _ (x2 (ix2 1 c))]

theorem dq_lat (b : Fin 16) (s : Fin 2048) (k : Fin 256) (n : Fin 36864) (h : n.val = b.val * 2048 + s.val) :
    val_main_v56 (F := Ideal) x0 x1 x2 x3 (ix3 b s k) = Proj.downQuery x0 x1 x2 x3 n k := by
  pointwise [val_main_v56, Proj.downQuery]
  exact Finset.sum_congr rfl fun k _ => congrArg (· * _) (e_lat x0 x1 x2 b s k n h)

theorem dq_ctx (b : Fin 16) (s : Fin 256) (k : Fin 256) (n : Fin 36864) (h : n.val = 32768 + (b.val * 256 + s.val)) :
    val_main_v96 (F := Ideal) x0 x1 x2 x3 (ix3 b s k) = Proj.downQuery x0 x1 x2 x3 n k := by
  pointwise [val_main_v96, Proj.downQuery]
  exact Finset.sum_congr rfl fun k _ => congrArg (· * _) (e_ctx x0 x1 x2 b s k n h)

theorem lq_lat (b : Fin 16) (s : Fin 2048) (k : Fin 256) (n : Fin 36864) (h : n.val = b.val * 2048 + s.val) :
    val_main_v69 (F := Ideal) x0 x1 x2 x3 x4 (ix3 b s k) = Proj.low (Proj.downQuery x0 x1 x2 x3 n) (fun k => x4 (ix1 k)) k := by
  unfold Proj.low
  pointwise [val_main_v57, val_main_v58, val_main_v59, val_main_v60, val_main_v61, val_main_v62, val_main_v63, val_main_v64, val_main_v65, val_main_v66, val_main_v67, val_main_v68, val_main_v69, val_main_cst_7, val_main_cst_8, val_main_cst_9]
  simp only [dq_lat x0 x1 x2 x3 b s _ n h]

theorem lq_ctx (b : Fin 16) (s : Fin 256) (k : Fin 256) (n : Fin 36864) (h : n.val = 32768 + (b.val * 256 + s.val)) :
    val_main_v109 (F := Ideal) x0 x1 x2 x3 x4 (ix3 b s k) = Proj.low (Proj.downQuery x0 x1 x2 x3 n) (fun k => x4 (ix1 k)) k := by
  unfold Proj.low
  pointwise [val_main_v97, val_main_v98, val_main_v99, val_main_v100, val_main_v101, val_main_v102, val_main_v103, val_main_v104, val_main_v105, val_main_v106, val_main_v107, val_main_v108, val_main_v109, val_main_cst_11, val_main_cst_12, val_main_cst_13]
  simp only [dq_ctx x0 x1 x2 x3 b s _ n h]

theorem uq_lat (b : Fin 16) (s : Fin 2048) (j : Fin 1536) (n : Fin 36864) (h : n.val = b.val * 2048 + s.val) :
    val_main_v70 (F := Ideal) x0 x1 x2 x3 x4 x5 (ix3 b s j) = Proj.upQuery x0 x1 x2 x3 x4 x5 n j := by
  pointwise [val_main_v70, Proj.upQuery]
  exact Finset.sum_congr rfl fun k _ => congrArg (· * _) (lq_lat x0 x1 x2 x3 x4 b s k n h)

theorem uq_ctx (b : Fin 16) (s : Fin 256) (j : Fin 1536) (n : Fin 36864) (h : n.val = 32768 + (b.val * 256 + s.val)) :
    val_main_v110 (F := Ideal) x0 x1 x2 x3 x4 x5 (ix3 b s j) = Proj.upQuery x0 x1 x2 x3 x4 x5 n j := by
  pointwise [val_main_v110, Proj.upQuery]
  exact Finset.sum_congr rfl fun k _ => congrArg (· * _) (lq_ctx x0 x1 x2 x3 x4 b s k n h)

theorem dk_lat (b : Fin 16) (s : Fin 2048) (j : Fin 320) (n : Fin 36864) (h : n.val = b.val * 2048 + s.val) :
    val_main_v122 (F := Ideal) x0 x1 x2 x6 (ix3 b s j) = Proj.downKey x0 x1 x2 x6 n j := by
  pointwise [val_main_v122, Proj.downKey]
  exact Finset.sum_congr rfl fun k _ => congrArg (· * _) (e_lat x0 x1 x2 b s k n h)

theorem dk_ctx (b : Fin 16) (s : Fin 256) (j : Fin 320) (n : Fin 36864) (h : n.val = 32768 + (b.val * 256 + s.val)) :
    val_main_v164 (F := Ideal) x0 x1 x2 x6 (ix3 b s j) = Proj.downKey x0 x1 x2 x6 n j := by
  pointwise [val_main_v164, Proj.downKey]
  exact Finset.sum_congr rfl fun k _ => congrArg (· * _) (e_ctx x0 x1 x2 b s k n h)

theorem lk_lat (b : Fin 16) (s : Fin 2048) (k : Fin 256) (n : Fin 36864) (h : n.val = b.val * 2048 + s.val) :
    val_main_v136 (F := Ideal) x0 x1 x2 x6 x7 (ix3 b s k) = Proj.low (fun k => Proj.downKey x0 x1 x2 x6 n ⟨k.val, by omega⟩) (fun k => x7 (ix1 k)) k := by
  unfold Proj.low
  pointwise [val_main_v123, val_main_v124, val_main_v125, val_main_v126, val_main_v127, val_main_v128, val_main_v129, val_main_v130, val_main_v131, val_main_v132, val_main_v133, val_main_v134, val_main_v135, val_main_v136, val_main_cst_16, val_main_cst_17, val_main_cst_18]
  simp only [dk_lat x0 x1 x2 x6 b s _ n h]

theorem lk_ctx (b : Fin 16) (s : Fin 256) (k : Fin 256) (n : Fin 36864) (h : n.val = 32768 + (b.val * 256 + s.val)) :
    val_main_v178 (F := Ideal) x0 x1 x2 x6 x7 (ix3 b s k) = Proj.low (fun k => Proj.downKey x0 x1 x2 x6 n ⟨k.val, by omega⟩) (fun k => x7 (ix1 k)) k := by
  unfold Proj.low
  pointwise [val_main_v165, val_main_v166, val_main_v167, val_main_v168, val_main_v169, val_main_v170, val_main_v171, val_main_v172, val_main_v173, val_main_v174, val_main_v175, val_main_v176, val_main_v177, val_main_v178, val_main_cst_19, val_main_cst_20, val_main_cst_21]
  simp only [dk_ctx x0 x1 x2 x6 b s _ n h]

theorem uk_lat (b : Fin 16) (s : Fin 2048) (j : Fin 1024) (n : Fin 36864) (h : n.val = b.val * 2048 + s.val) :
    val_main_v158 (F := Ideal) x0 x1 x2 x6 x7 x8 (ix3 b s j) = Proj.upKey x0 x1 x2 x6 x7 x8 n j := by
  pointwise [val_main_v158, Proj.upKey]
  exact Finset.sum_congr rfl fun k _ => congrArg (· * _) (lk_lat x0 x1 x2 x6 x7 b s k n h)

theorem uk_ctx (b : Fin 16) (s : Fin 256) (j : Fin 1024) (n : Fin 36864) (h : n.val = 32768 + (b.val * 256 + s.val)) :
    val_main_v181 (F := Ideal) x0 x1 x2 x6 x7 x8 (ix3 b s j) = Proj.upKey x0 x1 x2 x6 x7 x8 n j := by
  pointwise [val_main_v181, Proj.upKey]
  exact Finset.sum_congr rfl fun k _ => congrArg (· * _) (lk_ctx x0 x1 x2 x6 x7 b s k n h)

theorem uv_lat (b : Fin 16) (s : Fin 2048) (j : Fin 1024) (n : Fin 36864) (h : n.val = b.val * 2048 + s.val) :
    val_main_v160 (F := Ideal) x0 x1 x2 x6 x7 x9 (ix3 b s j) = Proj.upKey x0 x1 x2 x6 x7 x9 n j := by
  pointwise [val_main_v160, Proj.upKey]
  exact Finset.sum_congr rfl fun k _ => congrArg (· * _) (lk_lat x0 x1 x2 x6 x7 b s k n h)

theorem uv_ctx (b : Fin 16) (s : Fin 256) (j : Fin 1024) (n : Fin 36864) (h : n.val = 32768 + (b.val * 256 + s.val)) :
    val_main_v183 (F := Ideal) x0 x1 x2 x6 x7 x9 (ix3 b s j) = Proj.upKey x0 x1 x2 x6 x7 x9 n j := by
  pointwise [val_main_v183, Proj.upKey]
  exact Finset.sum_congr rfl fun k _ => congrArg (· * _) (lk_ctx x0 x1 x2 x6 x7 b s k n h)

theorem turned_ctx (p : Fin 64 → EReal) (C S : FVec Ideal S2048x64 .f32) (n : Fin 36864) (d : Fin 64) (h : 32768 ≤ n.val) :
    Proj.turned p C S n d = p d := by
  unfold Proj.turned
  rw [if_neg (by omega)]

theorem turnq (b : Fin 16) (s : Fin 2048) (a : Fin 8) (d : Fin 64) (n : Fin 36864) (h : n.val = b.val * 2048 + s.val) :
    val_main_v83 (F := Ideal) x0 x1 x2 x3 x4 x5 (ix4 b s a d) = if h : d.val % 32 < 16 then -Proj.upQuery x0 x1 x2 x3 x4 x5 n ⟨a.val * 192 + 128 + (d.val + 16), by omega⟩
      else Proj.upQuery x0 x1 x2 x3 x4 x5 n ⟨a.val * 192 + 128 + (d.val - 16), by omega⟩ := by
  pointwise [val_main_v71, val_main_v72, val_main_v73, val_main_v74, val_main_v75, val_main_v76, val_main_v77, val_main_v78, val_main_v79, val_main_v80, val_main_v81, val_main_v82, val_main_v83]
  by_cases hd : d.val % 32 < 16
  · rw [dif_pos hd, dif_pos (by omega)]
    refine congrArg (fun z : EReal => -z) ((uq_lat x0 x1 x2 x3 x4 x5 b s _ n h).trans (congrArg _ (Fin.ext ?_)))
    dsimp only
    omega
  · rw [dif_neg hd, dif_neg (by omega)]
    refine (uq_lat x0 x1 x2 x3 x4 x5 b s _ n h).trans (congrArg _ (Fin.ext ?_))
    dsimp only
    omega

theorem ropeq (b : Fin 16) (s : Fin 2048) (a : Fin 8) (d : Fin 64) (n : Fin 36864) (h : n.val = b.val * 2048 + s.val) :
    val_main_v92 (F := Ideal) x0 x1 x2 x3 x4 x5 x10 x11 (ix4 b s a d)
      = Proj.turned (fun d => Proj.upQuery x0 x1 x2 x3 x4 x5 n ⟨a.val * 192 + 128 + d.val, by omega⟩) x10 x11 n d := by
  unfold Proj.turned Proj.roped
  have e : (⟨n.val % 2048, by omega⟩ : Fin 2048) = s := Fin.ext (by dsimp only; omega)
  rw [if_pos (by omega), e]
  pointwise [val_main_v84, val_main_v85, val_main_v86, val_main_v87, val_main_v88, val_main_v89, val_main_v90, val_main_v91, val_main_v92, val_main_v73, val_main_v71]
  rw [turnq x0 x1 x2 x3 x4 x5 b s a d n h, uq_lat x0 x1 x2 x3 x4 x5 b s _ n h]
  simp only [Nat.add_assoc]

theorem turnk (b : Fin 16) (s : Fin 2048) (d : Fin 64) (n : Fin 36864) (h : n.val = b.val * 2048 + s.val) :
    val_main_v148 (F := Ideal) x0 x1 x2 x6 (ix4 b s 0 d) = if h : d.val % 32 < 16 then -Proj.downKey x0 x1 x2 x6 n ⟨256 + (d.val + 16), by omega⟩
      else Proj.downKey x0 x1 x2 x6 n ⟨256 + (d.val - 16), by omega⟩ := by
  pointwise [val_main_v137, val_main_v138, val_main_v139, val_main_v140, val_main_v141, val_main_v142, val_main_v143, val_main_v144, val_main_v145, val_main_v146, val_main_v147, val_main_v148]
  by_cases hd : d.val % 32 < 16
  · rw [dif_pos hd, dif_pos (by omega)]
    refine congrArg (fun z : EReal => -z) ((dk_lat x0 x1 x2 x6 b s _ n h).trans (congrArg _ (Fin.ext ?_)))
    dsimp only
    omega
  · rw [dif_neg hd, dif_neg (by omega)]
    refine (dk_lat x0 x1 x2 x6 b s _ n h).trans (congrArg _ (Fin.ext ?_))
    dsimp only
    omega

theorem ropek (b : Fin 16) (s : Fin 2048) (d : Fin 64) (n : Fin 36864) (h : n.val = b.val * 2048 + s.val) :
    val_main_v157 (F := Ideal) x0 x1 x2 x6 x10 x11 (ix4 b s 0 d)
      = Proj.turned (fun d => Proj.downKey x0 x1 x2 x6 n ⟨256 + d.val, by omega⟩) x10 x11 n d := by
  unfold Proj.turned Proj.roped
  have e : (⟨n.val % 2048, by omega⟩ : Fin 2048) = s := Fin.ext (by dsimp only; omega)
  rw [if_pos (by omega), e]
  pointwise [val_main_v149, val_main_v150, val_main_v151, val_main_v152, val_main_v153, val_main_v154, val_main_v155, val_main_v156, val_main_v157, val_main_v138, val_main_v137]
  rw [turnk x0 x1 x2 x6 b s d n h, dk_lat x0 x1 x2 x6 b s _ n h]

theorem qrow_lat (b : Fin 16) (s : Fin 2048) (c : Fin 2048) (n : Fin 36864) (h : n.val = b.val * 2048 + s.val) :
    val_main_v121 (F := Ideal) x0 x1 x2 x3 x4 x5 x10 x11 (ix2 n c) = Proj.latentQuery x0 x1 x2 x3 x4 x5 x10 x11 n c := by
  unfold Proj.latentQuery
  pointwise [val_main_v121, val_main_v120, val_main_cst_15, val_main_v119]
  have e : (⟨n.val, by omega⟩ : Fin 32768) = ⟨b.val * 2048 + s.val, by omega⟩ := Fin.ext h
  rw [dif_pos (by omega), e]
  pointwise [val_main_v117, val_main_v95, val_main_v94, val_main_v93, val_main_cst_10, val_main_v72, val_main_v71]
  by_cases h1 : c.val % 256 < 128
  · rw [dif_pos h1, dif_pos (by omega), dif_pos h1]
    exact congrArg (· * _) (uq_lat x0 x1 x2 x3 x4 x5 b s _ n h)
  · rw [dif_neg h1]
    by_cases h2 : c.val % 256 < 192
    · rw [dif_pos h2, dif_pos h2, dif_neg h1]
      exact congrArg (· * _) (ropeq x0 x1 x2 x3 x4 x5 x10 x11 b s ⟨c.val / 256, by omega⟩ ⟨c.val % 256 - 128, by omega⟩ n h)
    · rw [dif_neg h2, dif_neg h2, zero_mul]

theorem qrow_ctx (b : Fin 16) (s : Fin 256) (c : Fin 2048) (n : Fin 36864) (h : n.val = 32768 + (b.val * 256 + s.val)) :
    val_main_v121 (F := Ideal) x0 x1 x2 x3 x4 x5 x10 x11 (ix2 n c) = Proj.latentQuery x0 x1 x2 x3 x4 x5 x10 x11 n c := by
  unfold Proj.latentQuery
  pointwise [val_main_v121, val_main_v120, val_main_cst_15, val_main_v119]
  have e : (⟨n.val - 32768, by omega⟩ : Fin 4096) = ⟨b.val * 256 + s.val, by omega⟩ := Fin.ext (by dsimp only; omega)
  rw [dif_neg (by omega), e]
  pointwise [val_main_v118, val_main_v116, val_main_v115, val_main_v114, val_main_cst_14, val_main_v111, val_main_v112, val_main_v113]
  by_cases h1 : c.val % 256 < 128
  · rw [dif_pos h1, dif_pos (by omega), dif_pos h1]
    exact congrArg (· * _) (uq_ctx x0 x1 x2 x3 x4 x5 b s _ n h)
  · rw [dif_neg h1]
    by_cases h2 : c.val % 256 < 192
    · rw [dif_pos h2, dif_pos h2, dif_neg h1]
      rw [turned_ctx _ _ _ _ _ (by omega)]
      refine congrArg (· * _) ((uq_ctx x0 x1 x2 x3 x4 x5 b s _ n h).trans (congrArg _ (Fin.ext ?_)))
      dsimp only
      omega
    · rw [dif_neg h2, dif_neg h2, zero_mul]

theorem krow_lat (b : Fin 16) (s : Fin 2048) (c : Fin 2048) (n : Fin 36864) (h : n.val = b.val * 2048 + s.val) :
    val_main_v194 (F := Ideal) x0 x1 x2 x6 x7 x8 x10 x11 (ix2 n c) = Proj.latentKey x0 x1 x2 x6 x7 x8 x10 x11 n c := by
  unfold Proj.latentKey
  pointwise [val_main_v194]
  have e : (⟨n.val, by omega⟩ : Fin 32768) = ⟨b.val * 2048 + s.val, by omega⟩ := Fin.ext h
  rw [dif_pos (by omega), e]
  pointwise [val_main_v192, val_main_v189, val_main_v188, val_main_cst_22, val_main_v163, val_main_v162, val_main_v159]
  by_cases h1 : c.val % 256 < 128
  · rw [dif_pos h1, dif_pos (by omega), dif_pos h1]
    exact uk_lat x0 x1 x2 x6 x7 x8 b s _ n h
  · rw [dif_neg h1]
    by_cases h2 : c.val % 256 < 192
    · rw [dif_pos h2, dif_pos h2, dif_neg h1]
      exact ropek x0 x1 x2 x6 x10 x11 b s ⟨c.val % 256 - 128, by omega⟩ n h
    · rw [dif_neg h2, dif_neg h2]

theorem krow_ctx (b : Fin 16) (s : Fin 256) (c : Fin 2048) (n : Fin 36864) (h : n.val = 32768 + (b.val * 256 + s.val)) :
    val_main_v194 (F := Ideal) x0 x1 x2 x6 x7 x8 x10 x11 (ix2 n c) = Proj.latentKey x0 x1 x2 x6 x7 x8 x10 x11 n c := by
  unfold Proj.latentKey
  pointwise [val_main_v194]
  have e : (⟨n.val - 32768, by omega⟩ : Fin 4096) = ⟨b.val * 256 + s.val, by omega⟩ := Fin.ext (by dsimp only; omega)
  rw [dif_neg (by omega), e]
  pointwise [val_main_v193, val_main_v191, val_main_v190, val_main_cst_23, val_main_v186, val_main_v185, val_main_v182, val_main_v180, val_main_v179]
  by_cases h1 : c.val % 256 < 128
  · rw [dif_pos h1, dif_pos (by omega), dif_pos h1]
    exact uk_ctx x0 x1 x2 x6 x7 x8 b s _ n h
  · by_cases h2 : c.val % 256 < 192
    · refine Eq.trans (dif_pos h2) ?_
      refine Eq.trans (dif_neg h1) ?_
      refine Eq.symm (Eq.trans (dif_neg h1) ?_)
      refine Eq.trans (dif_pos h2) ?_
      refine (turned_ctx _ _ _ _ _ (by omega)).trans ?_
      exact (dk_ctx x0 x1 x2 x6 b s _ n h).symm
    · refine Eq.trans (dif_neg h2) ?_
      refine Eq.symm (Eq.trans (dif_neg h1) ?_)
      exact dif_neg h2

theorem vrow_lat (b : Fin 16) (s : Fin 2048) (c : Fin 1024) (n : Fin 36864) (h : n.val = b.val * 2048 + s.val) :
    val_main_v198 (F := Ideal) x0 x1 x2 x6 x7 x9 (ix2 n c) = Proj.upKey x0 x1 x2 x6 x7 x9 n c := by
  pointwise [val_main_v198]
  have e : (⟨n.val, by omega⟩ : Fin 32768) = ⟨b.val * 2048 + s.val, by omega⟩ := Fin.ext h
  rw [dif_pos (by omega), e]
  pointwise [val_main_v196, val_main_v161]
  exact uv_lat x0 x1 x2 x6 x7 x9 b s _ n h

theorem vrow_ctx (b : Fin 16) (s : Fin 256) (c : Fin 1024) (n : Fin 36864) (h : n.val = 32768 + (b.val * 256 + s.val)) :
    val_main_v198 (F := Ideal) x0 x1 x2 x6 x7 x9 (ix2 n c) = Proj.upKey x0 x1 x2 x6 x7 x9 n c := by
  pointwise [val_main_v198]
  have e : (⟨n.val - 32768, by omega⟩ : Fin 4096) = ⟨b.val * 256 + s.val, by omega⟩ := Fin.ext (by dsimp only; omega)
  rw [dif_neg (by omega), e]
  pointwise [val_main_v197, val_main_v184]
  exact uv_ctx x0 x1 x2 x6 x7 x9 b s _ n h

/-- A row of the stream is a latent row or a context row. -/
theorem rows (n : Fin 36864) : (∃ (b : Fin 16) (s : Fin 2048), n.val = b.val * 2048 + s.val)
    ∨ ∃ (b : Fin 16) (s : Fin 256), n.val = 32768 + (b.val * 256 + s.val) := by
  rcases lt_or_ge n.val 32768 with h | h
  · exact .inl ⟨⟨n.val / 2048, by omega⟩, ⟨n.val % 2048, by omega⟩, by dsimp only; omega⟩
  · exact .inr ⟨⟨(n.val - 32768) / 256, by omega⟩, ⟨(n.val - 32768) % 256, by omega⟩, by dsimp only; omega⟩

theorem query_eq : val_main_v187 (F := Ideal) x0 x1 x2 x3 x4 x5 x10 x11 = fun i => Proj.latentQuery x0 x1 x2 x3 x4 x5 x10 x11 (i 0) (i 1) := by
  funext i
  idx_vars i
  pointwise [val_main_v187]
  rcases rows i0 with ⟨b, s, h⟩ | ⟨b, s, h⟩
  · exact qrow_lat x0 x1 x2 x3 x4 x5 x10 x11 b s i1 i0 h
  · exact qrow_ctx x0 x1 x2 x3 x4 x5 x10 x11 b s i1 i0 h

theorem key_eq : val_main_v195 (F := Ideal) x0 x1 x2 x6 x7 x8 x10 x11 = fun i => Proj.latentKey x0 x1 x2 x6 x7 x8 x10 x11 (i 0) (i 1) := by
  funext i
  idx_vars i
  pointwise [val_main_v195]
  rcases rows i0 with ⟨b, s, h⟩ | ⟨b, s, h⟩
  · exact krow_lat x0 x1 x2 x6 x7 x8 x10 x11 b s i1 i0 h
  · exact krow_ctx x0 x1 x2 x6 x7 x8 x10 x11 b s i1 i0 h

theorem value_eq : val_main_v200 (F := Ideal) x0 x1 x2 x6 x7 x9 = fun i => Proj.upKey x0 x1 x2 x6 x7 x9 (i 1) (i 0) := by
  funext i
  idx_vars i
  pointwise [val_main_v200, val_main_v199]
  rcases rows i1 with ⟨b, s, h⟩ | ⟨b, s, h⟩
  · exact vrow_lat x0 x1 x2 x6 x7 x9 b s i0 i1 h
  · exact vrow_ctx x0 x1 x2 x6 x7 x9 b s i0 i1 h

end Cert.Reference7Ideal.Point

end
-- ==== Proof.Proj1Equation.lean ====
/- The claims about the projection before the latent attention. -/
module

public import proofs.«01_k».proof.Defs
public import proofs.«01_k».proof.Proof.Proj1Array
public import proofs.«01_k».proof.Proof.Proj1Reference
public import proofs.«01_k».proof.Proof.Gen.Reference7Ideal.Run
public import Idealize.ShloMosaic.Lib.Claim

@[expose] public section

set_option maxRecDepth 16384
set_option maxHeartbeats 1000000

noncomputable section

namespace Cert.Proj1

open Idealize.ShloMosaic Idealize.SL.Sem

/-- The reference leaves its arguments as they were. -/
theorem reference_frame :
    Cert.quiescent_Reference7Ideal (hReference7Ideal := Cert.Reference7Ideal.Gen.facts) := by
  intro m g _
  exact (θ_run _ _ _).mono (fun r h => ⟨fun c => (h c).2.2.2, sem_eq_zero_of_no_sems (by decide) r.2⟩)
    (Cert.Reference7Ideal.Value.run m g)

open Cert.Kernel7Ideal Cert.Kernel7Ideal.Gen in
/-- The kernel ends with the three arrays and its arguments as they were. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v33_0) = (dats m 0 c).arrAt 10 (cfgs 0).N
      ∧ r.2.mem ((c.tc : Thread nD τ).loc main_v33_1) = (dats m 0 c).arrAt 11 (cfgs 0).N
      ∧ r.2.mem ((c.tc : Thread nD τ).loc main_v33_2) = (dats m 0 c).arrAt 12 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  θ_run_mono (θ_run_and (run_main m g) (unchanged m g)) fun _ h c => ⟨(h.1 c).1 10, (h.1 c).1 11, (h.1 c).1 12, h.2 c⟩

/-- From the same arguments both programs end with the same result. -/
theorem algebraic : Cert.algebraic_Kernel7Ideal_Reference7Ideal (hKernel7Ideal := Cert.Kernel7Ideal.Gen.facts) (hReference7Ideal := Cert.Reference7Ideal.Gen.facts) := by
  intro m g m' g' _ hagree
  refine ⟨_, _, _, kernel_run m g, ?_⟩
  refine θ_run_mono (Cert.Reference7Ideal.Value.run m' g') fun r h c => ?_
  obtain ⟨r0, r1, r2, hr⟩ := h c
  obtain ⟨h0, h1, h2, h3, h4, h5, h6, h7, h8, h9, h10, h11⟩ := hagree c
  refine ⟨r0.trans ?_, r1.trans ?_, r2.trans ?_, hr⟩
  · refine Eq.trans (b := Cert.Reference7Ideal.Read.val_main_v187 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg11)))
      (Cert.Reference7Ideal.Read.val_main_v187_eq (StableHlo.launchContents m' c)) ?_
    rw [h0, h1, h2, h3, h4, h5, h10, h11]
    exact (Cert.Reference7Ideal.Point.query_eq _ _ _ _ _ _ _ _).trans (Cert.Kernel7Ideal.Point.final10 m c).symm
  · refine Eq.trans (b := Cert.Reference7Ideal.Read.val_main_v195 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg11)))
      (Cert.Reference7Ideal.Read.val_main_v195_eq (StableHlo.launchContents m' c)) ?_
    rw [h0, h1, h2, h6, h7, h8, h10, h11]
    exact (Cert.Reference7Ideal.Point.key_eq _ _ _ _ _ _ _ _).trans (Cert.Kernel7Ideal.Point.final11 m c).symm
  · refine Eq.trans (b := Cert.Reference7Ideal.Read.val_main_v200 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg9)))
      (Cert.Reference7Ideal.Read.val_main_v200_eq (StableHlo.launchContents m' c)) ?_
    rw [h0, h1, h2, h6, h7, h9]
    exact (Cert.Reference7Ideal.Point.value_eq _ _ _ _ _ _).trans (Cert.Kernel7Ideal.Point.final12 m c).symm

end Cert.Proj1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.FfnEquation
public import proofs.«01_k».proof.Proof.Ffn3Equation
public import proofs.«01_k».proof.Proof.Ffn4Equation
public import proofs.«01_k».proof.Proof.Ffn5Equation
public import proofs.«01_k».proof.Proof.MlaEquation
public import proofs.«01_k».proof.Proof.Proj0Equation
public import proofs.«01_k».proof.Proof.Proj1Equation
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    Cert.Mla.reference_frame,
    fun m ρ _ => Cert.Mla.reference_frame m ρ trivial,
    fun m ρ _ => Cert.Kernel2.Gen.frame m ρ,
    fun m ρ _ => Cert.Kernel2Ideal.Gen.frame m ρ,
    Cert.Ffn.reference_frame,
    fun m ρ _ => Cert.Kernel3.Gen.frame m ρ,
    fun m ρ _ => Cert.Kernel3Ideal.Gen.frame m ρ,
    Cert.Ffn3.reference_frame,
    fun m ρ _ => Cert.Kernel4.Gen.frame m ρ,
    fun m ρ _ => Cert.Kernel4Ideal.Gen.frame m ρ,
    Cert.Ffn4.reference_frame,
    fun m ρ _ => Cert.Kernel5.Gen.frame m ρ,
    fun m ρ _ => Cert.Kernel5Ideal.Gen.frame m ρ,
    Cert.Ffn5.reference_frame,
    fun m ρ _ => Cert.Kernel6.Gen.frame m ρ,
    fun m ρ _ => Cert.Kernel6Ideal.Gen.frame m ρ,
    Cert.Proj0.reference_frame,
    fun m ρ _ => Cert.Kernel7.Gen.frame m ρ,
    fun m ρ _ => Cert.Kernel7Ideal.Gen.frame m ρ,
    Cert.Proj1.reference_frame,
    trivial, trivial, trivial, trivial, trivial, trivial, trivial,
    Cert.Mla.algebraic, Cert.Ffn.algebraic, Cert.Ffn3.algebraic, Cert.Ffn4.algebraic, Cert.Ffn5.algebraic, Cert.Proj0.algebraic,
    Cert.Proj1.algebraic⟩

end Cert.Proof

end
